-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv448" .f32 0x3B124925#32 ((1 / 448 : ℝ) : EReal)
  ∧ IdealRules.named_const.Statement Cert.KernelIdeal.κ "log2e" .f32 0x3FB8AA3B#32 (((Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S4x8 : Shape := ⟨2, ![4, 8]⟩
abbrev S32 : Shape := ⟨1, ![32]⟩
abbrev S4x8192x4096 : Shape := ⟨3, ![4, 8192, 4096]⟩
abbrev S4x64x32x128 : Shape := ⟨4, ![4, 64, 32, 128]⟩
abbrev S4x8192x1024 : Shape := ⟨3, ![4, 8192, 1024]⟩
abbrev S4x8192x8 : Shape := ⟨3, ![4, 8192, 8]⟩
abbrev S4x8x128x8192 : Shape := ⟨4, ![4, 8, 128, 8192]⟩
abbrev S_ : Shape := ⟨0, ![]⟩

class Facts : Prop where
  bcast_S_S4x64x32x128 : S_.BroadcastsInDim S4x64x32x128 (![] : Fin 0 → Fin S4x64x32x128.rank)
  bcast_S_S4x8192x8 : S_.BroadcastsInDim S4x8192x8 (![] : Fin 0 → Fin S4x8192x8.rank)

variable [Facts]

def fn {F : FTy → Type} [FloatOps F] (main_arg0 : FVec F S4x8 .f32) (main_arg1 : FVec F S32 .f32) (main_arg2 : FVec F S4x8192x4096 .fp8e4m3) (main_arg3 : FVec F S4x64x32x128 .f32) (main_arg4 : FVec F S4x8192x1024 .fp8e4m3) (main_arg5 : FVec F S4x8192x8 .f32) (main_arg6 : FVec F S4x8x128x8192 .fp8e4m3) : IVec S4x64x32x128 1 × IVec S4x8192x8 1 :=
  let main_cst : FVec F S_ .f32 := constant S_ .f32 0x00000000#32
  let main_v0 : FVec F S4x64x32x128 .f32 := broadcastInDim S4x64x32x128 ![] bcast_S_S4x64x32x128 main_cst
  let main_v1 : IVec S4x64x32x128 1 := cmpf .ogt main_arg3 main_v0
  let main_cst_0 : FVec F S_ .f32 := constant S_ .f32 0x00000000#32
  let main_v2 : FVec F S4x8192x8 .f32 := broadcastInDim S4x8192x8 ![] bcast_S_S4x8192x8 main_cst_0
  let main_v3 : IVec S4x8192x8 1 := cmpf .oge main_arg5 main_v2
  (main_v1, main_v3)
-- ==== Kernel.lean ====
abbrev S4x8 : Shape := ⟨2, ![4, 8]⟩
abbrev S32 : Shape := ⟨1, ![32]⟩
abbrev S4x8192x4096 : Shape := ⟨3, ![4, 8192, 4096]⟩
abbrev S4x64x32x128 : Shape := ⟨4, ![4, 64, 32, 128]⟩
abbrev S4x8192x1024 : Shape := ⟨3, ![4, 8192, 1024]⟩
abbrev S4x8192x8 : Shape := ⟨3, ![4, 8192, 8]⟩
abbrev S4x8x128x8192 : Shape := ⟨4, ![4, 8, 128, 8192]⟩
abbrev S1x128x512 : Shape := ⟨3, ![1, 128, 512]⟩
abbrev S1x1x32x128 : Shape := ⟨4, ![1, 1, 32, 128]⟩
abbrev S1x8192x128 : Shape := ⟨3, ![1, 8192, 128]⟩
abbrev S1x8192x8 : Shape := ⟨3, ![1, 8192, 8]⟩
abbrev S1x1x128x8192 : Shape := ⟨4, ![1, 1, 128, 8192]⟩
abbrev S8192x256 : Shape := ⟨2, ![8192, 256]⟩
abbrev S8192x128 : Shape := ⟨2, ![8192, 128]⟩
abbrev S1x512x8 : Shape := ⟨3, ![1, 512, 8]⟩
abbrev S512x8 : Shape := ⟨2, ![512, 8]⟩
abbrev S512 : Shape := ⟨1, ![512]⟩
abbrev S512x1 : Shape := ⟨2, ![512, 1]⟩
abbrev S512x128 : Shape := ⟨2, ![512, 128]⟩
abbrev S1x1 : Shape := ⟨2, ![1, 1]⟩
abbrev S1x256 : Shape := ⟨2, ![1, 256]⟩
abbrev S8x256 : Shape := ⟨2, ![8, 256]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1x512x128 : Shape := ⟨3, ![1, 512, 128]⟩
abbrev S512x256 : Shape := ⟨2, ![512, 256]⟩
abbrev S64x8x256 : Shape := ⟨3, ![64, 8, 256]⟩
abbrev S1x1x1x128 : Shape := ⟨4, ![1, 1, 1, 128]⟩
abbrev S1x128 : Shape := ⟨2, ![1, 128]⟩
abbrev S1 : Shape := ⟨1, ![1]⟩
abbrev S256 : Shape := ⟨1, ![256]⟩
abbrev S1x1x128x512 : Shape := ⟨4, ![1, 1, 128, 512]⟩
abbrev S128x512 : Shape := ⟨2, ![128, 512]⟩
abbrev S1x1152x128 : Shape := ⟨3, ![1, 1152, 128]⟩
abbrev S1152x128 : Shape := ⟨2, ![1152, 128]⟩
abbrev S1152x256 : Shape := ⟨2, ![1152, 256]⟩
abbrev S1152x1 : Shape := ⟨2, ![1152, 1]⟩
abbrev S144x8x256 : Shape := ⟨3, ![144, 8, 256]⟩
abbrev S1x1x128x1152 : Shape := ⟨4, ![1, 1, 128, 1152]⟩
abbrev S128x1152 : Shape := ⟨2, ![128, 1152]⟩

abbrev nBuf : Space → Nat
  | .hbm => 8
  | .vmem => 14
  | .smem => 2
  | _ => 0

abbrev bufTy : (tb : Table) → Fin (tcTables nBuf tb) → BufTy
  | .hbm, ⟨0, _⟩ => ⟨S4x8, .f32⟩
  | .hbm, ⟨1, _⟩ => ⟨S32, .f32⟩
  | .hbm, ⟨2, _⟩ => ⟨S4x8192x4096, .fp8e4m3⟩
  | .hbm, ⟨3, _⟩ => ⟨S4x64x32x128, .f32⟩
  | .hbm, ⟨4, _⟩ => ⟨S4x8192x1024, .fp8e4m3⟩
  | .hbm, ⟨5, _⟩ => ⟨S4x8192x8, .f32⟩
  | .hbm, ⟨6, _⟩ => ⟨S4x8x128x8192, .fp8e4m3⟩
  | .hbm, ⟨7, _⟩ => ⟨S4x8192x4096, .bf16⟩
  | .local _ .vmem, ⟨0, _⟩ => ⟨S1x128x512, .fp8e4m3⟩
  | .local _ .vmem, ⟨1, _⟩ => ⟨S1x128x512, .fp8e4m3⟩
  | .local _ .vmem, ⟨2, _⟩ => ⟨S1x1x32x128, .f32⟩
  | .local _ .vmem, ⟨3, _⟩ => ⟨S1x1x32x128, .f32⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x8192x8, .f32⟩
  | .local _ .vmem, ⟨7, _⟩ => ⟨S1x8192x8, .f32⟩
  | .local _ .vmem, ⟨8, _⟩ => ⟨S1x1x128x8192, .fp8e4m3⟩
  | .local _ .vmem, ⟨9, _⟩ => ⟨S1x1x128x8192, .fp8e4m3⟩
  | .local _ .vmem, ⟨10, _⟩ => ⟨S1x128x512, .bf16⟩
  | .local _ .vmem, ⟨11, _⟩ => ⟨S1x128x512, .bf16⟩
  | .local _ .vmem, ⟨12, _⟩ => ⟨S8192x256, .f32⟩
  | .local _ .vmem, ⟨13, _⟩ => ⟨S8192x128, .f32⟩
  | .local _ .smem, ⟨0, _⟩ => ⟨S4x8, .f32⟩
  | .local _ .smem, ⟨1, _⟩ => ⟨S32, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 64], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_148 : BitVec 32 := 0#32
  let c16_i32_149 : BitVec 32 := 16#32
  let v390 : BitVec 32 := Scalar.addi c0_i32_148 c16_i32_149
  let c1_i32_150 : BitVec 32 := 1#32
  ⟨c0_i32_148, v390, c1_i32_150⟩
def k0_off1 (k0_t1 : Fin k0_t1_loop.trips) : Fin 3 → Nat :=
  let c0_153 : Index := 0#32
  let c0_i32_148 : BitVec 32 := 0#32
  let c1_i32_150 : BitVec 32 := 1#32
  let arg13 : BitVec 32 := Scf.iv c0_i32_148 c1_i32_150 k0_t1
  let c512_i32_152 : BitVec 32 := 512#32
  let v391 : BitVec 32 := Scalar.muli arg13 c512_i32_152
  let v392 : Index := Scalar.indexCast v391
  let c0_154 : Index := 0#32
  ![0, v392.toNat, 0]
def k0_off2 (k0_t1 : Fin k0_t1_loop.trips) : Fin 2 → Nat :=
  let c0_i32_148 : BitVec 32 := 0#32
  let c1_i32_150 : BitVec 32 := 1#32
  let arg13 : BitVec 32 := Scf.iv c0_i32_148 c1_i32_150 k0_t1
  let c512_i32_152 : BitVec 32 := 512#32
  let v391 : BitVec 32 := Scalar.muli arg13 c512_i32_152
  let v404 : Index := Scalar.indexCast v391
  let c0_157 : Index := 0#32
  ![v404.toNat, 0]
def k0_off3 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
def k0_mult1 (i : grid0.Coords) : BitVec 32 :=
  let arg2 : BitVec 32 := BitVec.ofNat 32 (i 2).val
  let c128_i32 : BitVec 32 := 128#32
  let v6 : BitVec 32 := Scalar.muli arg2 c128_i32
  v6
def k0_mult2 (i : grid0.Coords) : BitVec 32 :=
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c512_i32 : BitVec 32 := 512#32
  let v52 : BitVec 32 := Scalar.muli v51 c512_i32
  v52
@[reducible] def k0_t2_loop (i : grid0.Coords) : Scf.Loop 32 :=
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_20 : BitVec 32 := 1#32
  ⟨c0_i32_18, v58, c1_i32_20⟩
def k0_mult3 (i : grid0.Coords) (k0_t2 : Fin (k0_t2_loop i).trips) : BitVec 32 :=
  let c0_i32_18 : BitVec 32 := 0#32
  let c1_i32_20 : BitVec 32 := 1#32
  let arg13 : BitVec 32 := Scf.iv c0_i32_18 c1_i32_20 k0_t2
  let c512_i32_148 : BitVec 32 := 512#32
  let v390 : BitVec 32 := Scalar.muli arg13 c512_i32_148
  v390
def k0_off4 (i : grid0.Coords) (k0_t2 : Fin (k0_t2_loop i).trips) : Fin 3 → Nat :=
  let c0_149 : Index := 0#32
  let c0_i32_18 : BitVec 32 := 0#32
  let c1_i32_20 : BitVec 32 := 1#32
  let arg13 : BitVec 32 := Scf.iv c0_i32_18 c1_i32_20 k0_t2
  let c512_i32_148 : BitVec 32 := 512#32
  let v390 : BitVec 32 := Scalar.muli arg13 c512_i32_148
  let v391 : BitVec 32 := v390
  let v392 : Index := Scalar.indexCast v391
  let c0_150 : Index := 0#32
  ![0, v392.toNat, 0]
def k0_off5 (i : grid0.Coords) (k0_t2 : Fin (k0_t2_loop i).trips) : Fin 2 → Nat :=
  let c0_i32_18 : BitVec 32 := 0#32
  let c1_i32_20 : BitVec 32 := 1#32
  let arg13 : BitVec 32 := Scf.iv c0_i32_18 c1_i32_20 k0_t2
  let c512_i32_148 : BitVec 32 := 512#32
  let v390 : BitVec 32 := Scalar.muli arg13 c512_i32_148
  let v391 : BitVec 32 := v390
  let v396 : Index := Scalar.indexCast v391
  let c0_152 : Index := 0#32
  ![v396.toNat, 0]
def k0_off6 (i : grid0.Coords) (k0_t2 : Fin (k0_t2_loop i).trips) : Fin 2 → Nat :=
  let c0_i32_18 : BitVec 32 := 0#32
  let c1_i32_20 : BitVec 32 := 1#32
  let arg13 : BitVec 32 := Scf.iv c0_i32_18 c1_i32_20 k0_t2
  let c512_i32_148 : BitVec 32 := 512#32
  let v390 : BitVec 32 := Scalar.muli arg13 c512_i32_148
  let v391 : BitVec 32 := v390
  let v400 : Index := Scalar.indexCast v391
  let c0_153 : Index := 0#32
  ![v400.toNat, 0]
@[reducible] def k0_t3_loop (i : grid0.Coords) : Scf.Loop 32 :=
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let v55 : BitVec 32 := Scalar.addi c0_i32_18 v54
  let c1_i32_21 : BitVec 32 := 1#32
  ⟨v58, v55, c1_i32_21⟩
def k0_mult4 (i : grid0.Coords) (k0_t3 : Fin (k0_t3_loop i).trips) : BitVec 32 :=
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg13 : BitVec 32 := Scf.iv v58 c1_i32_21 k0_t3
  let c512_i32_148 : BitVec 32 := 512#32
  let v390 : BitVec 32 := Scalar.muli arg13 c512_i32_148
  v390
def k0_off7 (i : grid0.Coords) (k0_t3 : Fin (k0_t3_loop i).trips) : Fin 3 → Nat :=
  let c0_149 : Index := 0#32
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg13 : BitVec 32 := Scf.iv v58 c1_i32_21 k0_t3
  let c512_i32_148 : BitVec 32 := 512#32
  let v390 : BitVec 32 := Scalar.muli arg13 c512_i32_148
  let v391 : BitVec 32 := v390
  let v392 : Index := Scalar.indexCast v391
  let c0_150 : Index := 0#32
  ![0, v392.toNat, 0]
def k0_off8 (i : grid0.Coords) (k0_t3 : Fin (k0_t3_loop i).trips) : Fin 2 → Nat :=
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg13 : BitVec 32 := Scf.iv v58 c1_i32_21 k0_t3
  let c512_i32_148 : BitVec 32 := 512#32
  let v390 : BitVec 32 := Scalar.muli arg13 c512_i32_148
  let v391 : BitVec 32 := v390
  let v396 : Index := Scalar.indexCast v391
  let c0_152 : Index := 0#32
  ![v396.toNat, 0]
def k0_off9 (i : grid0.Coords) (k0_t3 : Fin (k0_t3_loop i).trips) : Fin 2 → Nat :=
  let c0_i32_18 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let v54 : BitVec 32 := Scalar.subi v51 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg13 : BitVec 32 := Scf.iv v58 c1_i32_21 k0_t3
  let c512_i32_148 : BitVec 32 := 512#32
  let v390 : BitVec 32 := Scalar.muli arg13 c512_i32_148
  let v391 : BitVec 32 := v390
  let v400 : Index := Scalar.indexCast v391
  let c0_153 : Index := 0#32
  ![v400.toNat, 0]
def k0_off10 (i : grid0.Coords) : Fin 3 → Nat :=
  let c0_22 : Index := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c512_i32 : BitVec 32 := 512#32
  let v52 : BitVec 32 := Scalar.muli v51 c512_i32
  let v53 : BitVec 32 := v52
  let v61 : Index := Scalar.indexCast v53
  let c0_23 : Index := 0#32
  ![0, v61.toNat, 0]
def k0_off11 (i : grid0.Coords) : Fin 2 → Nat :=
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c512_i32 : BitVec 32 := 512#32
  let v52 : BitVec 32 := Scalar.muli v51 c512_i32
  let v53 : BitVec 32 := v52
  let v65 : Index := Scalar.indexCast v53
  let c0_25 : Index := 0#32
  ![v65.toNat, 0]
def k0_off12 (i : grid0.Coords) : Fin 2 → Nat :=
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c512_i32 : BitVec 32 := 512#32
  let v52 : BitVec 32 := Scalar.muli v51 c512_i32
  let v53 : BitVec 32 := v52
  let v77 : Index := Scalar.indexCast v53
  let c0_27 : Index := 0#32
  ![v77.toNat, 0]
def k0_off13 (i : grid0.Coords) (c0_i32_30 : BitVec 32) (c0_i32_31 : BitVec 32) : Fin 4 → Nat :=
  let c0_32 : Index := 0#32
  let c0_33 : Index := 0#32
  let arg1 : BitVec 32 := BitVec.ofNat 32 (i 1).val
  let c4_i32_29 : BitVec 32 := 4#32
  let v84 : BitVec 32 := Scalar.muli arg1 c4_i32_29
  let v85 : BitVec 32 := Scalar.addi v84 c0_i32_30
  let v86 : BitVec 32 := Scalar.addi v85 c0_i32_31
  let v87 : Index := Scalar.indexCast v86
  let c0_34 : Index := 0#32
  ![0, 0, v87.toNat, 0]
def k0_off14 (i : grid0.Coords) (c0_i32_30 : BitVec 32) (c0_i32_31 : BitVec 32) : Fin 1 → Nat :=
  let arg1 : BitVec 32 := BitVec.ofNat 32 (i 1).val
  let c4_i32_29 : BitVec 32 := 4#32
  let v84 : BitVec 32 := Scalar.muli arg1 c4_i32_29
  let v85 : BitVec 32 := Scalar.addi v84 c0_i32_30
  let v86 : BitVec 32 := Scalar.addi v85 c0_i32_31
  let v90 : Index := Scalar.indexCast v86
  ![v90.toNat]
@[reducible] def k0_t4_loop (i : grid0.Coords) : Scf.Loop 32 :=
  let c0_i32_65 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c1_i32_64 : BitVec 32 := 1#32
  let v185 : BitVec 32 := Scalar.addi v51 c1_i32_64
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_67 : BitVec 32 := 1#32
  ⟨c0_i32_65, v190, c1_i32_67⟩
def k0_mult5 (i : grid0.Coords) (k0_t4 : Fin (k0_t4_loop i).trips) : BitVec 32 :=
  let c0_i32_65 : BitVec 32 := 0#32
  let c1_i32_67 : BitVec 32 := 1#32
  let arg13 : BitVec 32 := Scf.iv c0_i32_65 c1_i32_67 k0_t4
  let c512_i32_148 : BitVec 32 := 512#32
  let v390 : BitVec 32 := Scalar.muli arg13 c512_i32_148
  v390
def k0_off15 (i : grid0.Coords) (k0_t4 : Fin (k0_t4_loop i).trips) : Fin 2 → Nat :=
  let c0_i32_65 : BitVec 32 := 0#32
  let c1_i32_67 : BitVec 32 := 1#32
  let arg13 : BitVec 32 := Scf.iv c0_i32_65 c1_i32_67 k0_t4
  let c512_i32_148 : BitVec 32 := 512#32
  let v390 : BitVec 32 := Scalar.muli arg13 c512_i32_148
  let v391 : BitVec 32 := v390
  let v392 : Index := Scalar.indexCast v391
  let c0_149 : Index := 0#32
  ![v392.toNat, 0]
def k0_off16 (i : grid0.Coords) (k0_t4 : Fin (k0_t4_loop i).trips) : Fin 4 → Nat :=
  let c0_151 : Index := 0#32
  let c0_152 : Index := 0#32
  let c0_153 : Index := 0#32
  let c0_i32_65 : BitVec 32 := 0#32
  let c1_i32_67 : BitVec 32 := 1#32
  let arg13 : BitVec 32 := Scf.iv c0_i32_65 c1_i32_67 k0_t4
  let c512_i32_148 : BitVec 32 := 512#32
  let v390 : BitVec 32 := Scalar.muli arg13 c512_i32_148
  let v391 : BitVec 32 := v390
  let v402 : Index := Scalar.indexCast v391
  ![0, 0, 0, v402.toNat]
@[reducible] def k0_t5_loop (i : grid0.Coords) : Scf.Loop 32 :=
  let c0_i32_65 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c1_i32_64 : BitVec 32 := 1#32
  let v185 : BitVec 32 := Scalar.addi v51 c1_i32_64
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let v187 : BitVec 32 := Scalar.addi c0_i32_65 v186
  let c1_i32_68 : BitVec 32 := 1#32
  ⟨v190, v187, c1_i32_68⟩
def k0_mult6 (i : grid0.Coords) (k0_t5 : Fin (k0_t5_loop i).trips) : BitVec 32 :=
  let c0_i32_65 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c1_i32_64 : BitVec 32 := 1#32
  let v185 : BitVec 32 := Scalar.addi v51 c1_i32_64
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg13 : BitVec 32 := Scf.iv v190 c1_i32_68 k0_t5
  let c512_i32_148 : BitVec 32 := 512#32
  let v390 : BitVec 32 := Scalar.muli arg13 c512_i32_148
  v390
def k0_off17 (i : grid0.Coords) (k0_t5 : Fin (k0_t5_loop i).trips) : Fin 2 → Nat :=
  let c0_i32_65 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c1_i32_64 : BitVec 32 := 1#32
  let v185 : BitVec 32 := Scalar.addi v51 c1_i32_64
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg13 : BitVec 32 := Scf.iv v190 c1_i32_68 k0_t5
  let c512_i32_148 : BitVec 32 := 512#32
  let v390 : BitVec 32 := Scalar.muli arg13 c512_i32_148
  let v391 : BitVec 32 := v390
  let v392 : Index := Scalar.indexCast v391
  let c0_149 : Index := 0#32
  ![v392.toNat, 0]
def k0_off18 (i : grid0.Coords) (k0_t5 : Fin (k0_t5_loop i).trips) : Fin 4 → Nat :=
  let c0_151 : Index := 0#32
  let c0_152 : Index := 0#32
  let c0_153 : Index := 0#32
  let c0_i32_65 : BitVec 32 := 0#32
  let arg2 : BitVec 32 := BitVec.ofNat 32 (i 2).val
  let c0_i32_12 : BitVec 32 := 0#32
  let v36 : BitVec 1 := Scalar.cmpi .sgt arg2 c0_i32_12
  let v37 : BitVec 32 := Scalar.extui v36
  let c0_i32_13 : BitVec 32 := 0#32
  let v38 : BitVec 1 := Scalar.cmpi .slt arg2 c0_i32_13
  let v39 : BitVec 32 := Scalar.extui v38
  let v40 : BitVec 32 := Scalar.subi v37 v39
  let c4_i32 : BitVec 32 := 4#32
  let c0_i32_14 : BitVec 32 := 0#32
  let v41 : BitVec 1 := Scalar.cmpi .sgt c4_i32 c0_i32_14
  let v42 : BitVec 32 := Scalar.extui v41
  let c0_i32_15 : BitVec 32 := 0#32
  let v43 : BitVec 1 := Scalar.cmpi .slt c4_i32 c0_i32_15
  let v44 : BitVec 32 := Scalar.extui v43
  let v45 : BitVec 32 := Scalar.subi v42 v44
  let v46 : BitVec 1 := Scalar.cmpi .ne v40 v45
  let v47 : BitVec 32 := Scalar.remsi arg2 c4_i32
  let c0_i32_16 : BitVec 32 := 0#32
  let v48 : BitVec 1 := Scalar.cmpi .ne v47 c0_i32_16
  let v49 : BitVec 1 := Scalar.andi v46 v48
  let v35 : BitVec 32 := Scalar.divsi arg2 c4_i32
  let c1_i32_17 : BitVec 32 := 1#32
  let v50 : BitVec 32 := Scalar.subi v35 c1_i32_17
  let v51 : BitVec 32 := Scalar.select v49 v50 v35
  let c1_i32_64 : BitVec 32 := 1#32
  let v185 : BitVec 32 := Scalar.addi v51 c1_i32_64
  let v186 : BitVec 32 := Scalar.subi v185 c0_i32_65
  let c1_i32_66 : BitVec 32 := 1#32
  let v188 : BitVec 32 := Scalar.divsi v186 c1_i32_66
  let v189 : BitVec 32 := Scalar.muli v188 c1_i32_66
  let v190 : BitVec 32 := Scalar.addi c0_i32_65 v189
  let c1_i32_68 : BitVec 32 := 1#32
  let arg13 : BitVec 32 := Scf.iv v190 c1_i32_68 k0_t5
  let c512_i32_148 : BitVec 32 := 512#32
  let v390 : BitVec 32 := Scalar.muli arg13 c512_i32_148
  let v391 : BitVec 32 := v390
  let v402 : Index := Scalar.indexCast v391
  ![0, 0, 0, v402.toNat]
def k0_mult7 (i : grid0.Coords) : BitVec 32 :=
  let arg2 : BitVec 32 := BitVec.ofNat 32 (i 2).val
  let c8_i32_80 : BitVec 32 := 8#32
  let v219 : BitVec 32 := Scalar.subi arg2 c8_i32_80
  let c0_i32_81 : BitVec 32 := 0#32
  let v220 : BitVec 32 := Scalar.maxsi v219 c0_i32_81
  let c128_i32_82 : BitVec 32 := 128#32
  let v221 : BitVec 32 := Scalar.muli v220 c128_i32_82
  v221
def k0_off19 (i : grid0.Coords) : Fin 3 → Nat :=
  let c0_83 : Index := 0#32
  let arg2 : BitVec 32 := BitVec.ofNat 32 (i 2).val
  let c8_i32_80 : BitVec 32 := 8#32
  let v219 : BitVec 32 := Scalar.subi arg2 c8_i32_80
  let c0_i32_81 : BitVec 32 := 0#32
  let v220 : BitVec 32 := Scalar.maxsi v219 c0_i32_81
  let c128_i32_82 : BitVec 32 := 128#32
  let v221 : BitVec 32 := Scalar.muli v220 c128_i32_82
  let v222 : BitVec 32 := v221
  let v223 : Index := Scalar.indexCast v222
  let c0_84 : Index := 0#32
  ![0, v223.toNat, 0]
def k0_off20 (i : grid0.Coords) : Fin 2 → Nat :=
  let arg2 : BitVec 32 := BitVec.ofNat 32 (i 2).val
  let c8_i32_80 : BitVec 32 := 8#32
  let v219 : BitVec 32 := Scalar.subi arg2 c8_i32_80
  let c0_i32_81 : BitVec 32 := 0#32
  let v220 : BitVec 32 := Scalar.maxsi v219 c0_i32_81
  let c128_i32_82 : BitVec 32 := 128#32
  let v221 : BitVec 32 := Scalar.muli v220 c128_i32_82
  let v222 : BitVec 32 := v221
  let v227 : Index := Scalar.indexCast v222
  let c0_86 : Index := 0#32
  ![v227.toNat, 0]
def k0_off21 (i : grid0.Coords) : Fin 4 → Nat :=
  let c0_136 : Index := 0#32
  let c0_137 : Index := 0#32
  let c0_138 : Index := 0#32
  let arg2 : BitVec 32 := BitVec.ofNat 32 (i 2).val
  let c8_i32_80 : BitVec 32 := 8#32
  let v219 : BitVec 32 := Scalar.subi arg2 c8_i32_80
  let c0_i32_81 : BitVec 32 := 0#32
  let v220 : BitVec 32 := Scalar.maxsi v219 c0_i32_81
  let c128_i32_82 : BitVec 32 := 128#32
  let v221 : BitVec 32 := Scalar.muli v220 c128_i32_82
  let v222 : BitVec 32 := v221
  let v361 : Index := Scalar.indexCast v222
  ![0, 0, 0, v361.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x128x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "inv448" => some ((1 / 448 : ℝ) : EReal)
  | "log2e" => some (((Real.log 2)⁻¹ : ℝ) : EReal)
  | _ => none
-- ==== ReferenceIdeal.lean ====
abbrev S4x8 : Shape := ⟨2, ![4, 8]⟩
abbrev S32 : Shape := ⟨1, ![32]⟩
abbrev S4x8192x4096 : Shape := ⟨3, ![4, 8192, 4096]⟩
abbrev S4x64x32x128 : Shape := ⟨4, ![4, 64, 32, 128]⟩
abbrev S4x8192x1024 : Shape := ⟨3, ![4, 8192, 1024]⟩
abbrev S4x8192x8 : Shape := ⟨3, ![4, 8192, 8]⟩
abbrev S4x8x128x8192 : Shape := ⟨4, ![4, 8, 128, 8192]⟩
abbrev S4x8192x8x4x128 : Shape := ⟨5, ![4, 8192, 8, 4, 128]⟩
abbrev S4x8192x8x128 : Shape := ⟨4, ![4, 8192, 8, 128]⟩
abbrev S4x32x64x128 : Shape := ⟨4, ![4, 32, 64, 128]⟩
abbrev S4x8x4x8192 : Shape := ⟨4, ![4, 8, 4, 8192]⟩
abbrev S1x8x4x1x1 : Shape := ⟨5, ![1, 8, 4, 1, 1]⟩
abbrev S4x8x8192x8192x4 : Shape := ⟨5, ![4, 8, 8192, 8192, 4]⟩
abbrev S4x8x4x8192x8192 : Shape := ⟨5, ![4, 8, 4, 8192, 8192]⟩
abbrev S4x8x4x8192x1 : Shape := ⟨5, ![4, 8, 4, 8192, 1]⟩
abbrev S_ : Shape := ⟨0, ![]⟩
abbrev S4x8x8192 : Shape := ⟨3, ![4, 8, 8192]⟩
abbrev S4x8x1x1x8192 : Shape := ⟨5, ![4, 8, 1, 1, 8192]⟩
abbrev S4x8192x8192 : Shape := ⟨3, ![4, 8192, 8192]⟩
abbrev S1x1x4x8192x8192 : Shape := ⟨5, ![1, 1, 4, 8192, 8192]⟩
abbrev S4x8x4x8192x128 : Shape := ⟨5, ![4, 8, 4, 8192, 128]⟩
abbrev S4x8x1x1x1 : Shape := ⟨5, ![4, 8, 1, 1, 1]⟩

abbrev nBuf : Space → Nat
  | .hbm => 133
  | .vmem => 6
  | .smem => 0
  | _ => 0

abbrev hbmTy0_0 (i : Nat) : BufTy := match i % 128 with
  | 0 => ⟨S4x8, .f32⟩
  | 1 => ⟨S32, .f32⟩
  | 2 => ⟨S4x8192x4096, .fp8e4m3⟩
  | 3 => ⟨S4x64x32x128, .f32⟩
  | 4 => ⟨S4x8192x1024, .fp8e4m3⟩
  | 5 => ⟨S4x8192x8, .f32⟩
  | 6 => ⟨S4x8x128x8192, .fp8e4m3⟩
  | 7 => ⟨S4x8192x4096, .f32⟩
  | 8 => ⟨S4x8192x1024, .f32⟩
  | 9 => ⟨S4x8x128x8192, .f32⟩
  | 10 => ⟨S4x8192x8x4x128, .f32⟩
  | 11 => ⟨S4x8192x8x128, .f32⟩
  | 12 => ⟨S4x32x64x128, .f32⟩
  | 13 => ⟨S4x8x4x8192, .f32⟩
  | 14 => ⟨S1x8x4x1x1, .f32⟩
  | 15 => ⟨S4x8x8192x8192x4, .f32⟩
  | 16 => ⟨S4x8x4x8192x8192, .f32⟩
  | 17 => ⟨S4x8x4x8192x1, .f32⟩
  | 18 => ⟨S_, .f32⟩
  | 19 => ⟨S4x8x4x8192x1, .f32⟩
  | 20 => ⟨S4x8x4x8192x1, .f32⟩
  | 21 => ⟨S4x8x4x8192x8192, .f32⟩
  | 22 => ⟨S4x8x4x8192x8192, .f32⟩
  | 23 => ⟨S4x8x8192, .f32⟩
  | 24 => ⟨S4x8x1x1x8192, .f32⟩
  | 25 => ⟨S4x8x4x8192x8192, .f32⟩
  | 26 => ⟨S4x8x4x8192x8192, .f32⟩
  | 27 => ⟨S4x8192x8192, .i32⟩
  | 28 => ⟨S4x8192x8192, .i32⟩
  | 29 => ⟨S4x8192x8192, .i32⟩
  | 30 => ⟨S4x8192x8192, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S4x8192x8192, .i32⟩
  | 38 => ⟨S4x8192x8192, .i32⟩
  | 39 => ⟨S_, .i32⟩
  | 40 => ⟨S4x8192x8192, .i32⟩
  | 41 => ⟨S4x8192x8192, .i1⟩
  | 42 => ⟨S_, .i32⟩
  | 43 => ⟨S4x8192x8192, .i32⟩
  | 44 => ⟨S4x8192x8192, .i1⟩
  | 45 => ⟨S_, .i32⟩
  | 46 => ⟨S_, .i1⟩
  | 47 => ⟨S4x8192x8192, .i1⟩
  | 48 => ⟨S4x8192x8192, .i1⟩
  | 49 => ⟨S4x8192x8192, .i1⟩
  | 50 => ⟨S4x8192x8192, .i32⟩
  | 51 => ⟨S4x8192x8192, .i32⟩
  | 52 => ⟨S4x8192x8192, .i32⟩
  | 53 => ⟨S_, .i32⟩
  | 54 => ⟨S4x8192x8192, .i32⟩
  | 55 => ⟨S4x8192x8192, .i1⟩
  | 56 => ⟨S_, .i32⟩
  | 57 => ⟨S4x8192x8192, .i32⟩
  | 58 => ⟨S4x8192x8192, .i32⟩
  | 59 => ⟨S4x8192x8192, .i1⟩
  | 60 => ⟨S4x8192x8192, .i1⟩
  | 61 => ⟨S4x8192x8192, .i1⟩
  | 62 => ⟨S1x1x4x8192x8192, .i1⟩
  | 63 => ⟨S_, .f32⟩
  | 64 => ⟨S_, .f32⟩
  | 65 => ⟨S4x8x4x8192x8192, .i1⟩
  | 66 => ⟨S4x8x4x8192x8192, .f32⟩
  | 67 => ⟨S4x8x4x8192x8192, .f32⟩
  | 68 => ⟨S_, .f32⟩
  | 69 => ⟨S4x8x4x8192, .f32⟩
  | 70 => ⟨S4x8x4x8192x1, .f32⟩
  | 71 => ⟨S4x8x4x8192x1, .f32⟩
  | 72 => ⟨S4x8x4x8192x1, .f32⟩
  | 73 => ⟨S4x8x4x8192x8192, .f32⟩
  | 74 => ⟨S4x8x4x8192x8192, .f32⟩
  | 75 => ⟨S4x8x4x8192x8192, .f32⟩
  | 76 => ⟨S_, .f32⟩
  | 77 => ⟨S4x8x4x8192, .f32⟩
  | 78 => ⟨S4x8x4x8192x1, .f32⟩
  | 79 => ⟨S4x8x4x8192x1, .f32⟩
  | 80 => ⟨S4x8x4x8192x1, .f32⟩
  | 81 => ⟨S4x8x4x8192x1, .f32⟩
  | 82 => ⟨S4x8x4x8192x1, .f32⟩
  | 83 => ⟨S4x8x4x8192x8192, .f32⟩
  | 84 => ⟨S_, .f32⟩
  | 85 => ⟨S4x8x4x8192, .f32⟩
  | 86 => ⟨S4x8x4x8192x1, .f32⟩
  | 87 => ⟨S_, .f32⟩
  | 88 => ⟨S4x8x4x8192x1, .f32⟩
  | 89 => ⟨S4x8x4x8192x1, .f32⟩
  | 90 => ⟨S4x8x4x8192x1, .f32⟩
  | 91 => ⟨S_, .f32⟩
  | 92 => ⟨S_, .f32⟩
  | 93 => ⟨S4x8x4x8192x1, .f32⟩
  | 94 => ⟨S4x8x4x8192x1, .f32⟩
  | 95 => ⟨S4x8x4x8192x1, .f32⟩
  | 96 => ⟨S_, .f32⟩
  | 97 => ⟨S4x8x4x8192x1, .f32⟩
  | 98 => ⟨S4x8x4x8192x1, .f32⟩
  | 99 => ⟨S_, .f32⟩
  | 100 => ⟨S4x8x4x8192x1, .f32⟩
  | 101 => ⟨S4x8x4x8192x1, .i1⟩
  | 102 => ⟨S_, .f32⟩
  | 103 => ⟨S_, .f32⟩
  | 104 => ⟨S4x8x4x8192x1, .f32⟩
  | 105 => ⟨S4x8x4x8192x1, .f32⟩
  | 106 => ⟨S_, .f32⟩
  | 107 => ⟨S4x8x4x8192x1, .f32⟩
  | 108 => ⟨S4x8x4x8192x1, .f32⟩
  | 109 => ⟨S4x8x4x8192x1, .f32⟩
  | 110 => ⟨S_, .f32⟩
  | 111 => ⟨S4x8x4x8192x1, .f32⟩
  | 112 => ⟨S4x8x4x8192x1, .f32⟩
  | 113 => ⟨S4x8x4x8192x8192, .f32⟩
  | 114 => ⟨S4x8x4x8192x8192, .f32⟩
  | 115 => ⟨S_, .f32⟩
  | 116 => ⟨S_, .f32⟩
  | 117 => ⟨S_, .f32⟩
  | 118 => ⟨S4x8x4x8192x8192, .f32⟩
  | 119 => ⟨S4x8x4x8192x8192, .f32⟩
  | 120 => ⟨S_, .f32⟩
  | 121 => ⟨S4x8x4x8192x8192, .f32⟩
  | 122 => ⟨S4x8x4x8192x8192, .f32⟩
  | 123 => ⟨S4x8x4x8192x128, .f32⟩
  | 124 => ⟨S4x8x1x1x1, .f32⟩
  | 125 => ⟨S4x8x4x8192x1, .f32⟩
  | 126 => ⟨S4x8x4x8192x1, .f32⟩
  | 127 => ⟨S4x8x4x8192x1, .f32⟩
  | _ => ⟨S4x8, .f32⟩

abbrev hbmTy0_1 (i : Nat) : BufTy := match i % 128 with
  | 0 => ⟨S4x8x4x8192x128, .f32⟩
  | 1 => ⟨S4x8x4x8192x128, .f32⟩
  | 2 => ⟨S4x8192x8x4x128, .f32⟩
  | 3 => ⟨S4x8192x4096, .f32⟩
  | 4 => ⟨S4x8192x4096, .bf16⟩
  | _ => ⟨S4x8, .f32⟩

abbrev hbmTy (i : Nat) : BufTy := match i / 128 with
  | 0 => hbmTy0_0 i
  | 1 => hbmTy0_1 i
  | _ => ⟨S4x8, .f32⟩

abbrev bufTy : (tb : Table) → Fin (tcTables nBuf tb) → BufTy
  | .hbm, ⟨i, _⟩ => hbmTy i
  | .local _ .vmem, ⟨0, _⟩ => ⟨S4x8192x4096, .fp8e4m3⟩
  | .local _ .vmem, ⟨1, _⟩ => ⟨S4x8192x1024, .fp8e4m3⟩
  | .local _ .vmem, ⟨2, _⟩ => ⟨S4x8x128x8192, .fp8e4m3⟩
  | .local _ .vmem, ⟨3, _⟩ => ⟨S4x8192x4096, .f32⟩
  | .local _ .vmem, ⟨4, _⟩ => ⟨S4x8192x1024, .f32⟩
  | .local _ .vmem, ⟨5, _⟩ => ⟨S4x8x128x8192, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v21 : Ref sig .tc := ⟨.hbm, 52, rfl⟩
abbrev main_c_0 : Ref sig .tc := ⟨.hbm, 53, rfl⟩
abbrev main_v22 : Ref sig .tc := ⟨.hbm, 54, rfl⟩
abbrev main_v23 : Ref sig .tc := ⟨.hbm, 55, rfl⟩
abbrev main_c_1 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_2 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v30 : Ref sig .tc := ⟨.hbm, 67, rfl⟩
abbrev main_cst_3 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_5 : Ref sig .tc := ⟨.hbm, 84, rfl⟩
abbrev main_v45 : Ref sig .tc := ⟨.hbm, 85, rfl⟩
abbrev main_v46 : Ref sig .tc := ⟨.hbm, 86, rfl⟩
abbrev main_cst_6 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_7 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_8 : Ref sig .tc := ⟨.hbm, 96, rfl⟩
abbrev main_v54 : Ref sig .tc := ⟨.hbm, 97, rfl⟩
abbrev main_v55 : Ref sig .tc := ⟨.hbm, 98, rfl⟩
abbrev main_cst_9 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_call2_v0 : Ref sig .tc := ⟨.hbm, 103, rfl⟩
abbrev main_call2_v1 : Ref sig .tc := ⟨.hbm, 104, rfl⟩
abbrev main_v58 : Ref sig .tc := ⟨.hbm, 105, rfl⟩
abbrev main_cst_11 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_12 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_13 : Ref sig .tc := ⟨.hbm, 115, rfl⟩
abbrev main_cst_14 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

def κ : String → Option EReal := fun
  | "inv448" => some ((1 / 448 : ℝ) : EReal)
  | _ => none

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x128x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8x128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/-
  The frame of the attention kernel, at any reading of the floats: from any memory the launch terminates, nothing
  faults, the argument arrays end as they were and every semaphore counter ends at zero. The body is run once at a
  symbolic grid point, its loops by their invariants (Gen/Kernel/Loops.lean); what it leaves in the output block and
  in its two scratch buffers is not named here.
-/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- A memref's elements, held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- The kernel body at any point, on any memrefs: from its inputs at their contents and its output block and scratch
    buffers at any, it runs to its return and hands the inputs back unchanged. -/
theorem kernelRun (c : Dev nD) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole)
    (X3 : S4x8.Idx → Elt F .f32)
    (X4 : S32.Idx → Elt F .f32)
    (X5 : S1x128x512.Idx → Elt F .fp8e4m3)
    (X6 : S1x1x32x128.Idx → Elt F .f32)
    (X7 : S1x8192x128.Idx → Elt F .fp8e4m3)
    (X8 : S1x8192x8.Idx → Elt F .f32)
    (X9 : S1x1x128x8192.Idx → Elt F .fp8e4m3) (Q : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f) ∗ (∃ f, pt c arg11 f) ∗ (∃ f, pt c arg12 f)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f) ∗ (∃ f, pt c arg11 f) ∗ (∃ f, pt c arg12 f)) -∗ Q ⟨⟩))
    ⊢ wp frame (wpE (defs₀ (F := F)) Variants.none (c : Thread nD τ) none) Set.univ (cc0_sink_attention i arg3 harg3 arg4 harg4 arg5 harg5 arg6 harg6 arg7 harg7 arg8 harg8 arg9 harg9 arg10 harg10 arg11 harg11 arg12 harg12) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, H10⟩, ⟨%f11, H11⟩, ⟨%f12, H12⟩, Hk⟩
  by_cases hc : k0_cond1 i = 1#1
  all_goals
    sl_exec!
    sl_step
    iapply Hk
    isplitl [H3]; · iexists _; isplitr; · ipureintro; exact h3
                    iexact H3
    isplitl [H4]; · iexists _; isplitr; · ipureintro; exact h4
                    iexact H4
    isplitl [H5]; · iexists _; isplitr; · ipureintro; exact h5
                    iexact H5
    isplitl [H6]; · iexists _; isplitr; · ipureintro; exact h6
                    iexact H6
    isplitl [H7]; · iexists _; isplitr; · ipureintro; exact h7
                    iexact H7
    isplitl [H8]; · iexists _; isplitr; · ipureintro; exact h8
                    iexact H8
    isplitl [H9]; · iexists _; isplitr; · ipureintro; exact h9
                    iexact H9
    isplitl [H10]; · iexists _; iexact H10
    isplitl [H11]; · iexists _; iexact H11
    iexists _; iexact H12

variable (m : (ℓ : Loc nD τ sig) → Buf (Elt F) ℓ) (ρ : Dev nD → PrngReg)

/-! ## The proof data -/

/-- Of the eight windows the output is forgotten: nothing here reads what the body leaves in it. -/
def forgets0 : Fin 8 → Bool := fun w => w == 7

/-- The proof data on core `c`: the arrays as the region finds them; each input's buffer left at its block, the output's
    unnamed; the invariant holds the two scratch buffers at any contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- The invariant, its two scratch buffers one by one and the generator register. -/
theorem PhiA_eq (c : Dev nD) :
    (Pipeline.ΦA spec0 c : sProp 𝕄)
      = iprop(((∃ f, pt (F := F) c (Memref.whole cc0_scratch0) f) ∗ (∃ f, pt (F := F) c (Memref.whole cc0_scratch1) f))
        ∗ (∃ g, prngReg c g)) := by
  unfold Pipeline.ΦA; rw [scopedRest0_eq]
  simp only [pt, Memref.view_whole, View.set_whole]

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point: the inputs' memrefs hold their blocks, so `kernelRun` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6]
  iintro ⟨⟨⟨⟨%g11, HS0⟩, ⟨%g12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩⟩
  iapply (kernelRun c (grid0.coords t) (st0_0 t) _ (st0_1 t) _ (st0_2 t) _ (st0_3 t) _ (st0_4 t) _ (st0_5 t) _ (st0_6 t) _ (st0_7 t) _
    (Memref.whole cc0_scratch0) _ (Memref.whole cc0_scratch1) _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns
    icases H7 with ⟨%f7, -, H7⟩
    iexists _; iexact H7
  isplitl [HS0]; · iexists _; iexact HS0
  isplitl [HS1]; · iexists _; iexact HS1
  iintro ⟨H0, H1, H2, H3, H4, H5, H6, ⟨%f7, H7⟩, ⟨%f11, HS0⟩, ⟨%f12, HS1⟩⟩
  isplitl [HS0 HS1 Hg]
  · isplitl [HS0 HS1]
    · isplitl [HS0]; · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; unfold owns; iexists _; isplitr; swap; · iexact H7
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
set_option maxHeartbeats 800000 in
/-- The launch: every execution terminates, with the input arrays as launched and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the launch terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c))⟩, h.2⟩) (run_main m ρ)

end Cert.Kernel.Hand

end
-- ==== Proof.Offsets.lean ====
/-
  Closed forms of the attention body's trip counts and offsets, each checked at the 64 query blocks or at the 16 chunks.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic

/-- A grid point whose query block is `t`. -/
def mk (t : Fin 64) : grid0.Coords := fun d => match d with
  | ⟨0, _⟩ => (0 : Fin 4)
  | ⟨1, _⟩ => (0 : Fin 8)
  | ⟨2, _⟩ => t

theorem trips2_aux : ∀ t : Fin 64, (k0_t2_loop (mk t)).trips = t.val / 4 := by decide +kernel
theorem trips3_aux : ∀ t : Fin 64, (k0_t3_loop (mk t)).trips = 0 := by decide +kernel
theorem trips4_aux : ∀ t : Fin 64, (k0_t4_loop (mk t)).trips = t.val / 4 + 1 := by decide +kernel
theorem trips5_aux : ∀ t : Fin 64, (k0_t5_loop (mk t)).trips = 0 := by decide +kernel

/-- The key scales are laid out in 16 chunks. -/
theorem trips1 : k0_t1_loop.trips = 16 := by decide +kernel
/-- The chunks before the tail: four query blocks make one chunk of keys. -/
theorem trips2 (i : grid0.Coords) : (k0_t2_loop i).trips = (i 2).val / 4 := trips2_aux (i 2)
/-- The remainder loop of the scores runs no trip. -/
theorem trips3 (i : grid0.Coords) : (k0_t3_loop i).trips = 0 := trips3_aux (i 2)
/-- The accumulation visits every chunk up to the tail. -/
theorem trips4 (i : grid0.Coords) : (k0_t4_loop i).trips = (i 2).val / 4 + 1 := trips4_aux (i 2)
/-- The remainder loop of the accumulation runs no trip. -/
theorem trips5 (i : grid0.Coords) : (k0_t5_loop i).trips = 0 := trips5_aux (i 2)

theorem lt64 (i : grid0.Coords) : (i 2).val < 64 := (i 2).isLt
theorem lt16_2 (i : grid0.Coords) (k : Fin (k0_t2_loop i).trips) : k.val < 16 := by
  have h := Nat.lt_of_lt_of_eq k.isLt (trips2 i); have := lt64 i; omega
theorem lt16_4 (i : grid0.Coords) (k : Fin (k0_t4_loop i).trips) : k.val < 16 := by
  have h := Nat.lt_of_lt_of_eq k.isLt (trips4 i); have := lt64 i; omega

/-- The row a chunk's induction variable addresses. -/
theorem chunk_aux : ∀ k : Fin 16,
    (Scalar.indexCast (Scalar.muli (Scf.iv 0#32 1#32 k.val) 512#32) : BitVec 32).toNat = 512 * k.val := by decide +kernel

theorem off4 (i : grid0.Coords) (k : Fin (k0_t2_loop i).trips) : k0_off4 i k = ![0, 512 * k.val, 0] :=
  congrArg (fun n => (![0, n, 0] : Fin 3 → ℕ)) (chunk_aux ⟨k.val, lt16_2 i k⟩)
theorem off5 (i : grid0.Coords) (k : Fin (k0_t2_loop i).trips) : k0_off5 i k = ![512 * k.val, 0] :=
  congrArg (fun n => (![n, 0] : Fin 2 → ℕ)) (chunk_aux ⟨k.val, lt16_2 i k⟩)
theorem off6 (i : grid0.Coords) (k : Fin (k0_t2_loop i).trips) : k0_off6 i k = ![512 * k.val, 0] :=
  congrArg (fun n => (![n, 0] : Fin 2 → ℕ)) (chunk_aux ⟨k.val, lt16_2 i k⟩)
theorem off15 (i : grid0.Coords) (k : Fin (k0_t4_loop i).trips) : k0_off15 i k = ![512 * k.val, 0] :=
  congrArg (fun n => (![n, 0] : Fin 2 → ℕ)) (chunk_aux ⟨k.val, lt16_4 i k⟩)
theorem off16 (i : grid0.Coords) (k : Fin (k0_t4_loop i).trips) : k0_off16 i k = ![0, 0, 0, 512 * k.val] :=
  congrArg (fun n => (![0, 0, 0, n] : Fin 4 → ℕ)) (chunk_aux ⟨k.val, lt16_4 i k⟩)

/-- The first row of a query block's tail chunk. -/
def tail (i : grid0.Coords) : ℕ := 512 * ((i 2).val / 4)
/-- The first row of a query block's window of keys. -/
def base (i : grid0.Coords) : ℕ := 128 * ((i 2).val - 8)

theorem off10_aux : ∀ t : Fin 64, k0_off10 (mk t) = ![0, tail (mk t), 0] := by decide +kernel
theorem off11_aux : ∀ t : Fin 64, k0_off11 (mk t) = ![tail (mk t), 0] := by decide +kernel
theorem off12_aux : ∀ t : Fin 64, k0_off12 (mk t) = ![tail (mk t), 0] := by decide +kernel
theorem off19_aux : ∀ t : Fin 64, k0_off19 (mk t) = ![0, base (mk t), 0] := by decide +kernel
theorem off20_aux : ∀ t : Fin 64, k0_off20 (mk t) = ![base (mk t), 0] := by decide +kernel
theorem off21_aux : ∀ t : Fin 64, k0_off21 (mk t) = ![0, 0, 0, base (mk t)] := by decide +kernel
theorem off10 (i : grid0.Coords) : k0_off10 i = ![0, tail i, 0] := off10_aux (i 2)
theorem off11 (i : grid0.Coords) : k0_off11 i = ![tail i, 0] := off11_aux (i 2)
theorem off12 (i : grid0.Coords) : k0_off12 i = ![tail i, 0] := off12_aux (i 2)
theorem off19 (i : grid0.Coords) : k0_off19 i = ![0, base i, 0] := off19_aux (i 2)
theorem off20 (i : grid0.Coords) : k0_off20 i = ![base i, 0] := off20_aux (i 2)
theorem off21 (i : grid0.Coords) : k0_off21 i = ![0, 0, 0, base i] := off21_aux (i 2)

end Cert.KernelIdeal.Hand

end
-- ==== Proof.Tiles.lean ====
/-
  The tiles the attention body reads and writes, each as a function of the whole buffer it is a part of, and the scratch
  buffers' contents as the body leaves them.
-/
module

public import proofs.«01_k».proof.Proof.Gen.KernelIdeal.Frame
public import proofs.«01_k».proof.Proof.Offsets
public import Idealize.ShloMosaic.Lib.Pipeline.ValueKit
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

variable {F : FTy → Type} [FloatOps F] [Named F]

/-- Row `n` of the 8192 keys. -/
abbrev row (n : ℕ) : Fin 8192 := Fin.ofNat 8192 n

theorem row_val {n : ℕ} (h : n < 8192) : (row n).val = n := Nat.mod_eq_of_lt h

/-- 512 key rows from row `o`. -/
def kC (X : S1x8192x128.Idx → Elt F .fp8e4m3) (o : ℕ) : Vec F S1x512x128 .fp8e4m3 :=
  fun x => X (ix3 (x 0) (row (o + (x 1).val)) (x 2))
/-- 512 rows of a [8192, 128] buffer from row `o`. -/
def sC (X : S8192x128.Idx → Elt F .f32) (o : ℕ) : Vec F S512x128 .f32 :=
  fun x => X (ix2 (row (o + (x 0).val)) (x 1))
/-- 512 rows of the scores from row `o`. -/
def uC (X : S8192x256.Idx → Elt F .f32) (o : ℕ) : Vec F S512x256 .f32 :=
  fun x => X (ix2 (row (o + (x 0).val)) (x 1))
/-- 512 columns of the transposed values from column `o`. -/
def vC (X : S1x1x128x8192.Idx → Elt F .fp8e4m3) (o : ℕ) : Vec F S1x1x128x512 .fp8e4m3 :=
  fun x => X (ix4 (x 0) (x 1) (x 2) (row (o + (x 3).val)))
/-- 512 rows of the key scales from row `o`. -/
def gC (X : S1x8192x8.Idx → Elt F .f32) (o : ℕ) : Vec F S1x512x8 .f32 :=
  fun x => X (ix3 (x 0) (row (o + (x 1).val)) (x 2))
/-- 1152 key rows from row `o`. -/
def kW (X : S1x8192x128.Idx → Elt F .fp8e4m3) (o : ℕ) : Vec F S1x1152x128 .fp8e4m3 :=
  fun x => X (ix3 (x 0) (row (o + (x 1).val)) (x 2))
/-- 1152 rows of a [8192, 128] buffer from row `o`. -/
def sW (X : S8192x128.Idx → Elt F .f32) (o : ℕ) : Vec F S1152x128 .f32 :=
  fun x => X (ix2 (row (o + (x 0).val)) (x 1))
/-- 1152 columns of the transposed values from column `o`. -/
def vW (X : S1x1x128x8192.Idx → Elt F .fp8e4m3) (o : ℕ) : Vec F S1x1x128x1152 .fp8e4m3 :=
  fun x => X (ix4 (x 0) (x 1) (x 2) (row (o + (x 3).val)))
/-- 128 of the query block's columns from column `o`. -/
def qC (X : S1x128x512.Idx → Elt F .fp8e4m3) (o : ℕ) : Vec F S1x128x128 .fp8e4m3 :=
  fun x => X (ix3 (x 0) (x 1) (Fin.ofNat 512 (o + (x 2).val)))
/-- One head's row of the query scales. -/
def qsC (X : S1x1x32x128.Idx → Elt F .f32) (n : ℕ) : Vec F S1x1x1x128 .f32 :=
  fun x => X (ix4 (x 0) (x 1) (Fin.ofNat 32 n) (x 3))

section loads
variable {sp : Space}

theorem ld_kC (X : S1x8192x128.Idx → Elt F .fp8e4m3) {off : Fin 3 → ℕ} (o : ℕ) (inb) (h : off = ![0, o, 0]) (ho : o + 512 ≤ 8192) :
    View.ld (Val := Elt F) (e' := .fp8e4m3) X (Rect.unit (s := S1x8192x128) off S1x512x128.size inb) = kC X o := by
  subst h; funext x
  refine View.ld_unit_apply_of _ _ _ _ _ _ (fun a => ?_)
  fin_cases a
  · exact (Nat.zero_add _).symm
  · exact row_val (Nat.lt_of_lt_of_le (Nat.add_lt_add_left (x 1).isLt o) ho)
  · exact (Nat.zero_add _).symm

theorem ld_gC (X : S1x8192x8.Idx → Elt F .f32) {off : Fin 3 → ℕ} (o : ℕ) (inb) (h : off = ![0, o, 0]) (ho : o + 512 ≤ 8192) :
    View.ld (Val := Elt F) (e' := .f32) X (Rect.unit (s := S1x8192x8) off S1x512x8.size inb) = gC X o := by
  subst h; funext x
  refine View.ld_unit_apply_of _ _ _ _ _ _ (fun a => ?_)
  fin_cases a
  · exact (Nat.zero_add _).symm
  · exact row_val (Nat.lt_of_lt_of_le (Nat.add_lt_add_left (x 1).isLt o) ho)
  · exact (Nat.zero_add _).symm

theorem ld_kW (X : S1x8192x128.Idx → Elt F .fp8e4m3) {off : Fin 3 → ℕ} (o : ℕ) (inb) (h : off = ![0, o, 0]) (ho : o + 1152 ≤ 8192) :
    View.ld (Val := Elt F) (e' := .fp8e4m3) X (Rect.unit (s := S1x8192x128) off S1x1152x128.size inb) = kW X o := by
  subst h; funext x
  refine View.ld_unit_apply_of _ _ _ _ _ _ (fun a => ?_)
  fin_cases a
  · exact (Nat.zero_add _).symm
  · exact row_val (Nat.lt_of_lt_of_le (Nat.add_lt_add_left (x 1).isLt o) ho)
  · exact (Nat.zero_add _).symm

theorem ld_sC (X : S8192x128.Idx → Elt F .f32) {off : Fin 2 → ℕ} (o : ℕ) (inb) (h : off = ![o, 0]) (ho : o + 512 ≤ 8192) :
    View.ld (Val := Elt F) (e' := .f32) X (Rect.unit (s := S8192x128) off S512x128.size inb) = sC X o := by
  subst h; funext x
  refine View.ld_unit_apply_of _ _ _ _ _ _ (fun a => ?_)
  fin_cases a
  · exact row_val (Nat.lt_of_lt_of_le (Nat.add_lt_add_left (x 0).isLt o) ho)
  · exact (Nat.zero_add _).symm

theorem ld_uC (X : S8192x256.Idx → Elt F .f32) {off : Fin 2 → ℕ} (o : ℕ) (inb) (h : off = ![o, 0]) (ho : o + 512 ≤ 8192) :
    View.ld (Val := Elt F) (e' := .f32) X (Rect.unit (s := S8192x256) off S512x256.size inb) = uC X o := by
  subst h; funext x
  refine View.ld_unit_apply_of _ _ _ _ _ _ (fun a => ?_)
  fin_cases a
  · exact row_val (Nat.lt_of_lt_of_le (Nat.add_lt_add_left (x 0).isLt o) ho)
  · exact (Nat.zero_add _).symm

theorem ld_sW (X : S8192x128.Idx → Elt F .f32) {off : Fin 2 → ℕ} (o : ℕ) (inb) (h : off = ![o, 0]) (ho : o + 1152 ≤ 8192) :
    View.ld (Val := Elt F) (e' := .f32) X (Rect.unit (s := S8192x128) off S1152x128.size inb) = sW X o := by
  subst h; funext x
  refine View.ld_unit_apply_of _ _ _ _ _ _ (fun a => ?_)
  fin_cases a
  · exact row_val (Nat.lt_of_lt_of_le (Nat.add_lt_add_left (x 0).isLt o) ho)
  · exact (Nat.zero_add _).symm

theorem ld_vC (X : S1x1x128x8192.Idx → Elt F .fp8e4m3) {off : Fin 4 → ℕ} (o : ℕ) (inb) (h : off = ![0, 0, 0, o]) (ho : o + 512 ≤ 8192) :
    View.ld (Val := Elt F) (e' := .fp8e4m3) X (Rect.unit (s := S1x1x128x8192) off S1x1x128x512.size inb) = vC X o := by
  subst h; funext x
  refine View.ld_unit_apply_of _ _ _ _ _ _ (fun a => ?_)
  fin_cases a
  · exact (Nat.zero_add _).symm
  · exact (Nat.zero_add _).symm
  · exact (Nat.zero_add _).symm
  · exact row_val (Nat.lt_of_lt_of_le (Nat.add_lt_add_left (x 3).isLt o) ho)

theorem ld_vW (X : S1x1x128x8192.Idx → Elt F .fp8e4m3) {off : Fin 4 → ℕ} (o : ℕ) (inb) (h : off = ![0, 0, 0, o]) (ho : o + 1152 ≤ 8192) :
    View.ld (Val := Elt F) (e' := .fp8e4m3) X (Rect.unit (s := S1x1x128x8192) off S1x1x128x1152.size inb) = vW X o := by
  subst h; funext x
  refine View.ld_unit_apply_of _ _ _ _ _ _ (fun a => ?_)
  fin_cases a
  · exact (Nat.zero_add _).symm
  · exact (Nat.zero_add _).symm
  · exact (Nat.zero_add _).symm
  · exact row_val (Nat.lt_of_lt_of_le (Nat.add_lt_add_left (x 3).isLt o) ho)

theorem ld_qC (X : S1x128x512.Idx → Elt F .fp8e4m3) {off : Fin 3 → ℕ} (o : ℕ) (inb) (h : off = ![0, 0, o]) (ho : o + 128 ≤ 512) :
    View.ld (Val := Elt F) (e' := .fp8e4m3) X (Rect.unit (s := S1x128x512) off S1x128x128.size inb) = qC X o := by
  subst h; funext x
  refine View.ld_unit_apply_of _ _ _ _ _ _ (fun a => ?_)
  fin_cases a
  · exact (Nat.zero_add _).symm
  · exact (Nat.zero_add _).symm
  · exact Nat.mod_eq_of_lt (Nat.lt_of_lt_of_le (Nat.add_lt_add_left (x 2).isLt o) ho)

theorem ld_qsC (X : S1x1x32x128.Idx → Elt F .f32) {off : Fin 4 → ℕ} (n : ℕ) (inb) (h : off = ![0, 0, n, 0]) (hn : n < 32) :
    View.ld (Val := Elt F) (e' := .f32) X (Rect.unit (s := S1x1x32x128) off S1x1x1x128.size inb) = qsC X n := by
  subst h; funext x
  refine View.ld_unit_apply_of _ _ _ _ _ _ (fun a => ?_)
  fin_cases a
  · exact (Nat.zero_add _).symm
  · exact (Nat.zero_add _).symm
  · have h0 : (x 2).val = 0 := Nat.lt_one_iff.mp (x 2).isLt
    show n % 32 = n + (x 2).val
    rw [h0, Nat.mod_eq_of_lt hn]; rfl
  · exact (Nat.zero_add _).symm

end loads

/-- Every key's scale of the point's key head, over the 128 lanes: the chunks of 512 rows one by one. -/
def ksb (i : grid0.Coords) (X : S1x8192x8.Idx → Elt F .f32) : S8192x128.Idx → Elt F .f32 :=
  fun x => k0_pay4 i (gC X (512 * ((x 0).val / 512))) (ix2 (Fin.ofNat 512 ((x 0).val % 512)) (x 1))

end Cert.KernelIdeal.Hand

end
-- ==== Proof.KernelIdealLoops.lean ====
/-
  The invariants of the attention body's counted loops, with the parameters their regions do not read fixed, so that a
  run of the body determines every parameter of the invariant it uses.
-/
module

public import proofs.«01_k».proof.Proof.Gen.KernelIdeal.Frame
public import proofs.«01_k».proof.Proof.Gen.KernelIdeal.Loops
public import proofs.«01_k».proof.Proof.Tiles
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's elements, held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- `U` with its first `k` chunks of 512 rows replaced by those of `X`. -/
def mixed {d : ℕ} (X U : (⟨2, ![8192, d]⟩ : Shape).Idx → Elt F .f32) : ℕ → (⟨2, ![8192, d]⟩ : Shape).Idx → Elt F .f32
  | 0 => U
  | k + 1 => fun x => if (x 0).val < 512 * (k + 1) then X x else U x

/-- A buffer's first `k` chunks of 512 rows read as the rows of `U`. -/
abbrev Filled {d : ℕ} (X U : (⟨2, ![8192, d]⟩ : Shape).Idx → Elt F .f32) (k : ℕ) : Prop := mixed X U k = U

theorem filled_iff {d : ℕ} (X U : (⟨2, ![8192, d]⟩ : Shape).Idx → Elt F .f32) (k : ℕ) :
    Filled X U k ↔ ∀ x : (⟨2, ![8192, d]⟩ : Shape).Idx, (x 0).val < 512 * k → X x = U x := by
  cases k with
  | zero => exact ⟨fun _ x h => absurd h (Nat.not_lt_zero _), fun _ => rfl⟩
  | succ k =>
    constructor
    · intro h x hx
      have := congrFun h x
      simpa only [mixed, if_pos hx] using this
    · intro h
      funext x
      by_cases hx : (x 0).val < 512 * (k + 1)
      · simpa only [mixed, if_pos hx] using h x hx
      · simp only [mixed, if_neg hx]

/-- Writing chunk `k` of `U` extends the filled chunks by one. -/
theorem filled_step {sp : Space} {d : ℕ} (v : View sig .tc sp (⟨2, ![8192, d]⟩ : Shape) .f32) (f : v.ty.Contents (Elt F))
    (U : (⟨2, ![8192, d]⟩ : Shape).Idx → Elt F .f32) (k : ℕ) (off : Fin 2 → ℕ) (inb)
    (hoff : off = ![512 * k, 0]) (hk : 512 * k + 512 ≤ 8192) (w : (⟨2, ![512, d]⟩ : Shape).Idx → Elt F .f32)
    (hw : ∀ x, w x = U (ix2 (row (512 * k + (x 0).val)) (x 1)))
    (hf : Filled (v.read (Elt F) f) U k) :
    Filled (v.read (Elt F) (v.writes (Elt F) f [⟨Rect.unit (s := ⟨2, ![8192, d]⟩) off (⟨2, ![512, d]⟩ : Shape).size inb, w⟩])) U (k + 1) := by
  rw [filled_iff] at hf ⊢
  intro y hy
  by_cases h : (y 0).val < 512 * k
  · rw [View.read_writes_cons_rows_of_not_mem (W := 512) v f inb w [] y hoff rfl (Or.inl h)]
    exact hf y h
  · have h0 : (y 0).val - 512 * k < 512 := by omega
    have e : y = ix2 (row (512 * k + ((ix2 (⟨(y 0).val - 512 * k, h0⟩ : Fin 512) (y 1) : (⟨2, ![512, d]⟩ : Shape).Idx) 0).val)) (y 1) := by
      refine (eq_ix2 y).trans (congrArg (fun r => ix2 r (y 1)) (Fin.ext ?_))
      show (y 0).val = (512 * k + ((y 0).val - 512 * k)) % 8192
      rw [Nat.mod_eq_of_lt (by omega)]; omega
    rw [View.read_writes_cons_rows_of_mem v f inb w [] y (ix2 (⟨(y 0).val - 512 * k, h0⟩ : Fin 512) (y 1)) hoff
      (by show (y 0).val = 512 * k + ((y 0).val - 512 * k); omega) rfl]
    rw [hw]
    exact congrArg U e.symm

/-- A key's row in its chunk of 512. -/
theorem chunk_eq {α : Type} {d : ℕ} (g : ℕ → (⟨2, ![512, d]⟩ : Shape).Idx → α) {k : ℕ} (hk : k < 16) (x : (⟨2, ![512, d]⟩ : Shape).Idx) :
    g ((row (512 * k + (x 0).val)).val / 512) (ix2 (Fin.ofNat 512 ((row (512 * k + (x 0).val)).val % 512)) (x 1)) = g k x := by
  have h0 : (x 0).val < 512 := (x 0).isLt
  rw [row_val (by omega), show (512 * k + (x 0).val) / 512 = k by omega]
  refine congrArg (g k) (Eq.trans (congrArg (fun r => ix2 r (x 1)) (Fin.ext ?_)) (eq_ix2 x).symm)
  show (512 * k + (x 0).val) % 512 % 512 = (x 0).val
  omega

/-- Loop 1's invariant: the key scales' buffer is filled chunk by chunk with `ksb`. -/
@[sl_loop, instance_reducible] def loop1 (𝒱 : Variants) (c : Dev nD) (bd : Option 𝒱.V) (E : Set ℕ) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole) (k0_h1 : k0_cond1 i = 1#1) (X_arg8 : BufTy.Contents (Elt F) arg8.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 k0_h1 where
  inv k _ := iprop(pt c arg8 X_arg8 ∗ ∃ f, pt c arg12 f ∗ ⌜Filled (arg12.view.read (Elt F) f) (ksb i (arg8.view.read (Elt F) X_arg8)) k⌝)
  step k acc := by
    iintro ⟨H8, ⟨%f, H12, %hf⟩⟩
    have hk : k.val < 16 := Nat.lt_of_lt_of_eq k.isLt trips1
    unfold k0_t1_body
    sl_exec
    sl_step
    isplitl [H8]; · iexact H8
    iexists _
    isplitl [H12]; · iexact H12
    ipureintro
    refine filled_step _ f _ k.val _ _ (k0_off2_eq k) (by omega) _ (fun x => ?_) hf
    rw [View.readAt_eq_ld, ld_gC _ (512 * k.val) _ (k0_off1_eq k) (by omega)]
    exact (chunk_eq (fun n => k0_pay4 i (gC (arg8.view.read (Elt F) X_arg8) (512 * n))) hk x).symm

/-- The running maximum of a block's scores over its first `k` full chunks of keys. -/
def mAt (v34 : FVec F S256x128 .fp8e4m3) (K : S1x8192x128.Idx → Elt F .fp8e4m3) (S : S8192x128.Idx → Elt F .f32) (init : FVec F S8x256 .f32) : ℕ → FVec F S8x256 .f32
  | 0 => init
  | k + 1 => k0_pay12 v34 (mAt v34 K S init k) (kC K (512 * k)) (sC S (512 * k))

/-- A block's unmasked scores, key by key. -/
def uAll (v34 : FVec F S256x128 .fp8e4m3) (K : S1x8192x128.Idx → Elt F .fp8e4m3) (S : S8192x128.Idx → Elt F .f32) : S8192x256.Idx → Elt F .f32 :=
  fun x => k0_pay11 v34 (kC K (512 * ((x 0).val / 512))) (sC S (512 * ((x 0).val / 512))) (ix2 (Fin.ofNat 512 ((x 0).val % 512)) (x 1))

/-- Loop 2's invariant: the scores' buffer is filled chunk by chunk and the carried value is the running maximum. -/
@[sl_loop, instance_reducible] def loop2 (𝒱 : Variants) (c : Dev nD) (bd : Option 𝒱.V) (E : Set ℕ) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole) (v34 : FVec F S256x128 .fp8e4m3) (X_arg7 : BufTy.Contents (Elt F) arg7.view.ty) (X_arg12 : BufTy.Contents (Elt F) arg12.view.ty) (init : FVec F S8x256 .f32) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 0#32 (fun _ => 0#32) (fun _ => FloatOps.ofBits .f32 0#32) v34 0#32 0#32 0#32 init where
  inv k acc := iprop(pt c arg7 X_arg7 ∗ pt c arg12 X_arg12 ∗ ∃ f, pt c arg11 f
    ∗ ⌜Filled (arg11.view.read (Elt F) f) (uAll v34 (arg7.view.read (Elt F) X_arg7) (arg12.view.read (Elt F) X_arg12)) k⌝ ∗ ⌜acc = mAt v34 (arg7.view.read (Elt F) X_arg7) (arg12.view.read (Elt F) X_arg12) init k⌝)
  step k acc := by
    iintro ⟨H7, H12, ⟨%f, H11, %hf, %hm⟩⟩
    have hk : k.val < 16 := lt16_2 i k
    unfold k0_t2_body
    sl_exec
    sl_step
    isplitl [H7]; · iexact H7
    isplitl [H12]; · iexact H12
    iexists _
    isplitl [H11]; · iexact H11
    isplitr
    on_goal 2 =>
      ipureintro
      rw [View.readAt_eq_ld, View.readAt_eq_ld, ld_kC _ (512 * k.val) _ (off4 i k) (by omega), ld_sC _ (512 * k.val) _ (off5 i k) (by omega)]
      rw [hm]; rfl
    ipureintro
    rw [View.readAt_eq_ld, View.readAt_eq_ld, ld_kC _ (512 * k.val) _ (off4 i k) (by omega), ld_sC _ (512 * k.val) _ (off5 i k) (by omega)]
    refine filled_step _ f _ k.val _ _ (off6 i k) (by omega) _ (fun x => ?_) hf
    exact (chunk_eq (fun n => k0_pay11 v34 (kC (arg7.view.read (Elt F) X_arg7) (512 * n)) (sC (arg12.view.read (Elt F) X_arg12) (512 * n))) hk x).symm

/-- The accumulators after the first `k` chunks of keys: the sums of the probabilities, and the products with the values. -/
def aAt (v104 v109 : FVec F S1x256 .f32) (v115 : IVec S1x256 1) (v156 : IVec S1x256 32) (v158 : IVec S1x256 1) (v161 : FVec F S1x256 .f32) (v162 : IVec S1x256 32)
    (U : S8192x256.Idx → Elt F .f32) (Vt : S1x1x128x8192.Idx → Elt F .fp8e4m3) (init : FVec F S8x256 .f32 × FVec F S128x256 .f32) : ℕ → FVec F S8x256 .f32 × FVec F S128x256 .f32
  | 0 => init
  | k + 1 => (k0_pay43 v104 v109 v115 v156 v158 v161 v162 (aAt v104 v109 v115 v156 v158 v161 v162 U Vt init k).1 (uC U (512 * k)),
      k0_pay44 v104 v109 v115 v156 v158 v161 v162 (aAt v104 v109 v115 v156 v158 v161 v162 U Vt init k).2 (uC U (512 * k)) (vC Vt (512 * k)))

/-- Loop 4's invariant: the carried pair is the accumulators after the trips so far. -/
@[sl_loop, instance_reducible] def loop4 (𝒱 : Variants) (c : Dev nD) (bd : Option 𝒱.V) (E : Set ℕ) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole) (v104 : FVec F S1x256 .f32) (v109 : FVec F S1x256 .f32) (v115 : IVec S1x256 1) (v156 : IVec S1x256 32) (v158 : IVec S1x256 1) (v161 : FVec F S1x256 .f32) (v162 : IVec S1x256 32) (X_arg9 : BufTy.Contents (Elt F) arg9.view.ty) (X_arg11 : BufTy.Contents (Elt F) arg11.view.ty) (init : FVec F S8x256 .f32 × FVec F S128x256 .f32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 (FloatOps.ofBits .f32 0#32) (fun _ => FloatOps.ofBits .f32 0#32) (fun _ => FloatOps.ofBits .f32 0#32) 0#32 v104 (fun _ => FloatOps.ofBits .f32 0#32) v109 v115 v156 v158 v161 v162 init where
  inv k acc := iprop(pt c arg9 X_arg9 ∗ pt c arg11 X_arg11
    ∗ ⌜acc = aAt v104 v109 v115 v156 v158 v161 v162 (arg11.view.read (Elt F) X_arg11) (arg9.view.read (Elt F) X_arg9) init k⌝)
  step k acc := by
    iintro ⟨H9, H11, %hacc⟩
    have hk : k.val < 16 := lt16_4 i k
    unfold k0_t4_body
    sl_exec
    sl_step
    isplitl [H9]; · iexact H9
    isplitl [H11]; · iexact H11
    ipureintro
    rw [View.readAt_eq_ld, View.readAt_eq_ld, ld_uC _ (512 * k.val) _ (off15 i k) (by omega), ld_vC _ (512 * k.val) _ (off16 i k) (by omega)]
    rw [hacc]; rfl

end Cert.KernelIdeal.Hand

end
-- ==== Proof.Body.lean ====
/-
  What the attention body leaves in its output block, as a function of the blocks it reads, and the run that leaves it.
-/
module

public import proofs.«01_k».proof.Proof.Gen.KernelIdeal.Frame
public import proofs.«01_k».proof.Proof.KernelIdealLoops
public import proofs.«01_k».proof.Proof.Gen.KernelIdeal.Skeleton
public import Idealize.ShloMosaic.Lib.Pipeline.FrameBody
public import Idealize.ShloMosaic.Lib.WritesUnit

@[expose] public section

set_option maxHeartbeats 2000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

/-- A head's sink. -/
def snk (X : S32.Idx → Elt F .f32) (n : ℕ) : Elt F .f32 := X (ix1 (Fin.ofNat 32 n))
/-- A key head's value scale. -/
def vsc (i : grid0.Coords) (X : S4x8.Idx → Elt F .f32) : Elt F .f32 := X (ix2 (Fin.ofNat 4 (i 0).val) (Fin.ofNat 8 (i 1).val))

/-! ### The even heads of the block -/

section even
variable (v60 : FVec F S8x256 .f32) (v76 : FVec F S512x256 .f32) (v88 v97 : Vec F S1x1x1x128 .f32) (v91 v100 : Elt F .f32)
  (U : S8192x256.Idx → Elt F .f32) (Vt : S1x1x128x8192.Idx → Elt F .fp8e4m3) (v5 : Elt F .f32)

/-- The even heads' exponent chain, up to its fifth step. -/
def ev156 : IVec S1x256 32 := k0_pay35 (k0_pay22 v60 v76 v88 v91 v97 v100) k0_pay24 (k0_pay25 v60 v76 v88 v91 v97 v100) (FloatOps.ofBits .f32 0x5F800000#32)
def ev158 : IVec S1x256 1 := k0_pay36 (k0_pay22 v60 v76 v88 v91 v97 v100) (k0_pay25 v60 v76 v88 v91 v97 v100) (FloatOps.ofBits .f32 0x5F800000#32)
def ev161 : FVec F S1x256 .f32 := k0_pay37 (k0_pay22 v60 v76 v88 v91 v97 v100) (k0_pay25 v60 v76 v88 v91 v97 v100) (FloatOps.ofBits .f32 0x5F800000#32)
/-- The even heads' accumulators after `n` chunks. -/
def evA (n : ℕ) : FVec F S8x256 .f32 × FVec F S128x256 .f32 :=
  aAt (k0_pay18 v88 v97) (k0_pay21 v60 v76 v88 v91 v97 v100) (k0_pay23 v60 v76 v88 v91 v97 v100) (ev156 v60 v76 v88 v97 v91 v100)
    (ev158 v60 v76 v88 v97 v91 v100) (ev161 v60 v76 v88 v97 v91 v100) k0_pay38 U Vt (k0_pay7, k0_pay8) n
/-- The even heads' results, transposed. -/
def evO (n : ℕ) : FVec F S128x256 .f32 :=
  k0_pay48 v5 (k0_pay19 v91 v100) (k0_pay21 v60 v76 v88 v91 v97 v100) (k0_pay23 v60 v76 v88 v91 v97 v100) (ev156 v60 v76 v88 v97 v91 v100)
    (ev158 v60 v76 v88 v97 v91 v100) (ev161 v60 v76 v88 v97 v91 v100) k0_pay38 (evA v60 v76 v88 v97 v91 v100 U Vt n).1 (evA v60 v76 v88 v97 v91 v100 U Vt n).2
/-- Head 0's result. -/
def ev0 (n : ℕ) : FVec F S1x128x128 .bf16 :=
  k0_pay50 (k0_pay49 v5 (k0_pay19 v91 v100) (k0_pay21 v60 v76 v88 v91 v97 v100) (k0_pay23 v60 v76 v88 v91 v97 v100) (ev156 v60 v76 v88 v97 v91 v100)
    (ev158 v60 v76 v88 v97 v91 v100) (ev161 v60 v76 v88 v97 v91 v100) k0_pay38 (evA v60 v76 v88 v97 v91 v100 U Vt n).1 (evA v60 v76 v88 v97 v91 v100 U Vt n).2)
/-- Head 2's result. -/
def ev2 (n : ℕ) : FVec F S1x128x128 .bf16 := k0_pay51 (evO v60 v76 v88 v97 v91 v100 U Vt v5 n)
end even

/-! ### The odd heads of the block -/

section odd
variable (v244 v352 : FVec F S1152x256 .f32) (v255 v264 : Vec F S1x1x1x128 .f32) (v258 v267 : Elt F .f32) (v362 : Vec F S1x1x128x1152 .fp8e4m3) (v5 : Elt F .f32)

/-- The odd heads' exponent chain, up to its fifth step. -/
def od323 : IVec S1x256 32 := k0_pay72 (k0_pay58 k0_pay6 v244 v255 v258 v264 v267) k0_pay60 k0_pay61
def od325 : IVec S1x256 1 := k0_pay73 (k0_pay58 k0_pay6 v244 v255 v258 v264 v267) k0_pay61
def od328 : FVec F S1x256 .f32 := k0_pay74 (k0_pay58 k0_pay6 v244 v255 v258 v264 v267) k0_pay61
/-- The odd heads' scale of the probabilities. -/
def od349 : FVec F S1x256 .f32 := k0_pay76 (k0_pay59 k0_pay6 v244 v255 v258 v264 v267) (od323 v244 v255 v264 v258 v267) (od325 v244 v255 v264 v258 v267) (od328 v244 v255 v264 v258 v267)
def od351 : FVec F S1x256 .f32 := k0_pay77 (k0_pay55 v258 v267) (k0_pay57 k0_pay6 v244 v255 v258 v264 v267)
def od368 : FVec F S128x256 .f32 :=
  k0_pay79 k0_pay8 (k0_pay54 v255 v264) (k0_pay57 k0_pay6 v244 v255 v258 v264 v267) (k0_pay59 k0_pay6 v244 v255 v258 v264 v267) (od323 v244 v255 v264 v258 v267) (od325 v244 v255 v264 v258 v267) (od328 v244 v255 v264 v258 v267) v352 v362
def od371 : FVec F S1x256 .f32 :=
  k0_pay80 k0_pay7 (k0_pay54 v255 v264) (k0_pay57 k0_pay6 v244 v255 v258 v264 v267) (k0_pay59 k0_pay6 v244 v255 v258 v264 v267) (od323 v244 v255 v264 v258 v267) (od325 v244 v255 v264 v258 v267) (od328 v244 v255 v264 v258 v267) v352
/-- Head 1's result. -/
def od1 : FVec F S1x128x128 .bf16 := k0_pay2 v5 (od349 v244 v255 v264 v258 v267) (od351 v244 v255 v264 v258 v267) (od368 v244 v352 v255 v264 v258 v267 v362) (od371 v244 v352 v255 v264 v258 v267)
/-- Head 3's result. -/
def od3 : FVec F S1x128x128 .bf16 := k0_pay3 v5 (od349 v244 v255 v264 v258 v267) (od351 v244 v255 v264 v258 v267) (od368 v244 v352 v255 v264 v258 v267 v362) (od371 v244 v352 v255 v264 v258 v267)
end odd

/-! ### The block -/

section block
variable (i : grid0.Coords) (X3 : S4x8.Idx → Elt F .f32) (X4 : S32.Idx → Elt F .f32) (X5 : S1x128x512.Idx → Elt F .fp8e4m3) (X6 : S1x1x32x128.Idx → Elt F .f32)
  (X7 : S1x8192x128.Idx → Elt F .fp8e4m3) (KS : S8192x128.Idx → Elt F .f32) (X9 : S1x1x128x8192.Idx → Elt F .fp8e4m3)

/-- The even heads' queries, one below the other. -/
def Q02 : FVec F S256x128 .fp8e4m3 := k0_pay9 (qC X5 0) (qC X5 256)
/-- The tail chunk's scores of the even heads, masked. -/
def tl : FVec F S512x256 .f32 :=
  k0_pay16 (BitVec.ofNat 32 (i 2).val) (k0_pay5 i) (Q02 X5) 4#32 (Scalar.divsi (BitVec.ofNat 32 (i 2).val) 4#32) 0#32 (kC X7 (tail i)) (sC KS (tail i))
/-- The even heads' scores, key by key: the full chunks, then the tail. -/
def U02 : S8192x256.Idx → Elt F .f32 := fun x =>
  if (x 0).val < tail i then uAll (Q02 X5) X7 KS x else k0_pay17 (tl i X5 X7 KS) (ix2 (Fin.ofNat 512 ((x 0).val % 512)) (x 1))
/-- The maximum of the full chunks' scores. -/
def M02 : FVec F S8x256 .f32 := mAt (Q02 X5) X7 KS k0_pay6 ((i 2).val / 4)
/-- The odd heads' scores in the window, masked. -/
def W13 : FVec F S1152x256 .f32 :=
  k0_pay52 (BitVec.ofNat 32 (i 2).val) (k0_pay5 i) (qC X5 128) (qC X5 384) (kW X7 (base i)) (sW KS (base i))

def o0 : FVec F S1x128x128 .bf16 := ev0 (M02 i X5 X7 KS) (tl i X5 X7 KS) (qsC X6 (4 * (i 1).val)) (qsC X6 (4 * (i 1).val + 2)) (snk X4 (4 * (i 1).val)) (snk X4 (4 * (i 1).val + 2)) (U02 i X5 X7 KS) X9 (vsc i X3) ((i 2).val / 4 + 1)
def o2 : FVec F S1x128x128 .bf16 := ev2 (M02 i X5 X7 KS) (tl i X5 X7 KS) (qsC X6 (4 * (i 1).val)) (qsC X6 (4 * (i 1).val + 2)) (snk X4 (4 * (i 1).val)) (snk X4 (4 * (i 1).val + 2)) (U02 i X5 X7 KS) X9 (vsc i X3) ((i 2).val / 4 + 1)
def o1 : FVec F S1x128x128 .bf16 := od1 (W13 i X5 X7 KS) (k0_pay53 (W13 i X5 X7 KS)) (qsC X6 (4 * (i 1).val + 1)) (qsC X6 (4 * (i 1).val + 3)) (snk X4 (4 * (i 1).val + 1)) (snk X4 (4 * (i 1).val + 3)) (vW X9 (base i)) (vsc i X3)
def o3 : FVec F S1x128x128 .bf16 := od3 (W13 i X5 X7 KS) (k0_pay53 (W13 i X5 X7 KS)) (qsC X6 (4 * (i 1).val + 1)) (qsC X6 (4 * (i 1).val + 3)) (snk X4 (4 * (i 1).val + 1)) (snk X4 (4 * (i 1).val + 3)) (vW X9 (base i)) (vsc i X3)

/-- The output block: the four heads side by side. -/
def OUT : S1x128x512.Idx → Elt F .bf16 := fun x =>
  let y : S1x128x128.Idx := ix3 (x 0) (x 1) (Fin.ofNat 128 ((x 2).val % 128))
  if (x 2).val < 128 then o0 i X3 X4 X5 X6 X7 KS X9 y
  else if (x 2).val < 256 then o1 i X3 X4 X5 X6 X7 KS X9 y
  else if (x 2).val < 384 then o2 i X3 X4 X5 X6 X7 KS X9 y
  else o3 i X3 X4 X5 X6 X7 KS X9 y
end block

/-- The accumulators depend on the visited chunks of scores alone. -/
theorem aAt_congr (v104 v109 : FVec F S1x256 .f32) (v115 : IVec S1x256 1) (v156 : IVec S1x256 32) (v158 : IVec S1x256 1) (v161 : FVec F S1x256 .f32) (v162 : IVec S1x256 32)
    (U U' : S8192x256.Idx → Elt F .f32) (Vt : S1x1x128x8192.Idx → Elt F .fp8e4m3) (init : FVec F S8x256 .f32 × FVec F S128x256 .f32) (n : ℕ) (hn : n ≤ 16)
    (h : ∀ x : S8192x256.Idx, (x 0).val < 512 * n → U x = U' x) :
    aAt v104 v109 v115 v156 v158 v161 v162 U Vt init n = aAt v104 v109 v115 v156 v158 v161 v162 U' Vt init n := by
  induction n with
  | zero => rfl
  | succ n ih =>
    have e : uC U (512 * n) = uC U' (512 * n) := by
      funext x
      refine h _ ?_
      have h0 : (x 0).val < 512 := (x 0).isLt
      show (512 * n + (x 0).val) % 8192 < 512 * (n + 1)
      rw [Nat.mod_eq_of_lt (by omega)]; omega
    simp only [aAt, ih (by omega) fun x hx => h x (by omega), e]

/-- A buffer holding the full chunks' scores, the tail's written over it, reads as `U02` on the visited chunks. -/
theorem tail_read {sp : Space} (v : View sig .tc sp S8192x256 .f32) (f : v.ty.Contents (Elt F)) (i : grid0.Coords)
    (X5 : S1x128x512.Idx → Elt F .fp8e4m3) (X7 : S1x8192x128.Idx → Elt F .fp8e4m3) (KS : S8192x128.Idx → Elt F .f32) (inb)
    (hf : Filled (v.read (Elt F) f) (uAll (Q02 X5) X7 KS) ((i 2).val / 4)) (x : S8192x256.Idx) (hx : (x 0).val < 512 * ((i 2).val / 4 + 1)) :
    v.read (Elt F) (v.writes (Elt F) f [⟨Rect.unit (s := S8192x256) (k0_off12 i) S512x256.size inb, k0_pay17 (tl i X5 X7 KS)⟩]) x = U02 i X5 X7 KS x := by
  rw [filled_iff] at hf
  have ht : tail i = 512 * ((i 2).val / 4) := rfl
  unfold U02
  split_ifs with h
  · rw [View.read_writes_cons_rows_of_not_mem (W := 512) v f inb _ [] x (off12 i) rfl (Or.inl h)]
    exact hf x h
  · refine View.read_writes_cons_rows_of_mem v f inb _ [] x _ (off12 i) ?_ rfl
    show (x 0).val = tail i + (x 0).val % 512 % 512
    omega

/-! ### The loads of the body -/

section loads
variable {sp : Space} (i : grid0.Coords)

theorem tail_le : tail i + 512 ≤ 8192 := by have := lt64 i; unfold tail; omega
theorem base_le : base i + 1152 ≤ 8192 := by have := lt64 i; unfold base; omega

theorem rd_q0 (v : View sig .tc sp S1x128x512 .fp8e4m3) (f : v.ty.Contents (Elt F)) (inb) :
    View.readAt (Elt F) v (Rect.unit (s := S1x128x512) ![0, 0, 0] S1x128x128.size inb).toLoadRect f = qC (v.read (Elt F) f) 0 := by
  rw [View.readAt_eq_ld]; exact ld_qC _ 0 _ rfl (by omega)
theorem rd_q1 (v : View sig .tc sp S1x128x512 .fp8e4m3) (f : v.ty.Contents (Elt F)) (inb) :
    View.readAt (Elt F) v (Rect.unit (s := S1x128x512) ![0, 0, 128] S1x128x128.size inb).toLoadRect f = qC (v.read (Elt F) f) 128 := by
  rw [View.readAt_eq_ld]; exact ld_qC _ 128 _ rfl (by omega)
theorem rd_q2 (v : View sig .tc sp S1x128x512 .fp8e4m3) (f : v.ty.Contents (Elt F)) (inb) :
    View.readAt (Elt F) v (Rect.unit (s := S1x128x512) ![0, 0, 256] S1x128x128.size inb).toLoadRect f = qC (v.read (Elt F) f) 256 := by
  rw [View.readAt_eq_ld]; exact ld_qC _ 256 _ rfl (by omega)
theorem rd_q3 (v : View sig .tc sp S1x128x512 .fp8e4m3) (f : v.ty.Contents (Elt F)) (inb) :
    View.readAt (Elt F) v (Rect.unit (s := S1x128x512) ![0, 0, 384] S1x128x128.size inb).toLoadRect f = qC (v.read (Elt F) f) 384 := by
  rw [View.readAt_eq_ld]; exact ld_qC _ 384 _ rfl (by omega)
theorem rd_kC (v : View sig .tc sp S1x8192x128 .fp8e4m3) (f : v.ty.Contents (Elt F)) (inb) :
    View.readAt (Elt F) v (Rect.unit (s := S1x8192x128) (k0_off10 i) S1x512x128.size inb).toLoadRect f = kC (v.read (Elt F) f) (tail i) := by
  rw [View.readAt_eq_ld]; exact ld_kC _ _ _ (off10 i) (tail_le i)
theorem rd_sC (v : View sig .tc sp S8192x128 .f32) (f : v.ty.Contents (Elt F)) (inb) :
    View.readAt (Elt F) v (Rect.unit (s := S8192x128) (k0_off11 i) S512x128.size inb).toLoadRect f = sC (v.read (Elt F) f) (tail i) := by
  rw [View.readAt_eq_ld]; exact ld_sC _ _ _ (off11 i) (tail_le i)
theorem rd_kW (v : View sig .tc sp S1x8192x128 .fp8e4m3) (f : v.ty.Contents (Elt F)) (inb) :
    View.readAt (Elt F) v (Rect.unit (s := S1x8192x128) (k0_off19 i) S1x1152x128.size inb).toLoadRect f = kW (v.read (Elt F) f) (base i) := by
  rw [View.readAt_eq_ld]; exact ld_kW _ _ _ (off19 i) (base_le i)
theorem rd_sW (v : View sig .tc sp S8192x128 .f32) (f : v.ty.Contents (Elt F)) (inb) :
    View.readAt (Elt F) v (Rect.unit (s := S8192x128) (k0_off20 i) S1152x128.size inb).toLoadRect f = sW (v.read (Elt F) f) (base i) := by
  rw [View.readAt_eq_ld]; exact ld_sW _ _ _ (off20 i) (base_le i)
theorem rd_vW (v : View sig .tc sp S1x1x128x8192 .fp8e4m3) (f : v.ty.Contents (Elt F)) (inb) :
    View.readAt (Elt F) v (Rect.unit (s := S1x1x128x8192) (k0_off21 i) S1x1x128x1152.size inb).toLoadRect f = vW (v.read (Elt F) f) (base i) := by
  rw [View.readAt_eq_ld]; exact ld_vW _ _ _ (off21 i) (base_le i)
theorem head_lt {n : ℕ} (h : n < 4) : 4 * (i 1).val + n < 32 := by have : (i 1).val < 8 := (i 1).isLt; omega
theorem rd_s0 (v : View sig .tc sp S1x1x32x128 .f32) (f : v.ty.Contents (Elt F)) (inb) :
    View.readAt (Elt F) v (Rect.unit (s := S1x1x32x128) (k0_off13 i 0#32 0#32) S1x1x1x128.size inb).toLoadRect f = qsC (v.read (Elt F) f) (4 * (i 1).val) := by
  rw [View.readAt_eq_ld]; exact ld_qsC _ _ _ (k0_off13_eq i 0 0) (head_lt i (n := 0) (by omega))
theorem rd_s2 (v : View sig .tc sp S1x1x32x128 .f32) (f : v.ty.Contents (Elt F)) (inb) :
    View.readAt (Elt F) v (Rect.unit (s := S1x1x32x128) (k0_off13 i 2#32 0#32) S1x1x1x128.size inb).toLoadRect f = qsC (v.read (Elt F) f) (4 * (i 1).val + 2) := by
  rw [View.readAt_eq_ld]; exact ld_qsC _ _ _ (k0_off13_eq i 1 0) (head_lt i (n := 2) (by omega))
theorem rd_s1 (v : View sig .tc sp S1x1x32x128 .f32) (f : v.ty.Contents (Elt F)) (inb) :
    View.readAt (Elt F) v (Rect.unit (s := S1x1x32x128) (k0_off13 i 0#32 1#32) S1x1x1x128.size inb).toLoadRect f = qsC (v.read (Elt F) f) (4 * (i 1).val + 1) := by
  rw [View.readAt_eq_ld]; exact ld_qsC _ _ _ (k0_off13_eq i 0 1) (head_lt i (n := 1) (by omega))
theorem rd_s3 (v : View sig .tc sp S1x1x32x128 .f32) (f : v.ty.Contents (Elt F)) (inb) :
    View.readAt (Elt F) v (Rect.unit (s := S1x1x32x128) (k0_off13 i 2#32 1#32) S1x1x1x128.size inb).toLoadRect f = qsC (v.read (Elt F) f) (4 * (i 1).val + 3) := by
  rw [View.readAt_eq_ld]; exact ld_qsC _ _ _ (k0_off13_eq i 1 1) (head_lt i (n := 3) (by omega))

theorem ld_snk (X : S32.Idx → Elt F .f32) {off : Fin 1 → ℕ} (n : ℕ) (inb) (h : off = ![n]) (hn : n < 32) (p) :
    View.ld (Val := Elt F) (e' := .f32) X (Rect.unit (s := S32) off S1.size inb) (Shape.Idx.first (s := S1) p) = snk X n := by
  subst h
  refine View.ld_unit_apply_of _ _ _ _ _ _ (fun a => ?_)
  fin_cases a
  show n % 32 = n + 0
  rw [Nat.mod_eq_of_lt hn]; rfl
theorem rd_k0 (v : View sig .tc sp S32 .f32) (f : v.ty.Contents (Elt F)) (inb) (p) :
    View.readAt (Elt F) v (Rect.unit (s := S32) (k0_off14 i 0#32 0#32) S1.size inb).toLoadRect f (Shape.Idx.first (s := S1) p) = snk (v.read (Elt F) f) (4 * (i 1).val) := by
  rw [View.readAt_eq_ld]; exact ld_snk _ (4 * (i 1).val) _ (k0_off14_eq i 0 0) (head_lt i (n := 0) (by omega)) p
theorem rd_k2 (v : View sig .tc sp S32 .f32) (f : v.ty.Contents (Elt F)) (inb) (p) :
    View.readAt (Elt F) v (Rect.unit (s := S32) (k0_off14 i 2#32 0#32) S1.size inb).toLoadRect f (Shape.Idx.first (s := S1) p) = snk (v.read (Elt F) f) (4 * (i 1).val + 2) := by
  rw [View.readAt_eq_ld]; exact ld_snk _ _ _ (k0_off14_eq i 1 0) (head_lt i (n := 2) (by omega)) p
theorem rd_k1 (v : View sig .tc sp S32 .f32) (f : v.ty.Contents (Elt F)) (inb) (p) :
    View.readAt (Elt F) v (Rect.unit (s := S32) (k0_off14 i 0#32 1#32) S1.size inb).toLoadRect f (Shape.Idx.first (s := S1) p) = snk (v.read (Elt F) f) (4 * (i 1).val + 1) := by
  rw [View.readAt_eq_ld]; exact ld_snk _ _ _ (k0_off14_eq i 0 1) (head_lt i (n := 1) (by omega)) p
theorem rd_k3 (v : View sig .tc sp S32 .f32) (f : v.ty.Contents (Elt F)) (inb) (p) :
    View.readAt (Elt F) v (Rect.unit (s := S32) (k0_off14 i 2#32 1#32) S1.size inb).toLoadRect f (Shape.Idx.first (s := S1) p) = snk (v.read (Elt F) f) (4 * (i 1).val + 3) := by
  rw [View.readAt_eq_ld]; exact ld_snk _ _ _ (k0_off14_eq i 1 1) (head_lt i (n := 3) (by omega)) p
theorem ld_vs (X : S4x8.Idx → Elt F .f32) {off : Fin 2 → ℕ} (inb) (h : off = ![(i 0).val, (i 1).val]) (p) :
    View.ld (Val := Elt F) (e' := .f32) X (Rect.unit (s := S4x8) off S1x1.size inb) (Shape.Idx.first (s := S1x1) p) = vsc i X := by
  subst h
  refine View.ld_unit_apply_of _ _ _ _ _ _ (fun a => ?_)
  have h0 : (i 0).val < 4 := (i 0).isLt
  have h1 : (i 1).val < 8 := (i 1).isLt
  fin_cases a
  · show (i 0).val % 4 = (i 0).val + 0
    omega
  · show (i 1).val % 8 = (i 1).val + 0
    omega
theorem rd_v (v : View sig .tc sp S4x8 .f32) (f : v.ty.Contents (Elt F)) (inb) (p) :
    View.readAt (Elt F) v (Rect.unit (s := S4x8) (k0_off3 i) S1x1.size inb).toLoadRect f (Shape.Idx.first (s := S1x1) p) = vsc i (v.read (Elt F) f) := by
  rw [View.readAt_eq_ld]; exact ld_vs i _ _ (k0_off3_eq i) p
end loads

/-- The block, read back from the four heads' stores. -/
theorem out_read {sp : Space} (v : View sig .tc sp S1x128x512 .bf16) (f : v.ty.Contents (Elt F)) (i : grid0.Coords)
    (X3 : S4x8.Idx → Elt F .f32) (X4 : S32.Idx → Elt F .f32) (X5 : S1x128x512.Idx → Elt F .fp8e4m3) (X6 : S1x1x32x128.Idx → Elt F .f32)
    (X7 : S1x8192x128.Idx → Elt F .fp8e4m3) (KS : S8192x128.Idx → Elt F .f32) (X9 : S1x1x128x8192.Idx → Elt F .fp8e4m3) (i3 i1 i2 i0) :
    v.read (Elt F) (v.writes (Elt F) f
      [⟨Rect.unit (s := S1x128x512) ![0, 0, 384] S1x128x128.size i3, o3 i X3 X4 X5 X6 X7 KS X9⟩,
       ⟨Rect.unit (s := S1x128x512) ![0, 0, 128] S1x128x128.size i1, o1 i X3 X4 X5 X6 X7 KS X9⟩,
       ⟨Rect.unit (s := S1x128x512) ![0, 0, 256] S1x128x128.size i2, o2 i X3 X4 X5 X6 X7 KS X9⟩,
       ⟨Rect.unit (s := S1x128x512) ![0, 0, 0] S1x128x128.size i0, o0 i X3 X4 X5 X6 X7 KS X9⟩])
      = OUT i X3 X4 X5 X6 X7 KS X9 := by
  funext x
  have h2 : (x 2).val < 512 := (x 2).isLt
  have key : ∀ o : ℕ, o ≤ (x 2).val → (x 2).val < o + 128 → o % 128 = 0 → ∀ a : Fin 3,
      (x a).val = (![0, 0, o] : Fin 3 → ℕ) a + ((ix3 (x 0) (x 1) (Fin.ofNat 128 ((x 2).val % 128)) : S1x128x128.Idx) a).val := by
    intro o ho ho' hm a
    fin_cases a
    · show (x 0).val = 0 + (x 0).val
      omega
    · show (x 1).val = 0 + (x 1).val
      omega
    · show (x 2).val = o + (x 2).val % 128 % 128
      omega
  have nk : ∀ o : ℕ, ((x 2).val < o ∨ o + 128 ≤ (x 2).val) → (x 2).val < (![0, 0, o] : Fin 3 → ℕ) 2 ∨ (![0, 0, o] : Fin 3 → ℕ) 2 + S1x128x128.size 2 ≤ (x 2).val :=
    fun o ho => ho
  unfold OUT
  dsimp only
  split_ifs with c1 c2 c3
  · rw [View.read_writes_cons_unit_of_not_mem _ _ _ _ _ _ rfl 2 (nk 384 (by omega)), View.read_writes_cons_unit_of_not_mem _ _ _ _ _ _ rfl 2 (nk 128 (by omega)),
      View.read_writes_cons_unit_of_not_mem _ _ _ _ _ _ rfl 2 (nk 256 (by omega))]
    exact View.read_writes_cons_unit_of_mem _ _ _ _ _ _ _ rfl (key 0 (by omega) (by omega) rfl)
  · rw [View.read_writes_cons_unit_of_not_mem _ _ _ _ _ _ rfl 2 (nk 384 (by omega))]
    exact View.read_writes_cons_unit_of_mem _ _ _ _ _ _ _ rfl (key 128 (by omega) (by omega) rfl)
  · rw [View.read_writes_cons_unit_of_not_mem _ _ _ _ _ _ rfl 2 (nk 384 (by omega)), View.read_writes_cons_unit_of_not_mem _ _ _ _ _ _ rfl 2 (nk 128 (by omega))]
    exact View.read_writes_cons_unit_of_mem _ _ _ _ _ _ _ rfl (key 256 (by omega) (by omega) rfl)
  · exact View.read_writes_cons_unit_of_mem _ _ _ _ _ _ _ rfl (key 384 (by omega) (by omega) rfl)

/-- The accumulators over the buffer the scores were left in are those over `U02`. -/
theorem aAt_tail {sp : Space} (v : View sig .tc sp S8192x256 .f32) (f : v.ty.Contents (Elt F)) (i : grid0.Coords)
    (X5 : S1x128x512.Idx → Elt F .fp8e4m3) (X7 : S1x8192x128.Idx → Elt F .fp8e4m3) (KS : S8192x128.Idx → Elt F .f32)
    (hf : Filled (v.read (Elt F) f) (uAll (Q02 X5) X7 KS) ((i 2).val / 4)) (inb)
    (v104 v109 : FVec F S1x256 .f32) (v115 : IVec S1x256 1) (v156 : IVec S1x256 32) (v158 : IVec S1x256 1) (v161 : FVec F S1x256 .f32) (v162 : IVec S1x256 32)
    (Vt : S1x1x128x8192.Idx → Elt F .fp8e4m3) (init : FVec F S8x256 .f32 × FVec F S128x256 .f32) :
    aAt v104 v109 v115 v156 v158 v161 v162
      (v.read (Elt F) (v.writes (Elt F) f [⟨Rect.unit (s := S8192x256) (k0_off12 i) S512x256.size inb,
        k0_pay17 (tl i X5 X7 KS)⟩]))
      Vt init ((i 2).val / 4 + 1)
    = aAt v104 v109 v115 v156 v158 v161 v162 (U02 i X5 X7 KS) Vt init ((i 2).val / 4 + 1) :=
  aAt_congr _ _ _ _ _ _ _ _ _ _ _ _ (by have := lt64 i; omega) fun x hx => tail_read v f i X5 X7 KS inb hf x hx

theorem tripsE1 : Scf.trips k0_t1_loop.lb k0_t1_loop.ub k0_t1_loop.st = 16 := trips1
theorem tripsE2 (i : grid0.Coords) : Scf.trips (k0_t2_loop i).lb (k0_t2_loop i).ub (k0_t2_loop i).st = (i 2).val / 4 := trips2 i
theorem tripsE3 (i : grid0.Coords) : Scf.trips (k0_t3_loop i).lb (k0_t3_loop i).ub (k0_t3_loop i).st = 0 := trips3 i
theorem tripsE4 (i : grid0.Coords) : Scf.trips (k0_t4_loop i).lb (k0_t4_loop i).ub (k0_t4_loop i).st = (i 2).val / 4 + 1 := trips4 i
theorem tripsE5 (i : grid0.Coords) : Scf.trips (k0_t5_loop i).lb (k0_t5_loop i).ub (k0_t5_loop i).st = 0 := trips5 i

/-- The kernel body at a key head's first query block, where it lays out the key scales first. -/
theorem kernelFill (c : Dev nD) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole)
    (hc : k0_cond1 i = 1#1) (X3 : S4x8.Idx → Elt F .f32)
    (X4 : S32.Idx → Elt F .f32)
    (X5 : S1x128x512.Idx → Elt F .fp8e4m3)
    (X6 : S1x1x32x128.Idx → Elt F .f32)
    (X7 : S1x8192x128.Idx → Elt F .fp8e4m3)
    (X8 : S1x8192x8.Idx → Elt F .f32)
    (X9 : S1x1x128x8192.Idx → Elt F .fp8e4m3) (Q : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f) ∗ (∃ f, pt c arg11 f) ∗ (∃ f, pt c arg12 f ∗ ⌜k0_cond1 i ≠ 1#1 → arg12.view.read (Elt F) f = ksb i X8⌝)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f ∗ ⌜arg10.view.read (Elt F) f = OUT i X3 X4 X5 X6 X7 (ksb i X8) X9⌝) ∗ (∃ f, pt c arg11 f) ∗ (∃ f, pt c arg12 f ∗ ⌜arg12.view.read (Elt F) f = ksb i X8⌝)) -∗ Q ⟨⟩))
    ⊢ wp frame (wpE (defs₀ (F := F)) Variants.none (c : Thread nD τ) none) Set.univ (cc0_sink_attention i arg3 harg3 arg4 harg4 arg5 harg5 arg6 harg6 arg7 harg7 arg8 harg8 arg9 harg9 arg10 harg10 arg11 harg11 arg12 harg12) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, H10⟩, ⟨%f11, H11⟩, ⟨%f12, H12, %h12⟩, Hk⟩
  subst h3; subst h4; subst h5; subst h6; subst h7; subst h8; subst h9
  rw [cc0_sink_attention_eq_skeleton]
  unfold cc0_sink_attention_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec!
  have hKS : arg12.view.read (Elt F) fL0 = ksb i (arg8.view.read (Elt F) f8) := by
    funext x
    exact (filled_iff _ _ _).1 hL2 x (Nat.lt_of_lt_of_eq (m := 8192) (x 0).isLt (congrArg (512 * ·) trips1).symm)
  sl_step
  iapply Hk
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H7]; · iexists _; isplitr; · ipureintro; exact rfl
                  iexact H7
  isplitl [H8]; · iexists _; isplitr; · ipureintro; exact rfl
                  iexact H8
  isplitl [H9]; · iexists _; isplitr; · ipureintro; exact rfl
                  iexact H9
  isplitl [H10]
  · iexists _
    isplitl [H10]; · iexact H10
    ipureintro
    have e0 : kernelFill.sl.r c i arg3 f3 = (vsc i (arg3.view.read (Elt F) f3)) := by
      delta kernelFill.sl.r
      rw [rd_v]
    have e1 : kernelFill.sl.r_1 c arg5 f5 = Q02 (arg5.view.read (Elt F) f5) := by
      delta kernelFill.sl.r_1 Q02
      rw [rd_q0, rd_q2]
    rw [tripsE2, hKS, e1] at hL6
    have e2 : kernelFill.sl.r_2 c i arg3 harg3 arg4 harg4 arg5 harg5 arg6 harg6 arg7 harg7 arg8 harg8 arg9 harg9 arg10 harg10 arg11 harg11 arg12 harg12 f5 f7 fL0 = (M02 i (arg5.view.read (Elt F) f5) (arg7.view.read (Elt F) f7) (ksb i (arg8.view.read (Elt F) f8))) := by
      delta kernelFill.sl.r_2 M02
      rw [tripsE3, st_k0_t3_zero, tripsE2, hKS, e1]
    have e3 : kernelFill.sl.r_3 c i arg5 arg7 arg12 f5 f7 fL0 = (tl i (arg5.view.read (Elt F) f5) (arg7.view.read (Elt F) f7) (ksb i (arg8.view.read (Elt F) f8))) := by
      delta kernelFill.sl.r_3 tl kernelFill.sl.v35
      rw [e1, rd_kC, rd_sC, hKS]
    have e4 : kernelFill.sl.r_4 c i arg4 f4 = (snk (arg4.view.read (Elt F) f4) (4 * (i 1).val)) := by
      delta kernelFill.sl.r_4
      rw [rd_k0]
    have e5 : kernelFill.sl.r_5 c i arg4 f4 = (snk (arg4.view.read (Elt F) f4) (4 * (i 1).val + 2)) := by
      delta kernelFill.sl.r_5
      rw [rd_k2]
    have e6 : kernelFill.sl.r_6 c i arg6 f6 = k0_pay18 (qsC (arg6.view.read (Elt F) f6) (4 * (i 1).val)) (qsC (arg6.view.read (Elt F) f6) (4 * (i 1).val + 2)) := by
      delta kernelFill.sl.r_6
      rw [rd_s0, rd_s2]
    have e7 : kernelFill.sl.r_7 c i arg4 f4 = k0_pay19 (snk (arg4.view.read (Elt F) f4) (4 * (i 1).val)) (snk (arg4.view.read (Elt F) f4) (4 * (i 1).val + 2)) := by
      delta kernelFill.sl.r_7
      rw [e4, e5]
    have e8 : kernelFill.sl.r_8 c i arg3 harg3 arg4 harg4 arg5 harg5 arg6 harg6 arg7 harg7 arg8 harg8 arg9 harg9 arg10 harg10 arg11 harg11 arg12 harg12 f4 f5 f6 f7 fL0 = k0_pay21 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelFill.sl.r_8
      rw [e2, e3, e4, e5, rd_s0, rd_s2]
    have e9 : kernelFill.sl.r_9 c i arg3 harg3 arg4 harg4 arg5 harg5 arg6 harg6 arg7 harg7 arg8 harg8 arg9 harg9 arg10 harg10 arg11 harg11 arg12 harg12 f4 f5 f6 f7 fL0 = k0_pay22 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelFill.sl.r_9
      rw [e2, e3, e4, e5, rd_s0, rd_s2]
    have e10 : kernelFill.sl.r_10 c i arg3 harg3 arg4 harg4 arg5 harg5 arg6 harg6 arg7 harg7 arg8 harg8 arg9 harg9 arg10 harg10 arg11 harg11 arg12 harg12 f4 f5 f6 f7 fL0 = k0_pay23 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelFill.sl.r_10
      rw [e2, e3, e4, e5, rd_s0, rd_s2]
    have e11 : kernelFill.sl.r_11 c i arg3 harg3 arg4 harg4 arg5 harg5 arg6 harg6 arg7 harg7 arg8 harg8 arg9 harg9 arg10 harg10 arg11 harg11 arg12 harg12 f4 f5 f6 f7 fL0 = k0_pay25 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelFill.sl.r_11
      rw [e2, e3, e4, e5, rd_s0, rd_s2]
    have e12 : kernelFill.sl.r_12 c i arg3 harg3 arg4 harg4 arg5 harg5 arg6 harg6 arg7 harg7 arg8 harg8 arg9 harg9 arg10 harg10 arg11 harg11 arg12 harg12 f4 f5 f6 f7 fL0 = ev156 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelFill.sl.r_12 ev156 kernelFill.sl.cst_46
      rw [e9, e11]
    have e13 : kernelFill.sl.r_13 c i arg3 harg3 arg4 harg4 arg5 harg5 arg6 harg6 arg7 harg7 arg8 harg8 arg9 harg9 arg10 harg10 arg11 harg11 arg12 harg12 f4 f5 f6 f7 fL0 = ev158 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelFill.sl.r_13 ev158 kernelFill.sl.cst_46
      rw [e9, e11]
    have e14 : kernelFill.sl.r_14 c i arg3 harg3 arg4 harg4 arg5 harg5 arg6 harg6 arg7 harg7 arg8 harg8 arg9 harg9 arg10 harg10 arg11 harg11 arg12 harg12 f4 f5 f6 f7 fL0 = ev161 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelFill.sl.r_14 ev161 kernelFill.sl.cst_46
      rw [e9, e11]
    have hA := aAt_tail arg11.view fL1 i _ _ _ hL6
    have e15 : kernelFill.sl.r_15 c i arg3 harg3 arg4 harg4 arg5 harg5 arg6 harg6 arg7 harg7 arg8 harg8 arg9 harg9 arg10 harg10 arg11 harg11 arg12 harg12 f3 f4 f5 f6 f7 f9 fL0 fL1 = evO (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) (vsc i (arg3.view.read (Elt F) f3)) ((i 2).val / 4 + 1) := by
      delta kernelFill.sl.r_15 evO evA
      rw [tripsE5, tripsE4, tripsE3, st_k0_t5_zero, st_k0_t3, e0, e3, e6, e7, e8, e10, e12, e13, e14]
      dsimp only
      rw [hA]
    have e16 : kernelFill.sl.r_16 c i arg3 harg3 arg4 harg4 arg5 harg5 arg6 harg6 arg7 harg7 arg8 harg8 arg9 harg9 arg10 harg10 arg11 harg11 arg12 harg12 f3 f4 f5 f6 f7 f9 fL0 fL1 = k0_pay49 (vsc i (arg3.view.read (Elt F) f3)) (k0_pay19 (snk (arg4.view.read (Elt F) f4) (4 * (i 1).val)) (snk (arg4.view.read (Elt F) f4) (4 * (i 1).val + 2))) (k0_pay21 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2))) (k0_pay23 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2))) (ev156 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) (ev158 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) (ev161 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) k0_pay38 (evA (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) ((i 2).val / 4 + 1)).1 (evA (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) ((i 2).val / 4 + 1)).2 := by
      delta kernelFill.sl.r_16 evA
      rw [tripsE5, tripsE4, tripsE3, st_k0_t5_zero, st_k0_t3, e0, e3, e6, e7, e8, e10, e12, e13, e14]
      dsimp only
      rw [hA]
    have e17 : kernelFill.sl.r_17 c i arg5 arg7 arg12 f5 f7 fL0 = (W13 i (arg5.view.read (Elt F) f5) (arg7.view.read (Elt F) f7) (ksb i (arg8.view.read (Elt F) f8))) := by
      delta kernelFill.sl.r_17 W13
      rw [rd_q1, rd_q3, rd_kW, rd_sW, hKS]
    have e18 : kernelFill.sl.r_18 c i arg4 f4 = (snk (arg4.view.read (Elt F) f4) (4 * (i 1).val + 1)) := by
      delta kernelFill.sl.r_18
      rw [rd_k1]
    have e19 : kernelFill.sl.r_19 c i arg4 f4 = (snk (arg4.view.read (Elt F) f4) (4 * (i 1).val + 3)) := by
      delta kernelFill.sl.r_19
      rw [rd_k3]
    have e20 : kernelFill.sl.r_20 c i arg6 f6 = k0_pay54 (qsC (arg6.view.read (Elt F) f6) (4 * (i 1).val + 1)) (qsC (arg6.view.read (Elt F) f6) (4 * (i 1).val + 3)) := by
      delta kernelFill.sl.r_20
      rw [rd_s1, rd_s3]
    have e21 : kernelFill.sl.r_21 c i arg4 f4 = k0_pay55 (snk (arg4.view.read (Elt F) f4) (4 * (i 1).val + 1)) (snk (arg4.view.read (Elt F) f4) (4 * (i 1).val + 3)) := by
      delta kernelFill.sl.r_21
      rw [e18, e19]
    have e22 : kernelFill.sl.r_22 c i arg4 arg5 arg6 arg7 arg12 f4 f5 f6 f7 fL0 = k0_pay57 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelFill.sl.r_22
      rw [e17, e18, e19, rd_s1, rd_s3]
    have e23 : kernelFill.sl.r_23 c i arg4 arg5 arg6 arg7 arg12 f4 f5 f6 f7 fL0 = k0_pay58 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelFill.sl.r_23
      rw [e17, e18, e19, rd_s1, rd_s3]
    have e24 : kernelFill.sl.r_24 c i arg4 arg5 arg6 arg7 arg12 f4 f5 f6 f7 fL0 = k0_pay59 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelFill.sl.r_24
      rw [e17, e18, e19, rd_s1, rd_s3]
    have e25 : kernelFill.sl.r_25 c i arg4 arg5 arg6 arg7 arg12 f4 f5 f6 f7 fL0 = od323 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_25 od323
      rw [e23]
    have e26 : kernelFill.sl.r_26 c i arg4 arg5 arg6 arg7 arg12 f4 f5 f6 f7 fL0 = od325 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_26 od325
      rw [e23]
    have e27 : kernelFill.sl.r_27 c i arg4 arg5 arg6 arg7 arg12 f4 f5 f6 f7 fL0 = od328 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_27 od328
      rw [e23]
    have e28 : kernelFill.sl.r_28 c i arg4 arg5 arg6 arg7 arg12 f4 f5 f6 f7 fL0 = od349 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_28 od349
      rw [e24, e25, e26, e27]
    have e29 : kernelFill.sl.r_29 c i arg4 arg5 arg6 arg7 arg12 f4 f5 f6 f7 fL0 = od351 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_29 od351
      rw [e21, e22]
    have ev : kernelFill.sl.v352 c i arg3 harg3 arg4 harg4 arg5 harg5 arg6 harg6 arg7 harg7 arg8 harg8 arg9 harg9 arg10 harg10 arg11 harg11 arg12 harg12 f5 f7 fL0 = k0_pay53 (W13 i (arg5.view.read (Elt F) f5) (arg7.view.read (Elt F) f7) (ksb i (arg8.view.read (Elt F) f8))) := by
      delta kernelFill.sl.v352 kernelFill.sl.H11_2
      rw [View.readCov_cons_toLoadRect, e17]
    have e30 : kernelFill.sl.r_30 c i arg3 harg3 arg4 harg4 arg5 harg5 arg6 harg6 arg7 harg7 arg8 harg8 arg9 harg9 arg10 harg10 arg11 harg11 arg12 harg12 f4 f5 f6 f7 f9 fL0 = od368 (W13 i (arg5.view.read (Elt F) f5) (arg7.view.read (Elt F) f7) (ksb i (arg8.view.read (Elt F) f8))) (k0_pay53 (W13 i (arg5.view.read (Elt F) f5) (arg7.view.read (Elt F) f7) (ksb i (arg8.view.read (Elt F) f8)))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) (vW (arg9.view.read (Elt F) f9) (base i)) := by
      delta kernelFill.sl.r_30 od368
      rw [e20, e22, e24, e25, e26, e27, ev, rd_vW]
    have e31 : kernelFill.sl.r_31 c i arg3 harg3 arg4 harg4 arg5 harg5 arg6 harg6 arg7 harg7 arg8 harg8 arg9 harg9 arg10 harg10 arg11 harg11 arg12 harg12 f4 f5 f6 f7 fL0 = od371 (W13 i (arg5.view.read (Elt F) f5) (arg7.view.read (Elt F) f7) (ksb i (arg8.view.read (Elt F) f8))) (k0_pay53 (W13 i (arg5.view.read (Elt F) f5) (arg7.view.read (Elt F) f7) (ksb i (arg8.view.read (Elt F) f8)))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelFill.sl.r_31 od371
      rw [e20, e22, e24, e25, e26, e27, ev]
    delta kernelFill.sl.H10_4
    rw [e0, e15, e16, e28, e29, e30, e31]
    exact out_read arg10.view _ i _ _ _ _ _ _ _ _ _ _ _
  isplitl [H11]; · iexists _; iexact H11
  iexists _
  isplitl [H12]; · iexact H12
  ipureintro; exact hKS

/-- The kernel body at a key head's later query blocks. -/
theorem kernelKeep (c : Dev nD) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole)
    (hc : k0_cond1 i ≠ 1#1) (X3 : S4x8.Idx → Elt F .f32)
    (X4 : S32.Idx → Elt F .f32)
    (X5 : S1x128x512.Idx → Elt F .fp8e4m3)
    (X6 : S1x1x32x128.Idx → Elt F .f32)
    (X7 : S1x8192x128.Idx → Elt F .fp8e4m3)
    (X8 : S1x8192x8.Idx → Elt F .f32)
    (X9 : S1x1x128x8192.Idx → Elt F .fp8e4m3) (Q : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f) ∗ (∃ f, pt c arg11 f) ∗ (∃ f, pt c arg12 f ∗ ⌜k0_cond1 i ≠ 1#1 → arg12.view.read (Elt F) f = ksb i X8⌝)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f ∗ ⌜arg10.view.read (Elt F) f = OUT i X3 X4 X5 X6 X7 (ksb i X8) X9⌝) ∗ (∃ f, pt c arg11 f) ∗ (∃ f, pt c arg12 f ∗ ⌜arg12.view.read (Elt F) f = ksb i X8⌝)) -∗ Q ⟨⟩))
    ⊢ wp frame (wpE (defs₀ (F := F)) Variants.none (c : Thread nD τ) none) Set.univ (cc0_sink_attention i arg3 harg3 arg4 harg4 arg5 harg5 arg6 harg6 arg7 harg7 arg8 harg8 arg9 harg9 arg10 harg10 arg11 harg11 arg12 harg12) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, H10⟩, ⟨%f11, H11⟩, ⟨%f12, H12, %h12⟩, Hk⟩
  subst h3; subst h4; subst h5; subst h6; subst h7; subst h8; subst h9
  rw [cc0_sink_attention_eq_skeleton]
  unfold cc0_sink_attention_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec!
  have hKS := h12 hc
  sl_step
  iapply Hk
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H7]; · iexists _; isplitr; · ipureintro; exact rfl
                  iexact H7
  isplitl [H8]; · iexists _; isplitr; · ipureintro; exact rfl
                  iexact H8
  isplitl [H9]; · iexists _; isplitr; · ipureintro; exact rfl
                  iexact H9
  isplitl [H10]
  · iexists _
    isplitl [H10]; · iexact H10
    ipureintro
    have e0 : kernelKeep.sl.r c i arg3 f3 = (vsc i (arg3.view.read (Elt F) f3)) := by
      delta kernelKeep.sl.r
      rw [rd_v]
    have e1 : kernelKeep.sl.r_1 c arg5 f5 = Q02 (arg5.view.read (Elt F) f5) := by
      delta kernelKeep.sl.r_1 Q02
      rw [rd_q0, rd_q2]
    rw [tripsE2, hKS, e1] at hL3
    have e2 : kernelKeep.sl.r_2 c i arg3 harg3 arg4 harg4 arg5 harg5 arg6 harg6 arg7 harg7 arg8 harg8 arg9 harg9 arg10 harg10 arg11 harg11 arg12 harg12 f5 f7 f12 = (M02 i (arg5.view.read (Elt F) f5) (arg7.view.read (Elt F) f7) (ksb i (arg8.view.read (Elt F) f8))) := by
      delta kernelKeep.sl.r_2 M02
      rw [tripsE3, st_k0_t3_zero, tripsE2, hKS, e1]
    have e3 : kernelKeep.sl.r_3 c i arg5 arg7 arg12 f5 f7 f12 = (tl i (arg5.view.read (Elt F) f5) (arg7.view.read (Elt F) f7) (ksb i (arg8.view.read (Elt F) f8))) := by
      delta kernelKeep.sl.r_3 tl kernelKeep.sl.v35
      rw [e1, rd_kC, rd_sC, hKS]
    have e4 : kernelKeep.sl.r_4 c i arg4 f4 = (snk (arg4.view.read (Elt F) f4) (4 * (i 1).val)) := by
      delta kernelKeep.sl.r_4
      rw [rd_k0]
    have e5 : kernelKeep.sl.r_5 c i arg4 f4 = (snk (arg4.view.read (Elt F) f4) (4 * (i 1).val + 2)) := by
      delta kernelKeep.sl.r_5
      rw [rd_k2]
    have e6 : kernelKeep.sl.r_6 c i arg6 f6 = k0_pay18 (qsC (arg6.view.read (Elt F) f6) (4 * (i 1).val)) (qsC (arg6.view.read (Elt F) f6) (4 * (i 1).val + 2)) := by
      delta kernelKeep.sl.r_6
      rw [rd_s0, rd_s2]
    have e7 : kernelKeep.sl.r_7 c i arg4 f4 = k0_pay19 (snk (arg4.view.read (Elt F) f4) (4 * (i 1).val)) (snk (arg4.view.read (Elt F) f4) (4 * (i 1).val + 2)) := by
      delta kernelKeep.sl.r_7
      rw [e4, e5]
    have e8 : kernelKeep.sl.r_8 c i arg3 harg3 arg4 harg4 arg5 harg5 arg6 harg6 arg7 harg7 arg8 harg8 arg9 harg9 arg10 harg10 arg11 harg11 arg12 harg12 f4 f5 f6 f7 f12 = k0_pay21 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelKeep.sl.r_8
      rw [e2, e3, e4, e5, rd_s0, rd_s2]
    have e9 : kernelKeep.sl.r_9 c i arg3 harg3 arg4 harg4 arg5 harg5 arg6 harg6 arg7 harg7 arg8 harg8 arg9 harg9 arg10 harg10 arg11 harg11 arg12 harg12 f4 f5 f6 f7 f12 = k0_pay22 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelKeep.sl.r_9
      rw [e2, e3, e4, e5, rd_s0, rd_s2]
    have e10 : kernelKeep.sl.r_10 c i arg3 harg3 arg4 harg4 arg5 harg5 arg6 harg6 arg7 harg7 arg8 harg8 arg9 harg9 arg10 harg10 arg11 harg11 arg12 harg12 f4 f5 f6 f7 f12 = k0_pay23 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelKeep.sl.r_10
      rw [e2, e3, e4, e5, rd_s0, rd_s2]
    have e11 : kernelKeep.sl.r_11 c i arg3 harg3 arg4 harg4 arg5 harg5 arg6 harg6 arg7 harg7 arg8 harg8 arg9 harg9 arg10 harg10 arg11 harg11 arg12 harg12 f4 f5 f6 f7 f12 = k0_pay25 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2)) := by
      delta kernelKeep.sl.r_11
      rw [e2, e3, e4, e5, rd_s0, rd_s2]
    have e12 : kernelKeep.sl.r_12 c i arg3 harg3 arg4 harg4 arg5 harg5 arg6 harg6 arg7 harg7 arg8 harg8 arg9 harg9 arg10 harg10 arg11 harg11 arg12 harg12 f4 f5 f6 f7 f12 = ev156 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelKeep.sl.r_12 ev156 kernelKeep.sl.cst_46
      rw [e9, e11]
    have e13 : kernelKeep.sl.r_13 c i arg3 harg3 arg4 harg4 arg5 harg5 arg6 harg6 arg7 harg7 arg8 harg8 arg9 harg9 arg10 harg10 arg11 harg11 arg12 harg12 f4 f5 f6 f7 f12 = ev158 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelKeep.sl.r_13 ev158 kernelKeep.sl.cst_46
      rw [e9, e11]
    have e14 : kernelKeep.sl.r_14 c i arg3 harg3 arg4 harg4 arg5 harg5 arg6 harg6 arg7 harg7 arg8 harg8 arg9 harg9 arg10 harg10 arg11 harg11 arg12 harg12 f4 f5 f6 f7 f12 = ev161 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) := by
      delta kernelKeep.sl.r_14 ev161 kernelKeep.sl.cst_46
      rw [e9, e11]
    have hA := aAt_tail arg11.view fL0 i _ _ _ hL3
    have e15 : kernelKeep.sl.r_15 c i arg3 harg3 arg4 harg4 arg5 harg5 arg6 harg6 arg7 harg7 arg8 harg8 arg9 harg9 arg10 harg10 arg11 harg11 arg12 harg12 f3 f4 f5 f6 f7 f9 f12 fL0 = evO (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) (vsc i (arg3.view.read (Elt F) f3)) ((i 2).val / 4 + 1) := by
      delta kernelKeep.sl.r_15 evO evA
      rw [tripsE5, tripsE4, tripsE3, st_k0_t5_zero, st_k0_t3, e0, e3, e6, e7, e8, e10, e12, e13, e14]
      dsimp only
      rw [hA]
    have e16 : kernelKeep.sl.r_16 c i arg3 harg3 arg4 harg4 arg5 harg5 arg6 harg6 arg7 harg7 arg8 harg8 arg9 harg9 arg10 harg10 arg11 harg11 arg12 harg12 f3 f4 f5 f6 f7 f9 f12 fL0 = k0_pay49 (vsc i (arg3.view.read (Elt F) f3)) (k0_pay19 (snk (arg4.view.read (Elt F) f4) (4 * (i 1).val)) (snk (arg4.view.read (Elt F) f4) (4 * (i 1).val + 2))) (k0_pay21 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2))) (k0_pay23 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (snk (arg4.view.read (Elt F) f4) (4 * (i 1).val)) (qsC (arg6.view.read (Elt F) f6) (4 * (i 1).val + 2)) (snk (arg4.view.read (Elt F) f4) (4 * (i 1).val + 2))) (ev156 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) (ev158 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) (ev161 (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2))) k0_pay38 (evA (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) ((i 2).val / 4 + 1)).1 (evA (M02 i (arg5.view.read (Elt F) f5) (arg7.view.read (Elt F) f7) (ksb i (arg8.view.read (Elt F) f8))) (tl i (arg5.view.read (Elt F) f5) (arg7.view.read (Elt F) f7) (ksb i (arg8.view.read (Elt F) f8))) (qsC (arg6.view.read (Elt F) f6) (4 * (i 1).val)) (qsC (arg6.view.read (Elt F) f6) (4 * (i 1).val + 2)) (snk (arg4.view.read (Elt F) f4) (4 * (i 1).val)) (snk (arg4.view.read (Elt F) f4) (4 * (i 1).val + 2)) (U02 i (arg5.view.read (Elt F) f5) (arg7.view.read (Elt F) f7) (ksb i (arg8.view.read (Elt F) f8))) (arg9.view.read (Elt F) f9) ((i 2).val / 4 + 1)).2 := by
      delta kernelKeep.sl.r_16 evA
      rw [tripsE5, tripsE4, tripsE3, st_k0_t5_zero, st_k0_t3, e0, e3, e6, e7, e8, e10, e12, e13, e14]
      dsimp only
      rw [hA]
    have e17 : kernelKeep.sl.r_17 c i arg5 arg7 arg12 f5 f7 f12 = (W13 i (arg5.view.read (Elt F) f5) (arg7.view.read (Elt F) f7) (ksb i (arg8.view.read (Elt F) f8))) := by
      delta kernelKeep.sl.r_17 W13
      rw [rd_q1, rd_q3, rd_kW, rd_sW, hKS]
    have e18 : kernelKeep.sl.r_18 c i arg4 f4 = (snk (arg4.view.read (Elt F) f4) (4 * (i 1).val + 1)) := by
      delta kernelKeep.sl.r_18
      rw [rd_k1]
    have e19 : kernelKeep.sl.r_19 c i arg4 f4 = (snk (arg4.view.read (Elt F) f4) (4 * (i 1).val + 3)) := by
      delta kernelKeep.sl.r_19
      rw [rd_k3]
    have e20 : kernelKeep.sl.r_20 c i arg6 f6 = k0_pay54 (qsC (arg6.view.read (Elt F) f6) (4 * (i 1).val + 1)) (qsC (arg6.view.read (Elt F) f6) (4 * (i 1).val + 3)) := by
      delta kernelKeep.sl.r_20
      rw [rd_s1, rd_s3]
    have e21 : kernelKeep.sl.r_21 c i arg4 f4 = k0_pay55 (snk (arg4.view.read (Elt F) f4) (4 * (i 1).val + 1)) (snk (arg4.view.read (Elt F) f4) (4 * (i 1).val + 3)) := by
      delta kernelKeep.sl.r_21
      rw [e18, e19]
    have e22 : kernelKeep.sl.r_22 c i arg4 arg5 arg6 arg7 arg12 f4 f5 f6 f7 f12 = k0_pay57 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelKeep.sl.r_22
      rw [e17, e18, e19, rd_s1, rd_s3]
    have e23 : kernelKeep.sl.r_23 c i arg4 arg5 arg6 arg7 arg12 f4 f5 f6 f7 f12 = k0_pay58 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelKeep.sl.r_23
      rw [e17, e18, e19, rd_s1, rd_s3]
    have e24 : kernelKeep.sl.r_24 c i arg4 arg5 arg6 arg7 arg12 f4 f5 f6 f7 f12 = k0_pay59 k0_pay6 (W13 i (arg5.view.read (Elt F) f5) (arg7.view.read (Elt F) f7) (ksb i (arg8.view.read (Elt F) f8))) (qsC (arg6.view.read (Elt F) f6) (4 * (i 1).val + 1)) (snk (arg4.view.read (Elt F) f4) (4 * (i 1).val + 1)) (qsC (arg6.view.read (Elt F) f6) (4 * (i 1).val + 3)) (snk (arg4.view.read (Elt F) f4) (4 * (i 1).val + 3)) := by
      delta kernelKeep.sl.r_24
      rw [e17, e18, e19, rd_s1, rd_s3]
    have e25 : kernelKeep.sl.r_25 c i arg4 arg5 arg6 arg7 arg12 f4 f5 f6 f7 f12 = od323 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_25 od323
      rw [e23]
    have e26 : kernelKeep.sl.r_26 c i arg4 arg5 arg6 arg7 arg12 f4 f5 f6 f7 f12 = od325 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_26 od325
      rw [e23]
    have e27 : kernelKeep.sl.r_27 c i arg4 arg5 arg6 arg7 arg12 f4 f5 f6 f7 f12 = od328 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_27 od328
      rw [e23]
    have e28 : kernelKeep.sl.r_28 c i arg4 arg5 arg6 arg7 arg12 f4 f5 f6 f7 f12 = od349 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_28 od349
      rw [e24, e25, e26, e27]
    have e29 : kernelKeep.sl.r_29 c i arg4 arg5 arg6 arg7 arg12 f4 f5 f6 f7 f12 = od351 (W13 i (arg5.view.read (Elt F) f5) (arg7.view.read (Elt F) f7) (ksb i (arg8.view.read (Elt F) f8))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_29 od351
      rw [e21, e22]
    have ev : kernelKeep.sl.v352 c i arg3 harg3 arg4 harg4 arg5 harg5 arg6 harg6 arg7 harg7 arg8 harg8 arg9 harg9 arg10 harg10 arg11 harg11 arg12 harg12 f5 f7 f12 = k0_pay53 (W13 i (arg5.view.read (Elt F) f5) (arg7.view.read (Elt F) f7) (ksb i (arg8.view.read (Elt F) f8))) := by
      delta kernelKeep.sl.v352 kernelKeep.sl.H11_2
      rw [View.readCov_cons_toLoadRect, e17]
    have e30 : kernelKeep.sl.r_30 c i arg3 harg3 arg4 harg4 arg5 harg5 arg6 harg6 arg7 harg7 arg8 harg8 arg9 harg9 arg10 harg10 arg11 harg11 arg12 harg12 f4 f5 f6 f7 f9 f12 = od368 (W13 i (arg5.view.read (Elt F) f5) (arg7.view.read (Elt F) f7) (ksb i (arg8.view.read (Elt F) f8))) (k0_pay53 (W13 i (arg5.view.read (Elt F) f5) (arg7.view.read (Elt F) f7) (ksb i (arg8.view.read (Elt F) f8)))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) (vW (arg9.view.read (Elt F) f9) (base i)) := by
      delta kernelKeep.sl.r_30 od368
      rw [e20, e22, e24, e25, e26, e27, ev, rd_vW]
    have e31 : kernelKeep.sl.r_31 c i arg3 harg3 arg4 harg4 arg5 harg5 arg6 harg6 arg7 harg7 arg8 harg8 arg9 harg9 arg10 harg10 arg11 harg11 arg12 harg12 f4 f5 f6 f7 f12 = od371 (W13 i (arg5.view.read (Elt F) f5) (arg7.view.read (Elt F) f7) (ksb i (arg8.view.read (Elt F) f8))) (k0_pay53 (W13 i (arg5.view.read (Elt F) f5) (arg7.view.read (Elt F) f7) (ksb i (arg8.view.read (Elt F) f8)))) (qsC (arg6.view.read (Elt F) f6) (4 * (i 1).val + 1)) (qsC (arg6.view.read (Elt F) f6) (4 * (i 1).val + 3)) (snk (arg4.view.read (Elt F) f4) (4 * (i 1).val + 1)) (snk (arg4.view.read (Elt F) f4) (4 * (i 1).val + 3)) := by
      delta kernelKeep.sl.r_31 od371
      rw [e20, e22, e24, e25, e26, e27, ev]
    delta kernelKeep.sl.H10_4
    rw [e0, e15, e16, e28, e29, e30, e31]
    exact out_read arg10.view _ i _ _ _ _ _ _ _ _ _ _ _
  isplitl [H11]; · iexists _; iexact H11
  iexists _
  isplitl [H12]; · iexact H12
  ipureintro; exact hKS

/-- The kernel body at any point, on any memrefs: from its inputs at their contents, its output block and its scores'
    buffer at any, and its scale buffer at the key head's scales unless this point fills it, it runs to its return, hands
    the inputs back unchanged, leaves the output block at `OUT` and the scale buffer at the key head's scales. -/
theorem kernelExact (c : Dev nD) (i : grid0.Coords) (arg3 : Memref sig .tc .smem S4x8 .f32) (harg3 : arg3.IsWhole) (arg4 : Memref sig .tc .smem S32 .f32) (harg4 : arg4.IsWhole) (arg5 : Memref sig .tc .vmem S1x128x512 .fp8e4m3) (harg5 : arg5.IsWhole) (arg6 : Memref sig .tc .vmem S1x1x32x128 .f32) (harg6 : arg6.IsWhole) (arg7 : Memref sig .tc .vmem S1x8192x128 .fp8e4m3) (harg7 : arg7.IsWhole) (arg8 : Memref sig .tc .vmem S1x8192x8 .f32) (harg8 : arg8.IsWhole) (arg9 : Memref sig .tc .vmem S1x1x128x8192 .fp8e4m3) (harg9 : arg9.IsWhole) (arg10 : Memref sig .tc .vmem S1x128x512 .bf16) (harg10 : arg10.IsWhole) (arg11 : Memref sig .tc .vmem S8192x256 .f32) (harg11 : arg11.IsWhole) (arg12 : Memref sig .tc .vmem S8192x128 .f32) (harg12 : arg12.IsWhole)
    (X3 : S4x8.Idx → Elt F .f32)
    (X4 : S32.Idx → Elt F .f32)
    (X5 : S1x128x512.Idx → Elt F .fp8e4m3)
    (X6 : S1x1x32x128.Idx → Elt F .f32)
    (X7 : S1x8192x128.Idx → Elt F .fp8e4m3)
    (X8 : S1x8192x8.Idx → Elt F .f32)
    (X9 : S1x1x128x8192.Idx → Elt F .fp8e4m3) (Q : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f) ∗ (∃ f, pt c arg11 f) ∗ (∃ f, pt c arg12 f ∗ ⌜k0_cond1 i ≠ 1#1 → arg12.view.read (Elt F) f = ksb i X8⌝)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ f, pt c arg10 f ∗ ⌜arg10.view.read (Elt F) f = OUT i X3 X4 X5 X6 X7 (ksb i X8) X9⌝) ∗ (∃ f, pt c arg11 f) ∗ (∃ f, pt c arg12 f ∗ ⌜arg12.view.read (Elt F) f = ksb i X8⌝)) -∗ Q ⟨⟩))
    ⊢ wp frame (wpE (defs₀ (F := F)) Variants.none (c : Thread nD τ) none) Set.univ (cc0_sink_attention i arg3 harg3 arg4 harg4 arg5 harg5 arg6 harg6 arg7 harg7 arg8 harg8 arg9 harg9 arg10 harg10 arg11 harg11 arg12 harg12) Q := by
  by_cases hc : k0_cond1 i = 1#1
  · exact kernelFill c i arg3 harg3 arg4 harg4 arg5 harg5 arg6 harg6 arg7 harg7 arg8 harg8 arg9 harg9 arg10 harg10 arg11 harg11 arg12 harg12 hc X3 X4 X5 X6 X7 X8 X9 Q
  · exact kernelKeep c i arg3 harg3 arg4 harg4 arg5 harg5 arg6 harg6 arg7 harg7 arg8 harg8 arg9 harg9 arg10 harg10 arg11 harg11 arg12 harg12 hc X3 X4 X5 X6 X7 X8 X9 Q

end Cert.KernelIdeal.Hand

end
-- ==== Proof.KernelIdealRun.lean ====
/-
  The run of the attention kernel, at any reading of the floats: from any memory the launch terminates, nothing faults,
  the argument arrays end as they were, every semaphore counter ends at zero, and the result array ends at `RES`, each
  grid point's block as the body computes it from the blocks it reads. The scale buffer is tracked from point to point:
  at a key head's later query blocks it still holds the key head's scales.
-/
module

public import proofs.«01_k».proof.Proof.Gen.KernelIdeal.Frame
public import proofs.«01_k».proof.Proof.Body
public import Idealize.ShloMosaic.Lib.Pipeline.ValueKit
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

/-- The blocks' places: the batch, the key head and the query block of a grid point, read off its number. -/
theorem idx : ∀ t : Fin cfg0.N,
    win0_0.index t = ![0, 0] ∧ win0_1.index t = ![0]
    ∧ win0_2.index t = ![t.val / 512, t.val % 64, t.val / 64 % 8]
    ∧ win0_3.index t = ![t.val / 512, t.val % 64, 0, 0]
    ∧ win0_4.index t = ![t.val / 512, 0, t.val / 64 % 8]
    ∧ win0_5.index t = ![t.val / 512, 0, 0]
    ∧ win0_6.index t = ![t.val / 512, t.val / 64 % 8, 0, 0]
    ∧ win0_7.index t = ![t.val / 512, t.val % 64, t.val / 64 % 8] :=
  (by decide +kernel : ∀ t : Fin grid0.N, _)
/-- A grid point's coordinates. -/
theorem crd : ∀ t : Fin cfg0.N, (grid0.coords t 0).val = t.val / 512 ∧ (grid0.coords t 1).val = t.val / 64 % 8 ∧ (grid0.coords t 2).val = t.val % 64 :=
  (by decide +kernel : ∀ t : Fin grid0.N, _)
/-- The scales are laid out at the first query block of each key head. -/
theorem cond : ∀ t : Fin cfg0.N, (k0_cond1 (grid0.coords t) = 1#1 ↔ t.val % 64 = 0) :=
  (by decide +kernel : ∀ t : Fin grid0.N, _)

/-- The scales as laid out depend on the key head alone. -/
theorem ksb_congr {i j : grid0.Coords} (h : (i 1).val = (j 1).val) (X : S1x8192x8.Idx → Elt F .f32) : ksb i X = ksb j X := by
  unfold ksb k0_pay4; rw [h]

/-- The key scales' block is the batch's, at every grid point. -/
theorem iblk5 (c : Dev nD) (t : Fin cfg0.N) (x : S1x8192x8.Idx) :
    iblk m c 5 t x = m ((c : Thread nD τ).loc main_arg5) (ix3 ((Fin.ofNat 4 (t.val / 512) : Fin 4)) (x 1) (x 2)) := by
  have ht : t.val < 2048 := t.isLt
  blk_ext [iblk, V, idx t]
  rw [Fin.val_ofNat]; omega

/-- Two consecutive points of one key head read the same scales. -/
theorem ksb_next (c : Dev nD) (t s : Fin cfg0.N) (h : s.val = t.val + 1) (hs : k0_cond1 (grid0.coords s) ≠ 1#1) :
    ksb (grid0.coords s) (iblk m c 5 s) = ksb (grid0.coords t) (iblk m c 5 t) := by
  have h0 : ¬ s.val % 64 = 0 := fun e => hs ((cond s).2 e)
  have e : iblk m c 5 s = iblk m c 5 t := by
    funext x
    rw [iblk5, iblk5, show s.val / 512 = t.val / 512 by omega]
  rw [e]
  exact ksb_congr (by rw [(crd s).2.1, (crd t).2.1]; omega) _

/-! ## The proof data -/

/-- The block the body leaves at point `t`. -/
def blkOut (c : Dev nD) (t : Fin cfg0.N) : S1x128x512.Idx → Elt F .bf16 :=
  OUT (grid0.coords t) (iblk m c 0 t) (iblk m c 1 t) (iblk m c 2 t) (iblk m c 3 t) (iblk m c 4 t) (ksb (grid0.coords t) (iblk m c 5 t)) (iblk m c 6 t)

/-- Before point number `n` the scale buffer holds that point's scales, unless the point lays them out itself. -/
def Kept (c : Dev nD) (n : ℕ) (f : BufTy.Contents (Elt F) (Memref.whole cc0_scratch1).view.ty) : Prop :=
  ∀ s : Fin cfg0.N, s.val = n → k0_cond1 (grid0.coords s) ≠ 1#1 →
    (Memref.whole cc0_scratch1).view.read (Elt F) f = ksb (grid0.coords s) (iblk m c 5 s)

/-- What the body carries from point to point. -/
def Phi (c : Dev nD) (n : ℕ) : sProp 𝕄 :=
  iprop(((∃ f, pt (F := F) c (Memref.whole cc0_scratch0) f) ∗ (∃ f, pt (F := F) c (Memref.whole cc0_scratch1) f ∗ ⌜Kept m c n f⌝)) ∗ (∃ g, prngReg c g))

/-- The proof data on core `c`: the arrays as the region finds them; each input's buffer left at its block, the output's
    at `blkOut`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blkOut m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

theorem after0_7 (c : Dev nD) (t : Fin cfg0.N) : (dats m 0 c).after 7 t = blkOut m c t := by dsimp only [dats]

/-- The invariant, its two scratch buffers one by one and the generator register. -/
theorem PhiA_eq (c : Dev nD) :
    (Pipeline.ΦA spec0 c : sProp 𝕄)
      = iprop(((∃ f, pt (F := F) c (Memref.whole cc0_scratch0) f) ∗ (∃ f, pt (F := F) c (Memref.whole cc0_scratch1) f))
        ∗ (∃ g, prngReg c g)) := by
  unfold Pipeline.ΦA; rw [scopedRest0_eq]
  simp only [pt, Memref.view_whole, View.set_whole]

/-- Before the first point the invariant asks nothing of the scratch. -/
theorem Phi_in (c : Dev nD) : (Pipeline.ΦA spec0 c : sProp 𝕄) ⊢ (dats m 0 c).Φ 0 := by
  rw [PhiA_eq, show (dats m 0 c).Φ 0 = Phi m c 0 from rfl]
  unfold Phi
  iintro ⟨⟨H0, ⟨%f, H1⟩⟩, Hg⟩
  isplitr [Hg]
  · isplitl [H0]; · iexact H0
    iexists _
    isplitl [H1]; · iexact H1
    ipureintro
    exact fun s hs hc => absurd ((cond s).2 (by rw [hs])) hc
  iexact Hg
/-- After the last point the scratch is forgotten. -/
theorem Phi_out (c : Dev nD) : (dats m 0 c).Φ (Fin.last cfg0.N) ⊢ (Pipeline.ΦA spec0 c : sProp 𝕄) := by
  rw [PhiA_eq, show (dats m 0 c).Φ (Fin.last cfg0.N) = Phi m c (Fin.last cfg0.N).val from rfl]
  unfold Phi
  iintro ⟨⟨H0, ⟨%f, H1, -⟩⟩, Hg⟩
  isplitr [Hg]
  · isplitl [H0]; · iexact H0
    iexists _; iexact H1
  iexact Hg

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `kernelRun` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6, after0_7]
  unfold Phi
  iintro ⟨⟨⟨⟨%g11, HS0⟩, ⟨%g12, HS1, %hk⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelExact c (grid0.coords t) (st0_0 t) _ (st0_1 t) _ (st0_2 t) _ (st0_3 t) _ (st0_4 t) _ (st0_5 t) _ (st0_6 t) _ (st0_7 t) _
    (Memref.whole cc0_scratch0) _ (Memref.whole cc0_scratch1) _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns
    icases H7 with ⟨%f7, -, H7⟩
    iexists _; iexact H7
  isplitl [HS0]; · iexists _; iexact HS0
  isplitl [HS1]
  · iexists _
    isplitl [HS1]; · iexact HS1
    ipureintro; exact fun h => hk t rfl h
  iintro ⟨H0, H1, H2, H3, H4, H5, H6, ⟨%f7, H7, %h7⟩, ⟨%f11, HS0⟩, ⟨%f12, HS1, %h12⟩⟩
  isplitl [HS0 HS1 Hg]
  · isplitl [HS0 HS1]
    · isplitl [HS0]; · iexists _; iexact HS0
      iexists _
      isplitl [HS1]; · iexact HS1
      ipureintro; exact fun s hs hc => h12.trans (ksb_next m c t s hs hc).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr; swap; · iexact H7
  ipureintro; exact h7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
set_option maxHeartbeats 800000 in
/-- The launch: every execution terminates, with every array at its proof data's contents and every semaphore counter
    at zero. -/
theorem run_main :
    θ_run defs (onTc (τ := τ) (main (F := F))) (s₀ m ρ)
      (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

/-! ## The result array -/

/-- The grid point that writes a result index. -/
def pnt (x : S4x8192x4096.Idx) : Fin cfg0.N :=
  ⟨((x 0).val * 8 + (x 2).val / 512) * 64 + (x 1).val / 128, by
    have h0 : (x 0).val < 4 := (x 0).isLt
    have h1 : (x 1).val < 8192 := (x 1).isLt
    have h2 : (x 2).val < 4096 := (x 2).isLt
    show _ < 2048
    omega⟩
theorem pnt_val (x : S4x8192x4096.Idx) : (pnt x).val = ((x 0).val * 8 + (x 2).val / 512) * 64 + (x 1).val / 128 := rfl
/-- The result array: at each index, what the body leaves there at the point that writes it. -/
def RES (c : Dev nD) : S4x8192x4096.Idx → Elt F .bf16 := fun x =>
  blkOut m c (pnt x) (ix3 0 (Fin.ofNat 128 ((x 1).val % 128)) (Fin.ofNat 512 ((x 2).val % 512)))

theorem final (c : Dev nD) : (dats m 0 c).arrAt 7 (cfgs 0).N = RES m c := by
  refine (dats m 0 c).arrAt_eq_of_covers 7 _ (by decide +kernel) fun t _ y => ?_
  blk_simp
  rw [after0_7]
  have ht : t.val < 2048 := t.isLt
  have e1 : pnt (((cfg0.win 7).blk t).view.emb y) = t := by
    apply Fin.ext
    rw [pnt_val]
    blk_simp [idx t]
    idx_bounds
    omega
  have e2 : (ix3 0 (Fin.ofNat 128 (((((cfg0.win 7).blk t).view.emb y) 1).val % 128)) (Fin.ofNat 512 (((((cfg0.win 7).blk t).view.emb y) 2).val % 512)) : S1x128x512.Idx) = y := by
    blk_ext [idx t]
    all_goals (rw [Fin.val_ofNat]; omega)
  unfold RES
  rw [e1, e2]

/-- The launch with its result named: it terminates, the result array ends at `RES`, the argument arrays end unchanged. -/
theorem run : θ_run defs (onTc (τ := τ) (main (F := F))) ⟨m, fun _ => 0, ρ⟩ (fun r => (∀ c : Dev nD,
      r.2.mem ((c.tc : Thread nD τ).loc main_v0) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 7).trans (final m c),
      (((h.1 c).1 0).trans ((dats m 0 c).arrAt_in 0 rfl _)).trans ((A_eq m c 0).trans (V_main_arg0 m c)),
      (((h.1 c).1 1).trans ((dats m 0 c).arrAt_in 1 rfl _)).trans ((A_eq m c 1).trans (V_main_arg1 m c)),
      (((h.1 c).1 2).trans ((dats m 0 c).arrAt_in 2 rfl _)).trans ((A_eq m c 2).trans (V_main_arg2 m c)),
      (((h.1 c).1 3).trans ((dats m 0 c).arrAt_in 3 rfl _)).trans ((A_eq m c 3).trans (V_main_arg3 m c)),
      (((h.1 c).1 4).trans ((dats m 0 c).arrAt_in 4 rfl _)).trans ((A_eq m c 4).trans (V_main_arg4 m c)),
      (((h.1 c).1 5).trans ((dats m 0 c).arrAt_in 5 rfl _)).trans ((A_eq m c 5).trans (V_main_arg5 m c)),
      (((h.1 c).1 6).trans ((dats m 0 c).arrAt_in 6 rfl _)).trans ((A_eq m c 6).trans (V_main_arg6 m c))⟩, h.2⟩) (run_main m ρ)

/-- THE FRAME: the launch terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run m ρ)

end Cert.KernelIdeal.Hand

end
-- ==== Proof.RefRead.lean ====
/-
  The reference's host operations, one at a time. `val_<buffer>` is the value an operation writes, as a function of the
  values it depends on: the arguments, with the codes as the reference's cast leaves them. `val_<buffer>_apply` reads it
  at an index from the operands at an index; a contraction or a float sum is read, at the ideal reading of the floats, as
  a sum over the contracted axis.
-/
module

public import proofs.«01_k».proof.Proof.Gen.ReferenceIdeal.Frame
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg2 : (tensor<4x8192x4096xf32>) -> tensor<4x8192x8x4x128xf32>
def val_main_v0 (x2 : (⟨S4x8192x4096, .f32⟩ : BufTy).Contents (Elt F)) : (⟨S4x8192x8x4x128, .f32⟩ : BufTy).Contents (Elt F) :=
  shapeCast _ (x2) shapeCasts_S4x8192x4096_S4x8192x8x4x128
set_option backward.proofsInPublic true in
abbrev idx_main_v0 (i : S4x8192x8x4x128.Idx) : S4x8192x4096.Idx := fun a => match a with
  | ⟨0, _⟩ => ⟨(((((i 0).val * 8192 + (i 1).val) * 8 + (i 2).val) * 4 + (i 3).val) * 128 + (i 4).val) / 33554432, by have h0 : (i 0).val < 4 := (i 0).isLt; have h1 : (i 1).val < 8192 := (i 1).isLt; have h2 : (i 2).val < 8 := (i 2).isLt; have h3 : (i 3).val < 4 := (i 3).isLt; have h4 : (i 4).val < 128 := (i 4).isLt; show (((((i 0).val * 8192 + (i 1).val) * 8 + (i 2).val) * 4 + (i 3).val) * 128 + (i 4).val) / 33554432 < 4; omega⟩
  | ⟨1, _⟩ => ⟨(((((i 0).val * 8192 + (i 1).val) * 8 + (i 2).val) * 4 + (i 3).val) * 128 + (i 4).val) / 4096 % 8192, by have h0 : (i 0).val < 4 := (i 0).isLt; have h1 : (i 1).val < 8192 := (i 1).isLt; have h2 : (i 2).val < 8 := (i 2).isLt; have h3 : (i 3).val < 4 := (i 3).isLt; have h4 : (i 4).val < 128 := (i 4).isLt; show (((((i 0).val * 8192 + (i 1).val) * 8 + (i 2).val) * 4 + (i 3).val) * 128 + (i 4).val) / 4096 % 8192 < 8192; omega⟩
  | ⟨2, _⟩ => ⟨(((((i 0).val * 8192 + (i 1).val) * 8 + (i 2).val) * 4 + (i 3).val) * 128 + (i 4).val) % 4096, by have h0 : (i 0).val < 4 := (i 0).isLt; have h1 : (i 1).val < 8192 := (i 1).isLt; have h2 : (i 2).val < 8 := (i 2).isLt; have h3 : (i 3).val < 4 := (i 3).isLt; have h4 : (i 4).val < 128 := (i 4).isLt; show (((((i 0).val * 8192 + (i 1).val) * 8 + (i 2).val) * 4 + (i 3).val) * 128 + (i 4).val) % 4096 < 4096; omega⟩
theorem val_main_v0_apply (x2 : (⟨S4x8192x4096, .f32⟩ : BufTy).Contents (Elt F)) (i : S4x8192x8x4x128.Idx) :
    val_main_v0 (F := F) x2 i = x2 (idx_main_v0 i) := by
  unfold val_main_v0
  exact shapeCast_apply x2 shapeCasts_S4x8192x4096_S4x8192x8x4x128 i (idx_main_v0 i)
    (by rewrite [Shape.rowMajor_val_three, Shape.rowMajor_val_five]; have h0 : (i 0).val < 4 := (i 0).isLt; have h1 : (i 1).val < 8192 := (i 1).isLt; have h2 : (i 2).val < 8 := (i 2).isLt; have h3 : (i 3).val < 4 := (i 3).isLt; have h4 : (i 4).val < 128 := (i 4).isLt; show ((((((i 0).val * 8192 + (i 1).val) * 8 + (i 2).val) * 4 + (i 3).val) * 128 + (i 4).val) / 33554432 * 8192 + (((((i 0).val * 8192 + (i 1).val) * 8 + (i 2).val) * 4 + (i 3).val) * 128 + (i 4).val) / 4096 % 8192) * 4096 + (((((i 0).val * 8192 + (i 1).val) * 8 + (i 2).val) * 4 + (i 3).val) * 128 + (i 4).val) % 4096 = ((((i 0).val * 8192 + (i 1).val) * 8 + (i 2).val) * 4 + (i 3).val) * 128 + (i 4).val; omega)

-- %1 = stablehlo.reshape %arg4 : (tensor<4x8192x1024xf32>) -> tensor<4x8192x8x128xf32>
def val_main_v1 (x4 : (⟨S4x8192x1024, .f32⟩ : BufTy).Contents (Elt F)) : (⟨S4x8192x8x128, .f32⟩ : BufTy).Contents (Elt F) :=
  shapeCast _ (x4) shapeCasts_S4x8192x1024_S4x8192x8x128
set_option backward.proofsInPublic true in
abbrev idx_main_v1 (i : S4x8192x8x128.Idx) : S4x8192x1024.Idx := fun a => match a with
  | ⟨0, _⟩ => ⟨((((i 0).val * 8192 + (i 1).val) * 8 + (i 2).val) * 128 + (i 3).val) / 8388608, by have h0 : (i 0).val < 4 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 8388608 < 4; omega⟩
  | ⟨1, _⟩ => ⟨((((i 0).val * 8192 + (i 1).val) * 8 + (i 2).val) * 128 + (i 3).val) / 1024 % 8192, by have h0 : (i 0).val < 4 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 1024 % 8192 < 8192; omega⟩
  | ⟨2, _⟩ => ⟨((((i 0).val * 8192 + (i 1).val) * 8 + (i 2).val) * 128 + (i 3).val) % 1024, by have h0 : (i 0).val < 4 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) % 1024 < 1024; omega⟩
theorem val_main_v1_apply (x4 : (⟨S4x8192x1024, .f32⟩ : BufTy).Contents (Elt F)) (i : S4x8192x8x128.Idx) :
    val_main_v1 (F := F) x4 i = x4 (idx_main_v1 i) := by
  unfold val_main_v1
  exact shapeCast_apply x4 shapeCasts_S4x8192x1024_S4x8192x8x128 i (idx_main_v1 i)
    (by rewrite [Shape.rowMajor_val_three, Shape.rowMajor_val_four]; have h0 : (i 0).val < 4 := (i 0).isLt; have h1 : (i 1).val < 8192 := (i 1).isLt; have h2 : (i 2).val < 8 := (i 2).isLt; have h3 : (i 3).val < 128 := (i 3).isLt; show (((((i 0).val * 8192 + (i 1).val) * 8 + (i 2).val) * 128 + (i 3).val) / 8388608 * 8192 + ((((i 0).val * 8192 + (i 1).val) * 8 + (i 2).val) * 128 + (i 3).val) / 1024 % 8192) * 1024 + ((((i 0).val * 8192 + (i 1).val) * 8 + (i 2).val) * 128 + (i 3).val) % 1024 = (((i 0).val * 8192 + (i 1).val) * 8 + (i 2).val) * 128 + (i 3).val; omega)

-- %2 = stablehlo.transpose %arg3, dims = [0, 2, 1, 3] : (tensor<4x64x32x128xf32>) -> tensor<4x32x64x128xf32>
def val_main_v2 (x3 : (⟨S4x64x32x128, .f32⟩ : BufTy).Contents (Elt F)) : (⟨S4x32x64x128, .f32⟩ : BufTy).Contents (Elt F) :=
  transpose S4x32x64x128 [0, 2, 1, 3] (x3) transposes_S4x64x32x128_S4x32x64x128_0_2_1_3
abbrev idx_main_v2 (i : S4x32x64x128.Idx) : S4x64x32x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v2_apply (x3 : (⟨S4x64x32x128, .f32⟩ : BufTy).Contents (Elt F)) (i : S4x32x64x128.Idx) :
    val_main_v2 (F := F) x3 i = x3 (idx_main_v2 i) := by
  unfold val_main_v2
  exact transpose_apply [0, 2, 1, 3] x3 transposes_S4x64x32x128_S4x32x64x128_0_2_1_3 i (idx_main_v2 i) (fun b => match b with
    | ⟨0, _⟩ => rfl
    | ⟨1, _⟩ => rfl
    | ⟨2, _⟩ => rfl
    | ⟨3, _⟩ => rfl)

-- %3 = stablehlo.reshape %2 : (tensor<4x32x64x128xf32>) -> tensor<4x8x4x8192xf32>
def val_main_v3 (x3 : (⟨S4x64x32x128, .f32⟩ : BufTy).Contents (Elt F)) : (⟨S4x8x4x8192, .f32⟩ : BufTy).Contents (Elt F) :=
  shapeCast _ (val_main_v2 (F := F) x3) shapeCasts_S4x32x64x128_S4x8x4x8192
set_option backward.proofsInPublic true in
abbrev idx_main_v3 (i : S4x8x4x8192.Idx) : S4x32x64x128.Idx := fun a => match a with
  | ⟨0, _⟩ => ⟨((((i 0).val * 8 + (i 1).val) * 4 + (i 2).val) * 8192 + (i 3).val) / 262144, by have h0 : (i 0).val < 4 := (i 0).isLt; have h1 : (i 1).val < 8 := (i 1).isLt; have h2 : (i 2).val < 4 := (i 2).isLt; have h3 : (i 3).val < 8192 := (i 3).isLt; show ((((i 0).val * 8 + (i 1).val) * 4 + (i 2).val) * 8192 + (i 3).val) / 262144 < 4; omega⟩
  | ⟨1, _⟩ => ⟨((((i 0).val * 8 + (i 1).val) * 4 + (i 2).val) * 8192 + (i 3).val) / 8192 % 32, by have h0 : (i 0).val < 4 := (i 0).isLt; have h1 : (i 1).val < 8 := (i 1).isLt; have h2 : (i 2).val < 4 := (i 2).isLt; have h3 : (i 3).val < 8192 := (i 3).isLt; show ((((i 0).val * 8 + (i 1).val) * 4 + (i 2).val) * 8192 + (i 3).val) / 8192 % 32 < 32; omega⟩
  | ⟨2, _⟩ => ⟨((((i 0).val * 8 + (i 1).val) * 4 + (i 2).val) * 8192 + (i 3).val) / 128 % 64, by have h0 : (i 0).val < 4 := (i 0).isLt; have h1 : (i 1).val < 8 := (i 1).isLt; have h2 : (i 2).val < 4 := (i 2).isLt; have h3 : (i 3).val < 8192 := (i 3).isLt; show ((((i 0).val * 8 + (i 1).val) * 4 + (i 2).val) * 8192 + (i 3).val) / 128 % 64 < 64; omega⟩
  | ⟨3, _⟩ => ⟨((((i 0).val * 8 + (i 1).val) * 4 + (i 2).val) * 8192 + (i 3).val) % 128, by have h0 : (i 0).val < 4 := (i 0).isLt; have h1 : (i 1).val < 8 := (i 1).isLt; have h2 : (i 2).val < 4 := (i 2).isLt; have h3 : (i 3).val < 8192 := (i 3).isLt; show ((((i 0).val * 8 + (i 1).val) * 4 + (i 2).val) * 8192 + (i 3).val) % 128 < 128; omega⟩
theorem val_main_v3_apply (x3 : (⟨S4x64x32x128, .f32⟩ : BufTy).Contents (Elt F)) (i : S4x8x4x8192.Idx) :
    val_main_v3 (F := F) x3 i = val_main_v2 (F := F) x3 (idx_main_v3 i) := by
  unfold val_main_v3
  generalize val_main_v2 (F := F) x3 = y
  exact shapeCast_apply y shapeCasts_S4x32x64x128_S4x8x4x8192 i (idx_main_v3 i)
    (by rewrite [Shape.rowMajor_val_four, Shape.rowMajor_val_four]; have h0 : (i 0).val < 4 := (i 0).isLt; have h1 : (i 1).val < 8 := (i 1).isLt; have h2 : (i 2).val < 4 := (i 2).isLt; have h3 : (i 3).val < 8192 := (i 3).isLt; show ((((((i 0).val * 8 + (i 1).val) * 4 + (i 2).val) * 8192 + (i 3).val) / 262144 * 32 + ((((i 0).val * 8 + (i 1).val) * 4 + (i 2).val) * 8192 + (i 3).val) / 8192 % 32) * 64 + ((((i 0).val * 8 + (i 1).val) * 4 + (i 2).val) * 8192 + (i 3).val) / 128 % 64) * 128 + ((((i 0).val * 8 + (i 1).val) * 4 + (i 2).val) * 8192 + (i 3).val) % 128 = (((i 0).val * 8 + (i 1).val) * 4 + (i 2).val) * 8192 + (i 3).val; omega)

-- %4 = stablehlo.reshape %arg1 : (tensor<32xf32>) -> tensor<1x8x4x1x1xf32>
def val_main_v4 (x1 : (⟨S32, .f32⟩ : BufTy).Contents (Elt F)) : (⟨S1x8x4x1x1, .f32⟩ : BufTy).Contents (Elt F) :=
  shapeCast _ (x1) shapeCasts_S32_S1x8x4x1x1
set_option backward.proofsInPublic true in
abbrev idx_main_v4 (i : S1x8x4x1x1.Idx) : S32.Idx := fun a => match a with
  | ⟨0, _⟩ => ⟨((((i 0).val * 8 + (i 1).val) * 4 + (i 2).val) * 1 + (i 3).val) * 1 + (i 4).val, by have h0 : (i 0).val < 1 := (i 0).isLt; have h1 : (i 1).val < 8 := (i 1).isLt; have h2 : (i 2).val < 4 := (i 2).isLt; have h3 : (i 3).val < 1 := (i 3).isLt; have h4 : (i 4).val < 1 := (i 4).isLt; show ((((i 0).val * 8 + (i 1).val) * 4 + (i 2).val) * 1 + (i 3).val) * 1 + (i 4).val < 32; omega⟩
theorem val_main_v4_apply (x1 : (⟨S32, .f32⟩ : BufTy).Contents (Elt F)) (i : S1x8x4x1x1.Idx) :
    val_main_v4 (F := F) x1 i = x1 (idx_main_v4 i) := by
  unfold val_main_v4
  exact shapeCast_apply x1 shapeCasts_S32_S1x8x4x1x1 i (idx_main_v4 i)
    (by rewrite [Shape.rowMajor_val_one, Shape.rowMajor_val_five]; have h0 : (i 0).val < 1 := (i 0).isLt; have h1 : (i 1).val < 8 := (i 1).isLt; have h2 : (i 2).val < 4 := (i 2).isLt; have h3 : (i 3).val < 1 := (i 3).isLt; have h4 : (i 4).val < 1 := (i 4).isLt; show ((((i 0).val * 8 + (i 1).val) * 4 + (i 2).val) * 1 + (i 3).val) * 1 + (i 4).val = ((((i 0).val * 8 + (i 1).val) * 4 + (i 2).val) * 1 + (i 3).val) * 1 + (i 4).val; omega)

-- %5 = stablehlo.dot_general %1, %0, batching_dims = [0, 2] x [0, 2], contracting_dims = [3] x [4], precision = [DEFAULT, DEFAULT] : (tensor<4x8192x8x128xf32>, tensor<4x8192x8x4x128xf32>) -> tensor<4x8x8192x8192x4xf32>
def val_main_v5 (x2 : (⟨S4x8192x4096, .f32⟩ : BufTy).Contents (Elt F)) (x4 : (⟨S4x8192x1024, .f32⟩ : BufTy).Contents (Elt F)) : (⟨S4x8x8192x8192x4, .f32⟩ : BufTy).Contents (Elt F) :=
  Host.dotGeneral dot_S4x8192x8x128_S4x8192x8x4x128_S4x8x8192x8192x4_3_4_1_13_02_02 none (val_main_v1 (F := F) x4) (val_main_v0 (F := F) x2)
theorem lhs_main_v5_0 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.lhsIdx i q 0).val = (i 0).val := by
  unfold DotDims.lhsIdx
  rw [dif_pos (show (0 : Fin S4x8192x8x128.rank) ∈ dot_S4x8192x8x128_S4x8192x8x4x128_S4x8x8192x8192x4_3_4_1_13_02_02.lhsBatch by decide)]
  rfl
theorem lhs_main_v5_1 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.lhsIdx i q 1).val = (i 2).val := by
  unfold DotDims.lhsIdx
  rw [dif_neg (show ¬(1 : Fin S4x8192x8x128.rank) ∈ dot_S4x8192x8x128_S4x8192x8x4x128_S4x8x8192x8192x4_3_4_1_13_02_02.lhsBatch by decide), dif_pos (show (1 : Fin S4x8192x8x128.rank) ∈ dot_S4x8192x8x128_S4x8192x8x4x128_S4x8x8192x8192x4_3_4_1_13_02_02.lhsNonContracting by decide)]
  rfl
theorem lhs_main_v5_2 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.lhsIdx i q 2).val = (i 1).val := by
  unfold DotDims.lhsIdx
  rw [dif_pos (show (2 : Fin S4x8192x8x128.rank) ∈ dot_S4x8192x8x128_S4x8192x8x4x128_S4x8x8192x8192x4_3_4_1_13_02_02.lhsBatch by decide)]
  rfl
theorem lhs_main_v5_3 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.lhsIdx i q 3).val = (q ⟨0, by decide⟩).val :=
  dot_S4x8192x8x128_S4x8192x8x4x128_S4x8x8192x8192x4_3_4_1_13_02_02.lhsIdx_val_of_single rfl i q
theorem rhs_main_v5_0 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.rhsIdx i q 0).val = (i 0).val := by
  unfold DotDims.rhsIdx
  rw [dif_pos (show (0 : Fin S4x8192x8x4x128.rank) ∈ dot_S4x8192x8x128_S4x8192x8x4x128_S4x8x8192x8192x4_3_4_1_13_02_02.rhsBatch by decide)]
  rfl
theorem rhs_main_v5_1 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.rhsIdx i q 1).val = (i 3).val := by
  unfold DotDims.rhsIdx
  rw [dif_neg (show ¬(1 : Fin S4x8192x8x4x128.rank) ∈ dot_S4x8192x8x128_S4x8192x8x4x128_S4x8x8192x8192x4_3_4_1_13_02_02.rhsBatch by decide), dif_pos (show (1 : Fin S4x8192x8x4x128.rank) ∈ dot_S4x8192x8x128_S4x8192x8x4x128_S4x8x8192x8192x4_3_4_1_13_02_02.rhsNonContracting by decide)]
  rfl
theorem rhs_main_v5_2 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.rhsIdx i q 2).val = (i 1).val := by
  unfold DotDims.rhsIdx
  rw [dif_pos (show (2 : Fin S4x8192x8x4x128.rank) ∈ dot_S4x8192x8x128_S4x8192x8x4x128_S4x8x8192x8192x4_3_4_1_13_02_02.rhsBatch by decide)]
  rfl
theorem rhs_main_v5_3 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.rhsIdx i q 3).val = (i 4).val := by
  unfold DotDims.rhsIdx
  rw [dif_neg (show ¬(3 : Fin S4x8192x8x4x128.rank) ∈ dot_S4x8192x8x128_S4x8192x8x4x128_S4x8x8192x8192x4_3_4_1_13_02_02.rhsBatch by decide), dif_pos (show (3 : Fin S4x8192x8x4x128.rank) ∈ dot_S4x8192x8x128_S4x8192x8x4x128_S4x8x8192x8192x4_3_4_1_13_02_02.rhsNonContracting by decide)]
  rfl
theorem rhs_main_v5_4 (i : S4x8x8192x8192x4.Idx) (q : dot_S4x8192x8x128_S4x8192x8x4x128_S4x8x8192x8192x4_3_4_1_13_02_02.contr.Idx) :
    (dot_S4x8192x8x128_S4x8192x8x4x128_S4x8x8192x8192x4_3_4_1_13_02_02.rhsIdx i q 4).val = (q ⟨0, by decide⟩).val :=
  dot_S4x8192x8x128_S4x8192x8x4x128_S4x8x8192x8192x4_3_4_1_13_02_02.rhsIdx_val_of_single rfl i q
abbrev lidx_main_v5 (i : S4x8x8192x8192x4.Idx) (k : Fin 128) : S4x8192x8x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v5 (i : S4x8x8192x8192x4.Idx) (k : Fin 128) : S4x8192x8x4x128.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v5_apply (x2 : (⟨S4x8192x4096, .f32⟩ : BufTy).Contents (Elt Ideal)) (x4 : (⟨S4x8192x1024, .f32⟩ : BufTy).Contents (Elt Ideal)) (i : S4x8x8192x8192x4.Idx) :
    val_main_v5 (F := Ideal) x2 x4 i = ∑ k : Fin 128, (val_main_v1 (F := Ideal) x4) (lidx_main_v5 i k) * (val_main_v0 (F := Ideal) x2) (ridx_main_v5 i k) := by
  unfold val_main_v5
  generalize val_main_v1 (F := Ideal) x4 = y0
  generalize val_main_v0 (F := Ideal) x2 = y1
  simp only [Host.dotGeneral]
  rw [Ideal.dotGeneral_apply, ← Equiv.sum_comp (ValueIdx.contrEquiv1 dot_S4x8192x8x128_S4x8192x8x4x128_S4x8x8192x8192x4_3_4_1_13_02_02 128 rfl rfl).symm]
  refine Finset.sum_congr rfl fun k _ => ?_
  have hk := ValueIdx.contrEquiv1_symm_val dot_S4x8192x8x128_S4x8192x8x4x128_S4x8x8192x8192x4_3_4_1_13_02_02 128 rfl rfl k
  have el : dot_S4x8192x8x128_S4x8192x8x4x128_S4x8x8192x8192x4_3_4_1_13_02_02.lhsIdx i ((ValueIdx.contrEquiv1 dot_S4x8192x8x128_S4x8192x8x4x128_S4x8x8192x8192x4_3_4_1_13_02_02 128 rfl rfl).symm k) = lidx_main_v5 i k := funext fun a => Fin.ext (by
    match a with
    | ⟨0, _⟩ => exact lhs_main_v5_0 _ _
    | ⟨1, _⟩ => exact lhs_main_v5_1 _ _
    | ⟨2, _⟩ => exact lhs_main_v5_2 _ _
    | ⟨3, _⟩ => exact (lhs_main_v5_3 _ _).trans hk)
  have er : dot_S4x8192x8x128_S4x8192x8x4x128_S4x8x8192x8192x4_3_4_1_13_02_02.rhsIdx i ((ValueIdx.contrEquiv1 dot_S4x8192x8x128_S4x8192x8x4x128_S4x8x8192x8192x4_3_4_1_13_02_02 128 rfl rfl).symm k) = ridx_main_v5 i k := funext fun a => Fin.ext (by
    match a with
    | ⟨0, _⟩ => exact rhs_main_v5_0 _ _
    | ⟨1, _⟩ => exact rhs_main_v5_1 _ _
    | ⟨2, _⟩ => exact rhs_main_v5_2 _ _
    | ⟨3, _⟩ => exact rhs_main_v5_3 _ _
    | ⟨4, _⟩ => exact (rhs_main_v5_4 _ _).trans hk)
  rw [el, er]

-- %6 = stablehlo.transpose %5, dims = [0, 1, 4, 3, 2] : (tensor<4x8x8192x8192x4xf32>) -> tensor<4x8x4x8192x8192xf32>
def val_main_v6 (x2 : (⟨S4x8192x4096, .f32⟩ : BufTy).Contents (Elt F)) (x4 : (⟨S4x8192x1024, .f32⟩ : BufTy).Contents (Elt F)) : (⟨S4x8x4x8192x8192, .f32⟩ : BufTy).Contents (Elt F) :=
  transpose S4x8x4x8192x8192 [0, 1, 4, 3, 2] (val_main_v5 (F := F) x2 x4) transposes_S4x8x8192x8192x4_S4x8x4x8192x8192_0_1_4_3_2
abbrev idx_main_v6 (i : S4x8x4x8192x8192.Idx) : S4x8x8192x8192x4.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 3).val, (i 3).isLt⟩
  | ⟨4, _⟩ => ⟨(i 2).val, (i 2).isLt⟩
theorem val_main_v6_apply (x2 : (⟨S4x8192x4096, .f32⟩ : BufTy).Contents (Elt F)) (x4 : (⟨S4x8192x1024, .f32⟩ : BufTy).Contents (Elt F)) (i : S4x8x4x8192x8192.Idx) :
    val_main_v6 (F := F) x2 x4 i = val_main_v5 (F := F) x2 x4 (idx_main_v6 i) := by
  unfold val_main_v6
  generalize val_main_v5 (F := F) x2 x4 = y
  exact transpose_apply [0, 1, 4, 3, 2] y transposes_S4x8x8192x8192x4_S4x8x4x8192x8192_0_1_4_3_2 i (idx_main_v6 i) (fun b => match b with
    | ⟨0, _⟩ => rfl
    | ⟨1, _⟩ => rfl
    | ⟨2, _⟩ => rfl
    | ⟨3, _⟩ => rfl
    | ⟨4, _⟩ => rfl)

-- %7 = stablehlo.broadcast_in_dim %3, dims = [0, 1, 2, 3] : (tensor<4x8x4x8192xf32>) -> tensor<4x8x4x8192x1xf32>
def val_main_v7 (x3 : (⟨S4x64x32x128, .f32⟩ : BufTy).Contents (Elt F)) : (⟨S4x8x4x8192x1, .f32⟩ : BufTy).Contents (Elt F) :=
  broadcastInDim S4x8x4x8192x1 ![0, 1, 2, 3] bcast_S4x8x4x8192_S4x8x4x8192x1_0_1_2_3 (val_main_v3 (F := F) x3)
abbrev idx_main_v7 (i : S4x8x4x8192x1.Idx) : S4x8x4x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v7_apply (x3 : (⟨S4x64x32x128, .f32⟩ : BufTy).Contents (Elt F)) (i : S4x8x4x8192x1.Idx) :
    val_main_v7 (F := F) x3 i = val_main_v3 (F := F) x3 (idx_main_v7 i) := by
  unfold val_main_v7
  generalize val_main_v3 (F := F) x3 = y
  exact broadcastInDim_apply _ bcast_S4x8x4x8192_S4x8x4x8192x1_0_1_2_3 y i (idx_main_v7 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)])

-- %cst = stablehlo.constant dense<0.0883883461> : tensor<f32>
def val_main_cst : (⟨S_, .f32⟩ : BufTy).Contents (Elt F) :=
  constant S_ .f32 0x3DB504F3#32
theorem val_main_cst_apply (i : S_.Idx) :
    val_main_cst (F := F) i = FloatOps.ofBits .f32 0x3DB504F3#32 := rfl

-- %8 = stablehlo.broadcast_in_dim %cst, dims = [] : (tensor<f32>) -> tensor<4x8x4x8192x1xf32>
def val_main_v8 : (⟨S4x8x4x8192x1, .f32⟩ : BufTy).Contents (Elt F) :=
  broadcastInDim S4x8x4x8192x1 ![] bcast_S_S4x8x4x8192x1 (val_main_cst (F := F))
abbrev idx_main_v8 (i : S4x8x4x8192x1.Idx) : S_.Idx := fun a => a.elim0
theorem val_main_v8_apply (i : S4x8x4x8192x1.Idx) :
    val_main_v8 (F := F) i = val_main_cst (F := F) (idx_main_v8 i) := by
  unfold val_main_v8
  generalize val_main_cst (F := F) = y
  exact broadcastInDim_apply _ bcast_S_S4x8x4x8192x1 y i (idx_main_v8 i) (fun a => a.elim0)

-- %9 = stablehlo.multiply %7, %8 : tensor<4x8x4x8192x1xf32>
def val_main_v9 (x3 : (⟨S4x64x32x128, .f32⟩ : BufTy).Contents (Elt F)) : (⟨S4x8x4x8192x1, .f32⟩ : BufTy).Contents (Elt F) :=
  mulf (val_main_v7 (F := F) x3) (val_main_v8 (F := F))
theorem val_main_v9_apply (x3 : (⟨S4x64x32x128, .f32⟩ : BufTy).Contents (Elt F)) (i : S4x8x4x8192x1.Idx) :
    val_main_v9 (F := F) x3 i = FloatOps.mulf (val_main_v7 (F := F) x3 i) (val_main_v8 (F := F) i) := rfl

-- %10 = stablehlo.broadcast_in_dim %9, dims = [0, 1, 2, 3, 4] : (tensor<4x8x4x8192x1xf32>) -> tensor<4x8x4x8192x8192xf32>
def val_main_v10 (x3 : (⟨S4x64x32x128, .f32⟩ : BufTy).Contents (Elt F)) : (⟨S4x8x4x8192x8192, .f32⟩ : BufTy).Contents (Elt F) :=
  broadcastInDim S4x8x4x8192x8192 ![0, 1, 2, 3, 4] bcast_S4x8x4x8192x1_S4x8x4x8192x8192_0_1_2_3_4 (val_main_v9 (F := F) x3)
abbrev idx_main_v10 (i : S4x8x4x8192x8192.Idx) : S4x8x4x8192x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v10_apply (x3 : (⟨S4x64x32x128, .f32⟩ : BufTy).Contents (Elt F)) (i : S4x8x4x8192x8192.Idx) :
    val_main_v10 (F := F) x3 i = val_main_v9 (F := F) x3 (idx_main_v10 i) := by
  unfold val_main_v10
  generalize val_main_v9 (F := F) x3 = y
  exact broadcastInDim_apply _ bcast_S4x8x4x8192x1_S4x8x4x8192x8192_0_1_2_3_4 y i (idx_main_v10 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)]
    | ⟨4, _⟩ => by show 0 = if (1 : Nat) = 1 then 0 else (i 4).val; rw [if_pos rfl])

-- %11 = stablehlo.multiply %6, %10 : tensor<4x8x4x8192x8192xf32>
def val_main_v11 (x2 : (⟨S4x8192x4096, .f32⟩ : BufTy).Contents (Elt F)) (x3 : (⟨S4x64x32x128, .f32⟩ : BufTy).Contents (Elt F)) (x4 : (⟨S4x8192x1024, .f32⟩ : BufTy).Contents (Elt F)) : (⟨S4x8x4x8192x8192, .f32⟩ : BufTy).Contents (Elt F) :=
  mulf (val_main_v6 (F := F) x2 x4) (val_main_v10 (F := F) x3)
theorem val_main_v11_apply (x2 : (⟨S4x8192x4096, .f32⟩ : BufTy).Contents (Elt F)) (x3 : (⟨S4x64x32x128, .f32⟩ : BufTy).Contents (Elt F)) (x4 : (⟨S4x8192x1024, .f32⟩ : BufTy).Contents (Elt F)) (i : S4x8x4x8192x8192.Idx) :
    val_main_v11 (F := F) x2 x3 x4 i = FloatOps.mulf (val_main_v6 (F := F) x2 x4 i) (val_main_v10 (F := F) x3 i) := rfl

-- %12 = stablehlo.transpose %arg5, dims = [0, 2, 1] : (tensor<4x8192x8xf32>) -> tensor<4x8x8192xf32>
def val_main_v12 (x5 : (⟨S4x8192x8, .f32⟩ : BufTy).Contents (Elt F)) : (⟨S4x8x8192, .f32⟩ : BufTy).Contents (Elt F) :=
  transpose S4x8x8192 [0, 2, 1] (x5) transposes_S4x8192x8_S4x8x8192_0_2_1
abbrev idx_main_v12 (i : S4x8x8192.Idx) : S4x8192x8.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v12_apply (x5 : (⟨S4x8192x8, .f32⟩ : BufTy).Contents (Elt F)) (i : S4x8x8192.Idx) :
    val_main_v12 (F := F) x5 i = x5 (idx_main_v12 i) := by
  unfold val_main_v12
  exact transpose_apply [0, 2, 1] x5 transposes_S4x8192x8_S4x8x8192_0_2_1 i (idx_main_v12 i) (fun b => match b with
    | ⟨0, _⟩ => rfl
    | ⟨1, _⟩ => rfl
    | ⟨2, _⟩ => rfl)

-- %13 = stablehlo.broadcast_in_dim %12, dims = [0, 1, 4] : (tensor<4x8x8192xf32>) -> tensor<4x8x1x1x8192xf32>
def val_main_v13 (x5 : (⟨S4x8192x8, .f32⟩ : BufTy).Contents (Elt F)) : (⟨S4x8x1x1x8192, .f32⟩ : BufTy).Contents (Elt F) :=
  broadcastInDim S4x8x1x1x8192 ![0, 1, 4] bcast_S4x8x8192_S4x8x1x1x8192_0_1_4 (val_main_v12 (F := F) x5)
abbrev idx_main_v13 (i : S4x8x1x1x8192.Idx) : S4x8x8192.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v13_apply (x5 : (⟨S4x8192x8, .f32⟩ : BufTy).Contents (Elt F)) (i : S4x8x1x1x8192.Idx) :
    val_main_v13 (F := F) x5 i = val_main_v12 (F := F) x5 (idx_main_v13 i) := by
  unfold val_main_v13
  generalize val_main_v12 (F := F) x5 = y
  exact broadcastInDim_apply _ bcast_S4x8x8192_S4x8x1x1x8192_0_1_4 y i (idx_main_v13 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 4).val = if (8192 : Nat) = 1 then 0 else (i 4).val; rw [if_neg (by decide)])

-- %14 = stablehlo.broadcast_in_dim %13, dims = [0, 1, 2, 3, 4] : (tensor<4x8x1x1x8192xf32>) -> tensor<4x8x4x8192x8192xf32>
def val_main_v14 (x5 : (⟨S4x8192x8, .f32⟩ : BufTy).Contents (Elt F)) : (⟨S4x8x4x8192x8192, .f32⟩ : BufTy).Contents (Elt F) :=
  broadcastInDim S4x8x4x8192x8192 ![0, 1, 2, 3, 4] bcast_S4x8x1x1x8192_S4x8x4x8192x8192_0_1_2_3_4 (val_main_v13 (F := F) x5)
abbrev idx_main_v14 (i : S4x8x4x8192x8192.Idx) : S4x8x1x1x8192.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v14_apply (x5 : (⟨S4x8192x8, .f32⟩ : BufTy).Contents (Elt F)) (i : S4x8x4x8192x8192.Idx) :
    val_main_v14 (F := F) x5 i = val_main_v13 (F := F) x5 (idx_main_v14 i) := by
  unfold val_main_v14
  generalize val_main_v13 (F := F) x5 = y
  exact broadcastInDim_apply _ bcast_S4x8x1x1x8192_S4x8x4x8192x8192_0_1_2_3_4 y i (idx_main_v14 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (8192 : Nat) = 1 then 0 else (i 4).val; rw [if_neg (by decide)])

-- %15 = stablehlo.multiply %11, %14 : tensor<4x8x4x8192x8192xf32>
def val_main_v15 (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  mulf (val_main_v11 (F := F) x2 x3 x4) (val_main_v14 (F := F) x5)
theorem val_main_v15_apply (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v15 (F := F) x2 x3 x4 x5 i = FloatOps.mulf (val_main_v11 (F := F) x2 x3 x4 i) (val_main_v14 (F := F) x5 i) := rfl

-- %16 = stablehlo.iota dim = 0 : tensor<4x8192x8192xi32>
def val_main_v16 : (⟨S4x8192x8192, .i32⟩ : BufTy).Contents (Elt F) :=
  iotaInDim S4x8192x8192 32 0
theorem val_main_v16_apply (i : S4x8192x8192.Idx) :
    val_main_v16 (F := F) i = BitVec.ofNat 32 (i 0).val := rfl

-- %17 = stablehlo.iota dim = 1 : tensor<4x8192x8192xi32>
def val_main_v17 : (⟨S4x8192x8192, .i32⟩ : BufTy).Contents (Elt F) :=
  iotaInDim S4x8192x8192 32 1
theorem val_main_v17_apply (i : S4x8192x8192.Idx) :
    val_main_v17 (F := F) i = BitVec.ofNat 32 (i 1).val := rfl

-- %18 = stablehlo.iota dim = 2 : tensor<4x8192x8192xi32>
def val_main_v18 : (⟨S4x8192x8192, .i32⟩ : BufTy).Contents (Elt F) :=
  iotaInDim S4x8192x8192 32 2
theorem val_main_v18_apply (i : S4x8192x8192.Idx) :
    val_main_v18 (F := F) i = BitVec.ofNat 32 (i 2).val := rfl

-- %19 = stablehlo.compare LE, %18, %17, SIGNED : (tensor<4x8192x8192xi32>, tensor<4x8192x8192xi32>) -> tensor<4x8192x8192xi1>
def val_main_v19 : (⟨S4x8192x8192, .i1⟩ : BufTy).Contents (Elt F) :=
  cmpi .sle (val_main_v18 (F := F)) (val_main_v17 (F := F))
theorem val_main_v19_apply (i : S4x8192x8192.Idx) :
    val_main_v19 (F := F) i = IntOp.cmpi .sle (val_main_v18 (F := F) i) (val_main_v17 (F := F) i) := rfl

-- %c = stablehlo.constant dense<2> : tensor<i32>
def val_main_c : (⟨S_, .i32⟩ : BufTy).Contents (Elt F) :=
  constantI S_ 32 2#32
theorem val_main_c_apply (i : S_.Idx) :
    val_main_c (F := F) i = 2#32 := rfl

-- @remainder's %0 = stablehlo.convert %arg1 : tensor<i32>, in %20 = func.call @remainder(…) (record main_call0)
def val_main_call0_v0 : (⟨S_, .i32⟩ : BufTy).Contents (Elt F) :=
  id (val_main_c (F := F))
theorem val_main_call0_v0_apply (i : S_.Idx) :
    val_main_call0_v0 (F := F) i = (val_main_c (F := F) i) := rfl

-- @remainder's %c = stablehlo.constant dense<0> : tensor<i32>, in %20 = func.call @remainder(…) (record main_call0)
def val_main_call0_c : (⟨S_, .i32⟩ : BufTy).Contents (Elt F) :=
  constantI S_ 32 0#32
theorem val_main_call0_c_apply (i : S_.Idx) :
    val_main_call0_c (F := F) i = 0#32 := rfl

-- @remainder's %1 = stablehlo.compare EQ, %0, %c, SIGNED : (tensor<i32>, tensor<i32>) -> tensor<i1>, in %20 = func.call @remainder(…) (record main_call0)
def val_main_call0_v1 : (⟨S_, .i1⟩ : BufTy).Contents (Elt F) :=
  cmpi .eq (val_main_call0_v0 (F := F)) (val_main_call0_c (F := F))
theorem val_main_call0_v1_apply (i : S_.Idx) :
    val_main_call0_v1 (F := F) i = IntOp.cmpi .eq (val_main_call0_v0 (F := F) i) (val_main_call0_c (F := F) i) := rfl

-- @remainder's %c_0 = stablehlo.constant dense<1> : tensor<i32>, in %20 = func.call @remainder(…) (record main_call0)
def val_main_call0_c_0 : (⟨S_, .i32⟩ : BufTy).Contents (Elt F) :=
  constantI S_ 32 1#32
theorem val_main_call0_c_0_apply (i : S_.Idx) :
    val_main_call0_c_0 (F := F) i = 1#32 := rfl

-- @remainder's %2 = func.call @_where(…) (record main_call0_call0) result 0: @_where's %0 = stablehlo.select %arg0, %arg1, %arg2 : tensor<i1>, tensor<i32>
def val_main_call0_v2 : (⟨S_, .i32⟩ : BufTy).Contents (Elt F) :=
  select (val_main_call0_v1 (F := F)) (val_main_call0_c_0 (F := F)) (val_main_call0_v0 (F := F))
theorem val_main_call0_v2_apply (i : S_.Idx) :
    val_main_call0_v2 (F := F) i = Scalar.select (val_main_call0_v1 (F := F) i) (val_main_call0_c_0 (F := F) i) (val_main_call0_v0 (F := F) i) := rfl

-- @remainder's %3 = stablehlo.broadcast_in_dim %2, dims = [] : (tensor<i32>) -> tensor<4x8192x8192xi32>, in %20 = func.call @remainder(…) (record main_call0)
def val_main_call0_v3 : (⟨S4x8192x8192, .i32⟩ : BufTy).Contents (Elt F) :=
  broadcastInDim S4x8192x8192 ![] bcast_S_S4x8192x8192 (val_main_call0_v2 (F := F))
abbrev idx_main_call0_v3 (i : S4x8192x8192.Idx) : S_.Idx := fun a => a.elim0
theorem val_main_call0_v3_apply (i : S4x8192x8192.Idx) :
    val_main_call0_v3 (F := F) i = val_main_call0_v2 (F := F) (idx_main_call0_v3 i) := by
  unfold val_main_call0_v3
  generalize val_main_call0_v2 (F := F) = y
  exact broadcastInDim_apply _ bcast_S_S4x8192x8192 y i (idx_main_call0_v3 i) (fun a => a.elim0)

-- @remainder's %4 = stablehlo.remainder %arg0, %3 : tensor<4x8192x8192xi32>, in %20 = func.call @remainder(…) (record main_call0)
def val_main_call0_v4 : (⟨S4x8192x8192, .i32⟩ : BufTy).Contents (Elt F) :=
  Host.remsi (val_main_v16 (F := F)) (val_main_call0_v3 (F := F))
theorem val_main_call0_v4_apply (i : S4x8192x8192.Idx) :
    val_main_call0_v4 (F := F) i = IntOp.remsi .host (val_main_v16 (F := F) i) (val_main_call0_v3 (F := F) i) := rfl

-- @remainder's %c_1 = stablehlo.constant dense<0> : tensor<i32>, in %20 = func.call @remainder(…) (record main_call0)
def val_main_call0_c_1 : (⟨S_, .i32⟩ : BufTy).Contents (Elt F) :=
  constantI S_ 32 0#32
theorem val_main_call0_c_1_apply (i : S_.Idx) :
    val_main_call0_c_1 (F := F) i = 0#32 := rfl

-- @remainder's %5 = stablehlo.broadcast_in_dim %c_1, dims = [] : (tensor<i32>) -> tensor<4x8192x8192xi32>, in %20 = func.call @remainder(…) (record main_call0)
def val_main_call0_v5 : (⟨S4x8192x8192, .i32⟩ : BufTy).Contents (Elt F) :=
  broadcastInDim S4x8192x8192 ![] bcast_S_S4x8192x8192 (val_main_call0_c_1 (F := F))
abbrev idx_main_call0_v5 (i : S4x8192x8192.Idx) : S_.Idx := fun a => a.elim0
theorem val_main_call0_v5_apply (i : S4x8192x8192.Idx) :
    val_main_call0_v5 (F := F) i = val_main_call0_c_1 (F := F) (idx_main_call0_v5 i) := by
  unfold val_main_call0_v5
  generalize val_main_call0_c_1 (F := F) = y
  exact broadcastInDim_apply _ bcast_S_S4x8192x8192 y i (idx_main_call0_v5 i) (fun a => a.elim0)

-- @remainder's %6 = stablehlo.compare NE, %4, %5, SIGNED : (tensor<4x8192x8192xi32>, tensor<4x8192x8192xi32>) -> tensor<4x8192x8192xi1>, in %20 = func.call @remainder(…) (record main_call0)
def val_main_call0_v6 : (⟨S4x8192x8192, .i1⟩ : BufTy).Contents (Elt F) :=
  cmpi .ne (val_main_call0_v4 (F := F)) (val_main_call0_v5 (F := F))
theorem val_main_call0_v6_apply (i : S4x8192x8192.Idx) :
    val_main_call0_v6 (F := F) i = IntOp.cmpi .ne (val_main_call0_v4 (F := F) i) (val_main_call0_v5 (F := F) i) := rfl

-- @remainder's %c_2 = stablehlo.constant dense<0> : tensor<i32>, in %20 = func.call @remainder(…) (record main_call0)
def val_main_call0_c_2 : (⟨S_, .i32⟩ : BufTy).Contents (Elt F) :=
  constantI S_ 32 0#32
theorem val_main_call0_c_2_apply (i : S_.Idx) :
    val_main_call0_c_2 (F := F) i = 0#32 := rfl

-- @remainder's %7 = stablehlo.broadcast_in_dim %c_2, dims = [] : (tensor<i32>) -> tensor<4x8192x8192xi32>, in %20 = func.call @remainder(…) (record main_call0)
def val_main_call0_v7 : (⟨S4x8192x8192, .i32⟩ : BufTy).Contents (Elt F) :=
  broadcastInDim S4x8192x8192 ![] bcast_S_S4x8192x8192 (val_main_call0_c_2 (F := F))
abbrev idx_main_call0_v7 (i : S4x8192x8192.Idx) : S_.Idx := fun a => a.elim0
theorem val_main_call0_v7_apply (i : S4x8192x8192.Idx) :
    val_main_call0_v7 (F := F) i = val_main_call0_c_2 (F := F) (idx_main_call0_v7 i) := by
  unfold val_main_call0_v7
  generalize val_main_call0_c_2 (F := F) = y
  exact broadcastInDim_apply _ bcast_S_S4x8192x8192 y i (idx_main_call0_v7 i) (fun a => a.elim0)

-- @remainder's %8 = stablehlo.compare LT, %4, %7, SIGNED : (tensor<4x8192x8192xi32>, tensor<4x8192x8192xi32>) -> tensor<4x8192x8192xi1>, in %20 = func.call @remainder(…) (record main_call0)
def val_main_call0_v8 : (⟨S4x8192x8192, .i1⟩ : BufTy).Contents (Elt F) :=
  cmpi .slt (val_main_call0_v4 (F := F)) (val_main_call0_v7 (F := F))
theorem val_main_call0_v8_apply (i : S4x8192x8192.Idx) :
    val_main_call0_v8 (F := F) i = IntOp.cmpi .slt (val_main_call0_v4 (F := F) i) (val_main_call0_v7 (F := F) i) := rfl

-- @remainder's %c_3 = stablehlo.constant dense<0> : tensor<i32>, in %20 = func.call @remainder(…) (record main_call0)
def val_main_call0_c_3 : (⟨S_, .i32⟩ : BufTy).Contents (Elt F) :=
  constantI S_ 32 0#32
theorem val_main_call0_c_3_apply (i : S_.Idx) :
    val_main_call0_c_3 (F := F) i = 0#32 := rfl

-- @remainder's %9 = stablehlo.compare LT, %2, %c_3, SIGNED : (tensor<i32>, tensor<i32>) -> tensor<i1>, in %20 = func.call @remainder(…) (record main_call0)
def val_main_call0_v9 : (⟨S_, .i1⟩ : BufTy).Contents (Elt F) :=
  cmpi .slt (val_main_call0_v2 (F := F)) (val_main_call0_c_3 (F := F))
theorem val_main_call0_v9_apply (i : S_.Idx) :
    val_main_call0_v9 (F := F) i = IntOp.cmpi .slt (val_main_call0_v2 (F := F) i) (val_main_call0_c_3 (F := F) i) := rfl

-- @remainder's %10 = stablehlo.broadcast_in_dim %9, dims = [] : (tensor<i1>) -> tensor<4x8192x8192xi1>, in %20 = func.call @remainder(…) (record main_call0)
def val_main_call0_v10 : (⟨S4x8192x8192, .i1⟩ : BufTy).Contents (Elt F) :=
  broadcastInDim S4x8192x8192 ![] bcast_S_S4x8192x8192 (val_main_call0_v9 (F := F))
abbrev idx_main_call0_v10 (i : S4x8192x8192.Idx) : S_.Idx := fun a => a.elim0
theorem val_main_call0_v10_apply (i : S4x8192x8192.Idx) :
    val_main_call0_v10 (F := F) i = val_main_call0_v9 (F := F) (idx_main_call0_v10 i) := by
  unfold val_main_call0_v10
  generalize val_main_call0_v9 (F := F) = y
  exact broadcastInDim_apply _ bcast_S_S4x8192x8192 y i (idx_main_call0_v10 i) (fun a => a.elim0)

-- @remainder's %11 = stablehlo.compare NE, %8, %10, UNSIGNED : (tensor<4x8192x8192xi1>, tensor<4x8192x8192xi1>) -> tensor<4x8192x8192xi1>, in %20 = func.call @remainder(…) (record main_call0)
def val_main_call0_v11 : (⟨S4x8192x8192, .i1⟩ : BufTy).Contents (Elt F) :=
  cmpi .ne (val_main_call0_v8 (F := F)) (val_main_call0_v10 (F := F))
theorem val_main_call0_v11_apply (i : S4x8192x8192.Idx) :
    val_main_call0_v11 (F := F) i = IntOp.cmpi .ne (val_main_call0_v8 (F := F) i) (val_main_call0_v10 (F := F) i) := rfl

-- @remainder's %12 = stablehlo.and %11, %6 : tensor<4x8192x8192xi1>, in %20 = func.call @remainder(…) (record main_call0)
def val_main_call0_v12 : (⟨S4x8192x8192, .i1⟩ : BufTy).Contents (Elt F) :=
  andi (val_main_call0_v11 (F := F)) (val_main_call0_v6 (F := F))
theorem val_main_call0_v12_apply (i : S4x8192x8192.Idx) :
    val_main_call0_v12 (F := F) i = IntOp.andi (val_main_call0_v11 (F := F) i) (val_main_call0_v6 (F := F) i) := rfl

-- @remainder's %13 = stablehlo.broadcast_in_dim %2, dims = [] : (tensor<i32>) -> tensor<4x8192x8192xi32>, in %20 = func.call @remainder(…) (record main_call0)
def val_main_call0_v13 : (⟨S4x8192x8192, .i32⟩ : BufTy).Contents (Elt F) :=
  broadcastInDim S4x8192x8192 ![] bcast_S_S4x8192x8192 (val_main_call0_v2 (F := F))
abbrev idx_main_call0_v13 (i : S4x8192x8192.Idx) : S_.Idx := fun a => a.elim0
theorem val_main_call0_v13_apply (i : S4x8192x8192.Idx) :
    val_main_call0_v13 (F := F) i = val_main_call0_v2 (F := F) (idx_main_call0_v13 i) := by
  unfold val_main_call0_v13
  generalize val_main_call0_v2 (F := F) = y
  exact broadcastInDim_apply _ bcast_S_S4x8192x8192 y i (idx_main_call0_v13 i) (fun a => a.elim0)

-- @remainder's %14 = stablehlo.add %4, %13 : tensor<4x8192x8192xi32>, in %20 = func.call @remainder(…) (record main_call0)
def val_main_call0_v14 : (⟨S4x8192x8192, .i32⟩ : BufTy).Contents (Elt F) :=
  addi (val_main_call0_v4 (F := F)) (val_main_call0_v13 (F := F))
theorem val_main_call0_v14_apply (i : S4x8192x8192.Idx) :
    val_main_call0_v14 (F := F) i = IntOp.addi (val_main_call0_v4 (F := F) i) (val_main_call0_v13 (F := F) i) := rfl

-- %20 = func.call @remainder(…) (record main_call0) result 0: @remainder's %15 = stablehlo.select %12, %14, %4 : tensor<4x8192x8192xi1>, tensor<4x8192x8192xi32>
def val_main_v20 : (⟨S4x8192x8192, .i32⟩ : BufTy).Contents (Elt F) :=
  select (val_main_call0_v12 (F := F)) (val_main_call0_v14 (F := F)) (val_main_call0_v4 (F := F))
theorem val_main_v20_apply (i : S4x8192x8192.Idx) :
    val_main_v20 (F := F) i = Scalar.select (val_main_call0_v12 (F := F) i) (val_main_call0_v14 (F := F) i) (val_main_call0_v4 (F := F) i) := rfl

-- %c_0 = stablehlo.constant dense<0> : tensor<i32>
def val_main_c_0 : (⟨S_, .i32⟩ : BufTy).Contents (Elt F) :=
  constantI S_ 32 0#32
theorem val_main_c_0_apply (i : S_.Idx) :
    val_main_c_0 (F := F) i = 0#32 := rfl

-- %21 = stablehlo.broadcast_in_dim %c_0, dims = [] : (tensor<i32>) -> tensor<4x8192x8192xi32>
def val_main_v21 : (⟨S4x8192x8192, .i32⟩ : BufTy).Contents (Elt F) :=
  broadcastInDim S4x8192x8192 ![] bcast_S_S4x8192x8192 (val_main_c_0 (F := F))
abbrev idx_main_v21 (i : S4x8192x8192.Idx) : S_.Idx := fun a => a.elim0
theorem val_main_v21_apply (i : S4x8192x8192.Idx) :
    val_main_v21 (F := F) i = val_main_c_0 (F := F) (idx_main_v21 i) := by
  unfold val_main_v21
  generalize val_main_c_0 (F := F) = y
  exact broadcastInDim_apply _ bcast_S_S4x8192x8192 y i (idx_main_v21 i) (fun a => a.elim0)

-- %22 = stablehlo.compare EQ, %20, %21, SIGNED : (tensor<4x8192x8192xi32>, tensor<4x8192x8192xi32>) -> tensor<4x8192x8192xi1>
def val_main_v22 : (⟨S4x8192x8192, .i1⟩ : BufTy).Contents (Elt F) :=
  cmpi .eq (val_main_v20 (F := F)) (val_main_v21 (F := F))
theorem val_main_v22_apply (i : S4x8192x8192.Idx) :
    val_main_v22 (F := F) i = IntOp.cmpi .eq (val_main_v20 (F := F) i) (val_main_v21 (F := F) i) := rfl

-- %c_1 = stablehlo.constant dense<1024> : tensor<i32>
def val_main_c_1 : (⟨S_, .i32⟩ : BufTy).Contents (Elt F) :=
  constantI S_ 32 1024#32
theorem val_main_c_1_apply (i : S_.Idx) :
    val_main_c_1 (F := F) i = 1024#32 := rfl

-- %23 = stablehlo.broadcast_in_dim %c_1, dims = [] : (tensor<i32>) -> tensor<4x8192x8192xi32>
def val_main_v23 : (⟨S4x8192x8192, .i32⟩ : BufTy).Contents (Elt F) :=
  broadcastInDim S4x8192x8192 ![] bcast_S_S4x8192x8192 (val_main_c_1 (F := F))
abbrev idx_main_v23 (i : S4x8192x8192.Idx) : S_.Idx := fun a => a.elim0
theorem val_main_v23_apply (i : S4x8192x8192.Idx) :
    val_main_v23 (F := F) i = val_main_c_1 (F := F) (idx_main_v23 i) := by
  unfold val_main_v23
  generalize val_main_c_1 (F := F) = y
  exact broadcastInDim_apply _ bcast_S_S4x8192x8192 y i (idx_main_v23 i) (fun a => a.elim0)

-- %24 = stablehlo.subtract %17, %23 : tensor<4x8192x8192xi32>
def val_main_v24 : (⟨S4x8192x8192, .i32⟩ : BufTy).Contents (Elt F) :=
  subi (val_main_v17 (F := F)) (val_main_v23 (F := F))
theorem val_main_v24_apply (i : S4x8192x8192.Idx) :
    val_main_v24 (F := F) i = IntOp.subi (val_main_v17 (F := F) i) (val_main_v23 (F := F) i) := rfl

-- %25 = stablehlo.compare GT, %18, %24, SIGNED : (tensor<4x8192x8192xi32>, tensor<4x8192x8192xi32>) -> tensor<4x8192x8192xi1>
def val_main_v25 : (⟨S4x8192x8192, .i1⟩ : BufTy).Contents (Elt F) :=
  cmpi .sgt (val_main_v18 (F := F)) (val_main_v24 (F := F))
theorem val_main_v25_apply (i : S4x8192x8192.Idx) :
    val_main_v25 (F := F) i = IntOp.cmpi .sgt (val_main_v18 (F := F) i) (val_main_v24 (F := F) i) := rfl

-- %26 = stablehlo.or %22, %25 : tensor<4x8192x8192xi1>
def val_main_v26 : (⟨S4x8192x8192, .i1⟩ : BufTy).Contents (Elt F) :=
  ori (val_main_v22 (F := F)) (val_main_v25 (F := F))
theorem val_main_v26_apply (i : S4x8192x8192.Idx) :
    val_main_v26 (F := F) i = IntOp.ori (val_main_v22 (F := F) i) (val_main_v25 (F := F) i) := rfl

-- %27 = stablehlo.and %19, %26 : tensor<4x8192x8192xi1>
def val_main_v27 : (⟨S4x8192x8192, .i1⟩ : BufTy).Contents (Elt F) :=
  andi (val_main_v19 (F := F)) (val_main_v26 (F := F))
theorem val_main_v27_apply (i : S4x8192x8192.Idx) :
    val_main_v27 (F := F) i = IntOp.andi (val_main_v19 (F := F) i) (val_main_v26 (F := F) i) := rfl

-- %28 = stablehlo.broadcast_in_dim %27, dims = [2, 3, 4] : (tensor<4x8192x8192xi1>) -> tensor<1x1x4x8192x8192xi1>
def val_main_v28 : (⟨S1x1x4x8192x8192, .i1⟩ : BufTy).Contents (Elt F) :=
  broadcastInDim S1x1x4x8192x8192 ![2, 3, 4] bcast_S4x8192x8192_S1x1x4x8192x8192_2_3_4 (val_main_v27 (F := F))
abbrev idx_main_v28 (i : S1x1x4x8192x8192.Idx) : S4x8192x8192.Idx := fun a => match a with
  | ⟨0, _⟩ => ⟨(i 2).val, (i 2).isLt⟩
  | ⟨1, _⟩ => ⟨(i 3).val, (i 3).isLt⟩
  | ⟨2, _⟩ => ⟨(i 4).val, (i 4).isLt⟩
theorem val_main_v28_apply (i : S1x1x4x8192x8192.Idx) :
    val_main_v28 (F := F) i = val_main_v27 (F := F) (idx_main_v28 i) := by
  unfold val_main_v28
  generalize val_main_v27 (F := F) = y
  exact broadcastInDim_apply _ bcast_S4x8192x8192_S1x1x4x8192x8192_2_3_4 y i (idx_main_v28 i) (fun a => match a with
    | ⟨0, _⟩ => by show (i 2).val = if (4 : Nat) = 1 then 0 else (i 2).val; rw [if_neg (by decide)]
    | ⟨1, _⟩ => by show (i 3).val = if (8192 : Nat) = 1 then 0 else (i 3).val; rw [if_neg (by decide)]
    | ⟨2, _⟩ => by show (i 4).val = if (8192 : Nat) = 1 then 0 else (i 4).val; rw [if_neg (by decide)])

-- %cst_2 = stablehlo.constant dense<0xFF800000> : tensor<f32>
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- @_where_0's %0 = stablehlo.convert %arg2 : tensor<f32>, in %29 = func.call @_where_0(…) (record main_call1)
def val_main_call1_v0 : (⟨S_, .f32⟩ : BufTy).Contents (Elt F) :=
  id (val_main_cst_2 (F := F))
theorem val_main_call1_v0_apply (i : S_.Idx) :
    val_main_call1_v0 (F := F) i = (val_main_cst_2 (F := F) i) := rfl

-- @_where_0's %1 = stablehlo.broadcast_in_dim %arg0, dims = [0, 1, 2, 3, 4] : (tensor<1x1x4x8192x8192xi1>) -> tensor<4x8x4x8192x8192xi1>, in %29 = func.call @_where_0(…) (record main_call1)
def val_main_call1_v1 : (⟨S4x8x4x8192x8192, .i1⟩ : BufTy).Contents (Elt F) :=
  broadcastInDim S4x8x4x8192x8192 ![0, 1, 2, 3, 4] bcast_S1x1x4x8192x8192_S4x8x4x8192x8192_0_1_2_3_4 (val_main_v28 (F := F))
abbrev idx_main_call1_v1 (i : S4x8x4x8192x8192.Idx) : S1x1x4x8192x8192.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
  | ⟨4, _⟩ => ⟨(i 4).val, (i 4).isLt⟩
theorem val_main_call1_v1_apply (i : S4x8x4x8192x8192.Idx) :
    val_main_call1_v1 (F := F) i = val_main_v28 (F := F) (idx_main_call1_v1 i) := by
  unfold val_main_call1_v1
  generalize val_main_v28 (F := F) = y
  exact broadcastInDim_apply _ bcast_S1x1x4x8192x8192_S4x8x4x8192x8192_0_1_2_3_4 y i (idx_main_call1_v1 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)]
    | ⟨4, _⟩ => by show (i 4).val = if (8192 : Nat) = 1 then 0 else (i 4).val; rw [if_neg (by decide)])

-- @_where_0's %2 = stablehlo.broadcast_in_dim %0, dims = [] : (tensor<f32>) -> tensor<4x8x4x8192x8192xf32>, in %29 = func.call @_where_0(…) (record main_call1)
def val_main_call1_v2 : (⟨S4x8x4x8192x8192, .f32⟩ : BufTy).Contents (Elt F) :=
  broadcastInDim S4x8x4x8192x8192 ![] bcast_S_S4x8x4x8192x8192 (val_main_call1_v0 (F := F))
abbrev idx_main_call1_v2 (i : S4x8x4x8192x8192.Idx) : S_.Idx := fun a => a.elim0
theorem val_main_call1_v2_apply (i : S4x8x4x8192x8192.Idx) :
    val_main_call1_v2 (F := F) i = val_main_call1_v0 (F := F) (idx_main_call1_v2 i) := by
  unfold val_main_call1_v2
  generalize val_main_call1_v0 (F := F) = y
  exact broadcastInDim_apply _ bcast_S_S4x8x4x8192x8192 y i (idx_main_call1_v2 i) (fun a => a.elim0)

-- %29 = func.call @_where_0(…) (record main_call1) result 0: @_where_0's %3 = stablehlo.select %1, %arg1, %2 : tensor<4x8x4x8192x8192xi1>, tensor<4x8x4x8192x8192xf32>
def val_main_v29 (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  select (val_main_call1_v1 (F := F)) (val_main_v15 (F := F) x2 x3 x4 x5) (val_main_call1_v2 (F := F))
theorem val_main_v29_apply (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v29 (F := F) x2 x3 x4 x5 i = Scalar.select (val_main_call1_v1 (F := F) i) (val_main_v15 (F := F) x2 x3 x4 x5 i) (val_main_call1_v2 (F := F) i) := rfl

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- %30 = stablehlo.reduce(%29 init: %cst_3) applies stablehlo.maximum across dimensions = [4] : (tensor<4x8x4x8192x8192xf32>, tensor<f32>) -> tensor<4x8x4x8192xf32> {
def val_main_v30 (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192, .f32⟩ : BufTy).Contents (Elt F) :=
  Host.reduce FloatOps.maximumf (val_main_v29 (F := F) x2 x3 x4 x5) (val_main_cst_3 (F := F)) reducesTo_S4x8x4x8192x8192_S4x8x4x8192_d4 h_S_

-- %31 = stablehlo.broadcast_in_dim %30, dims = [0, 1, 2, 3] : (tensor<4x8x4x8192xf32>) -> tensor<4x8x4x8192x1xf32>
def val_main_v31 (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  broadcastInDim S4x8x4x8192x1 ![0, 1, 2, 3] bcast_S4x8x4x8192_S4x8x4x8192x1_0_1_2_3 (val_main_v30 (F := F) x2 x3 x4 x5)
abbrev idx_main_v31 (i : S4x8x4x8192x1.Idx) : S4x8x4x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v31_apply (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v31 (F := F) x2 x3 x4 x5 i = val_main_v30 (F := F) x2 x3 x4 x5 (idx_main_v31 i) := by
  unfold val_main_v31
  generalize val_main_v30 (F := F) x2 x3 x4 x5 = y
  exact broadcastInDim_apply _ bcast_S4x8x4x8192_S4x8x4x8192x1_0_1_2_3 y i (idx_main_v31 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)])

-- %32 = stablehlo.broadcast_in_dim %4, dims = [0, 1, 2, 3, 4] : (tensor<1x8x4x1x1xf32>) -> tensor<4x8x4x8192x1xf32>
def val_main_v32 (x1 : (⟨S32, .f32⟩ : BufTy).Contents (Elt F)) : (⟨S4x8x4x8192x1, .f32⟩ : BufTy).Contents (Elt F) :=
  broadcastInDim S4x8x4x8192x1 ![0, 1, 2, 3, 4] bcast_S1x8x4x1x1_S4x8x4x8192x1_0_1_2_3_4 (val_main_v4 (F := F) x1)
abbrev idx_main_v32 (i : S4x8x4x8192x1.Idx) : S1x8x4x1x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩
  | ⟨4, _⟩ => ⟨0, Nat.one_pos⟩
theorem val_main_v32_apply (x1 : (⟨S32, .f32⟩ : BufTy).Contents (Elt F)) (i : S4x8x4x8192x1.Idx) :
    val_main_v32 (F := F) x1 i = val_main_v4 (F := F) x1 (idx_main_v32 i) := by
  unfold val_main_v32
  generalize val_main_v4 (F := F) x1 = y
  exact broadcastInDim_apply _ bcast_S1x8x4x1x1_S4x8x4x8192x1_0_1_2_3_4 y i (idx_main_v32 i) (fun a => match a with
    | ⟨0, _⟩ => by show 0 = if (1 : Nat) = 1 then 0 else (i 0).val; rw [if_pos rfl]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show 0 = if (1 : Nat) = 1 then 0 else (i 3).val; rw [if_pos rfl]
    | ⟨4, _⟩ => by show 0 = if (1 : Nat) = 1 then 0 else (i 4).val; rw [if_pos rfl])

-- %33 = stablehlo.maximum %31, %32 : tensor<4x8x4x8192x1xf32>
def val_main_v33 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  maximumf (val_main_v31 (F := F) x2 x3 x4 x5) (val_main_v32 (F := F) x1)
theorem val_main_v33_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v33 (F := F) x1 x2 x3 x4 x5 i = FloatOps.maximumf (val_main_v31 (F := F) x2 x3 x4 x5 i) (val_main_v32 (F := F) x1 i) := rfl

-- %34 = stablehlo.broadcast_in_dim %33, dims = [0, 1, 2, 3, 4] : (tensor<4x8x4x8192x1xf32>) -> tensor<4x8x4x8192x8192xf32>
def val_main_v34 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  broadcastInDim S4x8x4x8192x8192 ![0, 1, 2, 3, 4] bcast_S4x8x4x8192x1_S4x8x4x8192x8192_0_1_2_3_4 (val_main_v33 (F := F) x1 x2 x3 x4 x5)
abbrev idx_main_v34 (i : S4x8x4x8192x8192.Idx) : S4x8x4x8192x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v34_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v34 (F := F) x1 x2 x3 x4 x5 i = val_main_v33 (F := F) x1 x2 x3 x4 x5 (idx_main_v34 i) := by
  unfold val_main_v34
  generalize val_main_v33 (F := F) x1 x2 x3 x4 x5 = y
  exact broadcastInDim_apply _ bcast_S4x8x4x8192x1_S4x8x4x8192x8192_0_1_2_3_4 y i (idx_main_v34 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)]
    | ⟨4, _⟩ => by show 0 = if (1 : Nat) = 1 then 0 else (i 4).val; rw [if_pos rfl])

-- %35 = stablehlo.subtract %29, %34 : tensor<4x8x4x8192x8192xf32>
def val_main_v35 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  subf (val_main_v29 (F := F) x2 x3 x4 x5) (val_main_v34 (F := F) x1 x2 x3 x4 x5)
theorem val_main_v35_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v35 (F := F) x1 x2 x3 x4 x5 i = FloatOps.subf (val_main_v29 (F := F) x2 x3 x4 x5 i) (val_main_v34 (F := F) x1 x2 x3 x4 x5 i) := rfl

-- %36 = stablehlo.exponential %35 : tensor<4x8x4x8192x8192xf32>
def val_main_v36 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  Host.exp (val_main_v35 (F := F) x1 x2 x3 x4 x5)
theorem val_main_v36_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v36 (F := F) x1 x2 x3 x4 x5 i = FloatOps.hostUnary .exp (val_main_v35 (F := F) x1 x2 x3 x4 x5 i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %37 = stablehlo.reduce(%36 init: %cst_4) applies stablehlo.add across dimensions = [4] : (tensor<4x8x4x8192x8192xf32>, tensor<f32>) -> tensor<4x8x4x8192xf32> {
def val_main_v37 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192, .f32⟩ : BufTy).Contents (Elt F) :=
  Host.reduceAdd (val_main_v36 (F := F) x1 x2 x3 x4 x5) (val_main_cst_4 (F := F)) reducesTo_S4x8x4x8192x8192_S4x8x4x8192_d4 h_S_
abbrev idx_main_v37 (i : S4x8x4x8192.Idx) (k : Fin 8192) : S4x8x4x8192x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v37_apply (x1 : (⟨S32, .f32⟩ : BufTy).Contents (Elt Ideal)) (x2 : (⟨S4x8192x4096, .f32⟩ : BufTy).Contents (Elt Ideal)) (x3 : (⟨S4x64x32x128, .f32⟩ : BufTy).Contents (Elt Ideal)) (x4 : (⟨S4x8192x1024, .f32⟩ : BufTy).Contents (Elt Ideal)) (x5 : (⟨S4x8192x8, .f32⟩ : BufTy).Contents (Elt Ideal)) (i : S4x8x4x8192.Idx) :
    val_main_v37 (F := Ideal) x1 x2 x3 x4 x5 i = (val_main_cst_4 (F := Ideal)) (Shape.Idx.first h_S_) + ∑ k : Fin 8192, (val_main_v36 (F := Ideal) x1 x2 x3 x4 x5) (idx_main_v37 i k) := by
  unfold val_main_v37
  generalize val_main_v36 (F := Ideal) x1 x2 x3 x4 x5 = y0
  simp only [Host.reduceAdd, Ideal.hostReduceAdd_def]
  rw [Ideal.hostReduceAdd_single reducesTo_S4x8x4x8192x8192_S4x8x4x8192_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %38 = stablehlo.broadcast_in_dim %37, dims = [0, 1, 2, 3] : (tensor<4x8x4x8192xf32>) -> tensor<4x8x4x8192x1xf32>
def val_main_v38 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  broadcastInDim S4x8x4x8192x1 ![0, 1, 2, 3] bcast_S4x8x4x8192_S4x8x4x8192x1_0_1_2_3 (val_main_v37 (F := F) x1 x2 x3 x4 x5)
abbrev idx_main_v38 (i : S4x8x4x8192x1.Idx) : S4x8x4x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v38_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v38 (F := F) x1 x2 x3 x4 x5 i = val_main_v37 (F := F) x1 x2 x3 x4 x5 (idx_main_v38 i) := by
  unfold val_main_v38
  generalize val_main_v37 (F := F) x1 x2 x3 x4 x5 = y
  exact broadcastInDim_apply _ bcast_S4x8x4x8192_S4x8x4x8192x1_0_1_2_3 y i (idx_main_v38 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)])

-- %39 = stablehlo.broadcast_in_dim %4, dims = [0, 1, 2, 3, 4] : (tensor<1x8x4x1x1xf32>) -> tensor<4x8x4x8192x1xf32>
def val_main_v39 (x1 : (⟨S32, .f32⟩ : BufTy).Contents (Elt F)) : (⟨S4x8x4x8192x1, .f32⟩ : BufTy).Contents (Elt F) :=
  broadcastInDim S4x8x4x8192x1 ![0, 1, 2, 3, 4] bcast_S1x8x4x1x1_S4x8x4x8192x1_0_1_2_3_4 (val_main_v4 (F := F) x1)
abbrev idx_main_v39 (i : S4x8x4x8192x1.Idx) : S1x8x4x1x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩
  | ⟨4, _⟩ => ⟨0, Nat.one_pos⟩
theorem val_main_v39_apply (x1 : (⟨S32, .f32⟩ : BufTy).Contents (Elt F)) (i : S4x8x4x8192x1.Idx) :
    val_main_v39 (F := F) x1 i = val_main_v4 (F := F) x1 (idx_main_v39 i) := by
  unfold val_main_v39
  generalize val_main_v4 (F := F) x1 = y
  exact broadcastInDim_apply _ bcast_S1x8x4x1x1_S4x8x4x8192x1_0_1_2_3_4 y i (idx_main_v39 i) (fun a => match a with
    | ⟨0, _⟩ => by show 0 = if (1 : Nat) = 1 then 0 else (i 0).val; rw [if_pos rfl]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show 0 = if (1 : Nat) = 1 then 0 else (i 3).val; rw [if_pos rfl]
    | ⟨4, _⟩ => by show 0 = if (1 : Nat) = 1 then 0 else (i 4).val; rw [if_pos rfl])

-- %40 = stablehlo.subtract %39, %33 : tensor<4x8x4x8192x1xf32>
def val_main_v40 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  subf (val_main_v39 (F := F) x1) (val_main_v33 (F := F) x1 x2 x3 x4 x5)
theorem val_main_v40_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v40 (F := F) x1 x2 x3 x4 x5 i = FloatOps.subf (val_main_v39 (F := F) x1 i) (val_main_v33 (F := F) x1 x2 x3 x4 x5 i) := rfl

-- %41 = stablehlo.exponential %40 : tensor<4x8x4x8192x1xf32>
def val_main_v41 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.exp (val_main_v40 (F := F) x1 x2 x3 x4 x5)
theorem val_main_v41_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v41 (F := F) x1 x2 x3 x4 x5 i = FloatOps.hostUnary .exp (val_main_v40 (F := F) x1 x2 x3 x4 x5 i) := rfl

-- %42 = stablehlo.add %38, %41 : tensor<4x8x4x8192x1xf32>
def val_main_v42 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  addf (val_main_v38 (F := F) x1 x2 x3 x4 x5) (val_main_v41 (F := F) x1 x2 x3 x4 x5)
theorem val_main_v42_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v42 (F := F) x1 x2 x3 x4 x5 i = FloatOps.addf (val_main_v38 (F := F) x1 x2 x3 x4 x5 i) (val_main_v41 (F := F) x1 x2 x3 x4 x5 i) := rfl

-- %43 = stablehlo.abs %36 : tensor<4x8x4x8192x8192xf32>
def val_main_v43 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  Host.absf (val_main_v36 (F := F) x1 x2 x3 x4 x5)
theorem val_main_v43_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v43 (F := F) x1 x2 x3 x4 x5 i = FloatOps.hostAbsf (val_main_v36 (F := F) x1 x2 x3 x4 x5 i) := rfl

-- %cst_5 = stablehlo.constant dense<0xFF800000> : tensor<f32>
def val_main_cst_5 : (⟨S_, .f32⟩ : BufTy).Contents (Elt F) :=
  constant S_ .f32 0xFF800000#32
theorem val_main_cst_5_apply (i : S_.Idx) :
    val_main_cst_5 (F := F) i = FloatOps.ofBits .f32 0xFF800000#32 := rfl

-- %44 = stablehlo.reduce(%43 init: %cst_5) applies stablehlo.maximum across dimensions = [4] : (tensor<4x8x4x8192x8192xf32>, tensor<f32>) -> tensor<4x8x4x8192xf32> {
def val_main_v44 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192, .f32⟩ : BufTy).Contents (Elt F) :=
  Host.reduce FloatOps.maximumf (val_main_v43 (F := F) x1 x2 x3 x4 x5) (val_main_cst_5 (F := F)) reducesTo_S4x8x4x8192x8192_S4x8x4x8192_d4 h_S_

-- %45 = stablehlo.broadcast_in_dim %44, dims = [0, 1, 2, 3] : (tensor<4x8x4x8192xf32>) -> tensor<4x8x4x8192x1xf32>
def val_main_v45 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  broadcastInDim S4x8x4x8192x1 ![0, 1, 2, 3] bcast_S4x8x4x8192_S4x8x4x8192x1_0_1_2_3 (val_main_v44 (F := F) x1 x2 x3 x4 x5)
abbrev idx_main_v45 (i : S4x8x4x8192x1.Idx) : S4x8x4x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v45_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v45 (F := F) x1 x2 x3 x4 x5 i = val_main_v44 (F := F) x1 x2 x3 x4 x5 (idx_main_v45 i) := by
  unfold val_main_v45
  generalize val_main_v44 (F := F) x1 x2 x3 x4 x5 = y
  exact broadcastInDim_apply _ bcast_S4x8x4x8192_S4x8x4x8192x1_0_1_2_3 y i (idx_main_v45 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)])

-- %cst_6 = stablehlo.constant dense<0.00223214296> : tensor<f32>
def val_main_cst_6 : (⟨S_, .f32⟩ : BufTy).Contents (Elt F) :=
  constant S_ .f32 0x3B124925#32
theorem val_main_cst_6_apply (i : S_.Idx) :
    val_main_cst_6 (F := F) i = FloatOps.ofBits .f32 0x3B124925#32 := rfl

-- %46 = stablehlo.broadcast_in_dim %cst_6, dims = [] : (tensor<f32>) -> tensor<4x8x4x8192x1xf32>
def val_main_v46 : (⟨S4x8x4x8192x1, .f32⟩ : BufTy).Contents (Elt F) :=
  broadcastInDim S4x8x4x8192x1 ![] bcast_S_S4x8x4x8192x1 (val_main_cst_6 (F := F))
abbrev idx_main_v46 (i : S4x8x4x8192x1.Idx) : S_.Idx := fun a => a.elim0
theorem val_main_v46_apply (i : S4x8x4x8192x1.Idx) :
    val_main_v46 (F := F) i = val_main_cst_6 (F := F) (idx_main_v46 i) := by
  unfold val_main_v46
  generalize val_main_cst_6 (F := F) = y
  exact broadcastInDim_apply _ bcast_S_S4x8x4x8192x1 y i (idx_main_v46 i) (fun a => a.elim0)

-- %47 = stablehlo.multiply %45, %46 : tensor<4x8x4x8192x1xf32>
def val_main_v47 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  mulf (val_main_v45 (F := F) x1 x2 x3 x4 x5) (val_main_v46 (F := F))
theorem val_main_v47_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v47 (F := F) x1 x2 x3 x4 x5 i = FloatOps.mulf (val_main_v45 (F := F) x1 x2 x3 x4 x5 i) (val_main_v46 (F := F) i) := rfl

-- %48 = stablehlo.log %47 : tensor<4x8x4x8192x1xf32>
def val_main_v48 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.log (val_main_v47 (F := F) x1 x2 x3 x4 x5)
theorem val_main_v48_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v48 (F := F) x1 x2 x3 x4 x5 i = FloatOps.hostUnary .log (val_main_v47 (F := F) x1 x2 x3 x4 x5 i) := rfl

-- %cst_7 = stablehlo.constant dense<2.000000e+00> : tensor<f32>
def val_main_cst_7 : (⟨S_, .f32⟩ : BufTy).Contents (Elt F) :=
  constant S_ .f32 0x40000000#32
theorem val_main_cst_7_apply (i : S_.Idx) :
    val_main_cst_7 (F := F) i = FloatOps.ofBits .f32 0x40000000#32 := rfl

-- %49 = stablehlo.log %cst_7 : tensor<f32>
def val_main_v49 : (⟨S_, .f32⟩ : BufTy).Contents (Elt F) :=
  Host.log (val_main_cst_7 (F := F))
theorem val_main_v49_apply (i : S_.Idx) :
    val_main_v49 (F := F) i = FloatOps.hostUnary .log (val_main_cst_7 (F := F) i) := rfl

-- %50 = stablehlo.broadcast_in_dim %49, dims = [] : (tensor<f32>) -> tensor<4x8x4x8192x1xf32>
def val_main_v50 : (⟨S4x8x4x8192x1, .f32⟩ : BufTy).Contents (Elt F) :=
  broadcastInDim S4x8x4x8192x1 ![] bcast_S_S4x8x4x8192x1 (val_main_v49 (F := F))
abbrev idx_main_v50 (i : S4x8x4x8192x1.Idx) : S_.Idx := fun a => a.elim0
theorem val_main_v50_apply (i : S4x8x4x8192x1.Idx) :
    val_main_v50 (F := F) i = val_main_v49 (F := F) (idx_main_v50 i) := by
  unfold val_main_v50
  generalize val_main_v49 (F := F) = y
  exact broadcastInDim_apply _ bcast_S_S4x8x4x8192x1 y i (idx_main_v50 i) (fun a => a.elim0)

-- %51 = stablehlo.divide %48, %50 : tensor<4x8x4x8192x1xf32>
def val_main_v51 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.divf (val_main_v48 (F := F) x1 x2 x3 x4 x5) (val_main_v50 (F := F))
theorem val_main_v51_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v51 (F := F) x1 x2 x3 x4 x5 i = FloatOps.hostDivf (val_main_v48 (F := F) x1 x2 x3 x4 x5 i) (val_main_v50 (F := F) i) := rfl

-- %52 = stablehlo.floor %51 : tensor<4x8x4x8192x1xf32>
def val_main_v52 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.floor (val_main_v51 (F := F) x1 x2 x3 x4 x5)
theorem val_main_v52_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v52 (F := F) x1 x2 x3 x4 x5 i = FloatOps.hostUnary .floor (val_main_v51 (F := F) x1 x2 x3 x4 x5 i) := rfl

-- %cst_8 = stablehlo.constant dense<1.000000e+00> : tensor<f32>
def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

-- %53 = stablehlo.broadcast_in_dim %cst_8, dims = [] : (tensor<f32>) -> tensor<4x8x4x8192x1xf32>
def val_main_v53 : (⟨S4x8x4x8192x1, .f32⟩ : BufTy).Contents (Elt F) :=
  broadcastInDim S4x8x4x8192x1 ![] bcast_S_S4x8x4x8192x1 (val_main_cst_8 (F := F))
abbrev idx_main_v53 (i : S4x8x4x8192x1.Idx) : S_.Idx := fun a => a.elim0
theorem val_main_v53_apply (i : S4x8x4x8192x1.Idx) :
    val_main_v53 (F := F) i = val_main_cst_8 (F := F) (idx_main_v53 i) := by
  unfold val_main_v53
  generalize val_main_cst_8 (F := F) = y
  exact broadcastInDim_apply _ bcast_S_S4x8x4x8192x1 y i (idx_main_v53 i) (fun a => a.elim0)

-- %54 = stablehlo.add %52, %53 : tensor<4x8x4x8192x1xf32>
def val_main_v54 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  addf (val_main_v52 (F := F) x1 x2 x3 x4 x5) (val_main_v53 (F := F))
theorem val_main_v54_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v54 (F := F) x1 x2 x3 x4 x5 i = FloatOps.addf (val_main_v52 (F := F) x1 x2 x3 x4 x5 i) (val_main_v53 (F := F) i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %55 = stablehlo.broadcast_in_dim %cst_9, dims = [] : (tensor<f32>) -> tensor<4x8x4x8192x1xf32>
def val_main_v55 : (⟨S4x8x4x8192x1, .f32⟩ : BufTy).Contents (Elt F) :=
  broadcastInDim S4x8x4x8192x1 ![] bcast_S_S4x8x4x8192x1 (val_main_cst_9 (F := F))
abbrev idx_main_v55 (i : S4x8x4x8192x1.Idx) : S_.Idx := fun a => a.elim0
theorem val_main_v55_apply (i : S4x8x4x8192x1.Idx) :
    val_main_v55 (F := F) i = val_main_cst_9 (F := F) (idx_main_v55 i) := by
  unfold val_main_v55
  generalize val_main_cst_9 (F := F) = y
  exact broadcastInDim_apply _ bcast_S_S4x8x4x8192x1 y i (idx_main_v55 i) (fun a => a.elim0)

-- %56 = stablehlo.compare EQ, %45, %55, FLOAT : (tensor<4x8x4x8192x1xf32>, tensor<4x8x4x8192x1xf32>) -> tensor<4x8x4x8192x1xi1>
def val_main_v56 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .i1⟩ : BufTy).Contents (Elt F) :=
  cmpf .oeq (val_main_v45 (F := F) x1 x2 x3 x4 x5) (val_main_v55 (F := F))
theorem val_main_v56_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v56 (F := F) x1 x2 x3 x4 x5 i = FloatOps.cmpf .oeq (val_main_v45 (F := F) x1 x2 x3 x4 x5 i) (val_main_v55 (F := F) i) := rfl

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- @_where_1's %0 = stablehlo.convert %arg1 : tensor<f32>, in %57 = func.call @_where_1(…) (record main_call2)
def val_main_call2_v0 : (⟨S_, .f32⟩ : BufTy).Contents (Elt F) :=
  id (val_main_cst_10 (F := F))
theorem val_main_call2_v0_apply (i : S_.Idx) :
    val_main_call2_v0 (F := F) i = (val_main_cst_10 (F := F) i) := rfl

-- @_where_1's %1 = stablehlo.broadcast_in_dim %0, dims = [] : (tensor<f32>) -> tensor<4x8x4x8192x1xf32>, in %57 = func.call @_where_1(…) (record main_call2)
def val_main_call2_v1 : (⟨S4x8x4x8192x1, .f32⟩ : BufTy).Contents (Elt F) :=
  broadcastInDim S4x8x4x8192x1 ![] bcast_S_S4x8x4x8192x1 (val_main_call2_v0 (F := F))
abbrev idx_main_call2_v1 (i : S4x8x4x8192x1.Idx) : S_.Idx := fun a => a.elim0
theorem val_main_call2_v1_apply (i : S4x8x4x8192x1.Idx) :
    val_main_call2_v1 (F := F) i = val_main_call2_v0 (F := F) (idx_main_call2_v1 i) := by
  unfold val_main_call2_v1
  generalize val_main_call2_v0 (F := F) = y
  exact broadcastInDim_apply _ bcast_S_S4x8x4x8192x1 y i (idx_main_call2_v1 i) (fun a => a.elim0)

-- %57 = func.call @_where_1(…) (record main_call2) result 0: @_where_1's %2 = stablehlo.select %arg0, %1, %arg2 : tensor<4x8x4x8192x1xi1>, tensor<4x8x4x8192x1xf32>
def val_main_v57 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  select (val_main_v56 (F := F) x1 x2 x3 x4 x5) (val_main_call2_v1 (F := F)) (val_main_v54 (F := F) x1 x2 x3 x4 x5)
theorem val_main_v57_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v57 (F := F) x1 x2 x3 x4 x5 i = Scalar.select (val_main_v56 (F := F) x1 x2 x3 x4 x5 i) (val_main_call2_v1 (F := F) i) (val_main_v54 (F := F) x1 x2 x3 x4 x5 i) := rfl

-- %cst_11 = stablehlo.constant dense<2.000000e+00> : tensor<f32>
def val_main_cst_11 : (⟨S_, .f32⟩ : BufTy).Contents (Elt F) :=
  constant S_ .f32 0x40000000#32
theorem val_main_cst_11_apply (i : S_.Idx) :
    val_main_cst_11 (F := F) i = FloatOps.ofBits .f32 0x40000000#32 := rfl

-- %58 = stablehlo.broadcast_in_dim %cst_11, dims = [] : (tensor<f32>) -> tensor<4x8x4x8192x1xf32>
def val_main_v58 : (⟨S4x8x4x8192x1, .f32⟩ : BufTy).Contents (Elt F) :=
  broadcastInDim S4x8x4x8192x1 ![] bcast_S_S4x8x4x8192x1 (val_main_cst_11 (F := F))
abbrev idx_main_v58 (i : S4x8x4x8192x1.Idx) : S_.Idx := fun a => a.elim0
theorem val_main_v58_apply (i : S4x8x4x8192x1.Idx) :
    val_main_v58 (F := F) i = val_main_cst_11 (F := F) (idx_main_v58 i) := by
  unfold val_main_v58
  generalize val_main_cst_11 (F := F) = y
  exact broadcastInDim_apply _ bcast_S_S4x8x4x8192x1 y i (idx_main_v58 i) (fun a => a.elim0)

-- %59 = stablehlo.power %58, %57 : tensor<4x8x4x8192x1xf32>
def val_main_v59 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.powf (val_main_v58 (F := F)) (val_main_v57 (F := F) x1 x2 x3 x4 x5)
theorem val_main_v59_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v59 (F := F) x1 x2 x3 x4 x5 i = FloatOps.hostPowf (val_main_v58 (F := F) i) (val_main_v57 (F := F) x1 x2 x3 x4 x5 i) := rfl

-- %60 = stablehlo.negate %57 : tensor<4x8x4x8192x1xf32>
def val_main_v60 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.negf (val_main_v57 (F := F) x1 x2 x3 x4 x5)
theorem val_main_v60_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v60 (F := F) x1 x2 x3 x4 x5 i = FloatOps.hostNegf (val_main_v57 (F := F) x1 x2 x3 x4 x5 i) := rfl

-- %cst_12 = stablehlo.constant dense<2.000000e+00> : tensor<f32>
def val_main_cst_12 : (⟨S_, .f32⟩ : BufTy).Contents (Elt F) :=
  constant S_ .f32 0x40000000#32
theorem val_main_cst_12_apply (i : S_.Idx) :
    val_main_cst_12 (F := F) i = FloatOps.ofBits .f32 0x40000000#32 := rfl

-- %61 = stablehlo.broadcast_in_dim %cst_12, dims = [] : (tensor<f32>) -> tensor<4x8x4x8192x1xf32>
def val_main_v61 : (⟨S4x8x4x8192x1, .f32⟩ : BufTy).Contents (Elt F) :=
  broadcastInDim S4x8x4x8192x1 ![] bcast_S_S4x8x4x8192x1 (val_main_cst_12 (F := F))
abbrev idx_main_v61 (i : S4x8x4x8192x1.Idx) : S_.Idx := fun a => a.elim0
theorem val_main_v61_apply (i : S4x8x4x8192x1.Idx) :
    val_main_v61 (F := F) i = val_main_cst_12 (F := F) (idx_main_v61 i) := by
  unfold val_main_v61
  generalize val_main_cst_12 (F := F) = y
  exact broadcastInDim_apply _ bcast_S_S4x8x4x8192x1 y i (idx_main_v61 i) (fun a => a.elim0)

-- %62 = stablehlo.power %61, %60 : tensor<4x8x4x8192x1xf32>
def val_main_v62 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.powf (val_main_v61 (F := F)) (val_main_v60 (F := F) x1 x2 x3 x4 x5)
theorem val_main_v62_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v62 (F := F) x1 x2 x3 x4 x5 i = FloatOps.hostPowf (val_main_v61 (F := F) i) (val_main_v60 (F := F) x1 x2 x3 x4 x5 i) := rfl

-- %63 = stablehlo.broadcast_in_dim %62, dims = [0, 1, 2, 3, 4] : (tensor<4x8x4x8192x1xf32>) -> tensor<4x8x4x8192x8192xf32>
def val_main_v63 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  broadcastInDim S4x8x4x8192x8192 ![0, 1, 2, 3, 4] bcast_S4x8x4x8192x1_S4x8x4x8192x8192_0_1_2_3_4 (val_main_v62 (F := F) x1 x2 x3 x4 x5)
abbrev idx_main_v63 (i : S4x8x4x8192x8192.Idx) : S4x8x4x8192x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v63_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v63 (F := F) x1 x2 x3 x4 x5 i = val_main_v62 (F := F) x1 x2 x3 x4 x5 (idx_main_v63 i) := by
  unfold val_main_v63
  generalize val_main_v62 (F := F) x1 x2 x3 x4 x5 = y
  exact broadcastInDim_apply _ bcast_S4x8x4x8192x1_S4x8x4x8192x8192_0_1_2_3_4 y i (idx_main_v63 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)]
    | ⟨4, _⟩ => by show 0 = if (1 : Nat) = 1 then 0 else (i 4).val; rw [if_pos rfl])

-- %64 = stablehlo.multiply %36, %63 : tensor<4x8x4x8192x8192xf32>
def val_main_v64 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  mulf (val_main_v36 (F := F) x1 x2 x3 x4 x5) (val_main_v63 (F := F) x1 x2 x3 x4 x5)
theorem val_main_v64_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v64 (F := F) x1 x2 x3 x4 x5 i = FloatOps.mulf (val_main_v36 (F := F) x1 x2 x3 x4 x5 i) (val_main_v63 (F := F) x1 x2 x3 x4 x5 i) := rfl

-- %cst_13 = stablehlo.constant dense<-4.480000e+02> : tensor<f32>
def val_main_cst_13 : (⟨S_, .f32⟩ : BufTy).Contents (Elt F) :=
  constant S_ .f32 0xC3E00000#32
theorem val_main_cst_13_apply (i : S_.Idx) :
    val_main_cst_13 (F := F) i = FloatOps.ofBits .f32 0xC3E00000#32 := rfl

-- %cst_14 = stablehlo.constant dense<4.480000e+02> : tensor<f32>
def val_main_cst_14 : (⟨S_, .f32⟩ : BufTy).Contents (Elt F) :=
  constant S_ .f32 0x43E00000#32
theorem val_main_cst_14_apply (i : S_.Idx) :
    val_main_cst_14 (F := F) i = FloatOps.ofBits .f32 0x43E00000#32 := rfl

-- @clip's %0 = stablehlo.convert %arg1 : tensor<f32>, in %65 = func.call @clip(…) (record main_call3)
def val_main_call3_v0 : (⟨S_, .f32⟩ : BufTy).Contents (Elt F) :=
  id (val_main_cst_13 (F := F))
theorem val_main_call3_v0_apply (i : S_.Idx) :
    val_main_call3_v0 (F := F) i = (val_main_cst_13 (F := F) i) := rfl

-- @clip's %1 = stablehlo.broadcast_in_dim %0, dims = [] : (tensor<f32>) -> tensor<4x8x4x8192x8192xf32>, in %65 = func.call @clip(…) (record main_call3)
def val_main_call3_v1 : (⟨S4x8x4x8192x8192, .f32⟩ : BufTy).Contents (Elt F) :=
  broadcastInDim S4x8x4x8192x8192 ![] bcast_S_S4x8x4x8192x8192 (val_main_call3_v0 (F := F))
abbrev idx_main_call3_v1 (i : S4x8x4x8192x8192.Idx) : S_.Idx := fun a => a.elim0
theorem val_main_call3_v1_apply (i : S4x8x4x8192x8192.Idx) :
    val_main_call3_v1 (F := F) i = val_main_call3_v0 (F := F) (idx_main_call3_v1 i) := by
  unfold val_main_call3_v1
  generalize val_main_call3_v0 (F := F) = y
  exact broadcastInDim_apply _ bcast_S_S4x8x4x8192x8192 y i (idx_main_call3_v1 i) (fun a => a.elim0)

-- @clip's %2 = stablehlo.maximum %1, %arg0 : tensor<4x8x4x8192x8192xf32>, in %65 = func.call @clip(…) (record main_call3)
def val_main_call3_v2 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  maximumf (val_main_call3_v1 (F := F)) (val_main_v64 (F := F) x1 x2 x3 x4 x5)
theorem val_main_call3_v2_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_call3_v2 (F := F) x1 x2 x3 x4 x5 i = FloatOps.maximumf (val_main_call3_v1 (F := F) i) (val_main_v64 (F := F) x1 x2 x3 x4 x5 i) := rfl

-- @clip's %3 = stablehlo.convert %arg2 : tensor<f32>, in %65 = func.call @clip(…) (record main_call3)
def val_main_call3_v3 : (⟨S_, .f32⟩ : BufTy).Contents (Elt F) :=
  id (val_main_cst_14 (F := F))
theorem val_main_call3_v3_apply (i : S_.Idx) :
    val_main_call3_v3 (F := F) i = (val_main_cst_14 (F := F) i) := rfl

-- @clip's %4 = stablehlo.broadcast_in_dim %3, dims = [] : (tensor<f32>) -> tensor<4x8x4x8192x8192xf32>, in %65 = func.call @clip(…) (record main_call3)
def val_main_call3_v4 : (⟨S4x8x4x8192x8192, .f32⟩ : BufTy).Contents (Elt F) :=
  broadcastInDim S4x8x4x8192x8192 ![] bcast_S_S4x8x4x8192x8192 (val_main_call3_v3 (F := F))
abbrev idx_main_call3_v4 (i : S4x8x4x8192x8192.Idx) : S_.Idx := fun a => a.elim0
theorem val_main_call3_v4_apply (i : S4x8x4x8192x8192.Idx) :
    val_main_call3_v4 (F := F) i = val_main_call3_v3 (F := F) (idx_main_call3_v4 i) := by
  unfold val_main_call3_v4
  generalize val_main_call3_v3 (F := F) = y
  exact broadcastInDim_apply _ bcast_S_S4x8x4x8192x8192 y i (idx_main_call3_v4 i) (fun a => a.elim0)

-- %65 = func.call @clip(…) (record main_call3) result 0: @clip's %5 = stablehlo.minimum %4, %2 : tensor<4x8x4x8192x8192xf32>
def val_main_v65 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x8192, .f32⟩ : BufTy).Contents (Elt F) :=
  minimumf (val_main_call3_v4 (F := F)) (val_main_call3_v2 (F := F) x1 x2 x3 x4 x5)
theorem val_main_v65_apply (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x8192.Idx) :
    val_main_v65 (F := F) x1 x2 x3 x4 x5 i = FloatOps.minimumf (val_main_call3_v4 (F := F) i) (val_main_call3_v2 (F := F) x1 x2 x3 x4 x5 i) := rfl

-- %66 = stablehlo.dot_general %65, %arg6, batching_dims = [0, 1] x [0, 1], contracting_dims = [4] x [3], precision = [DEFAULT, DEFAULT] : (tensor<4x8x4x8192x8192xf32>, tensor<4x8x128x8192xf32>) -> tensor<4x8x4x8192x128xf32>
def val_main_v66 (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) : (⟨S4x8x4x8192x128, .f32⟩ : BufTy).Contents (Elt F) :=
  Host.dotGeneral dot_S4x8x4x8192x8192_S4x8x128x8192_S4x8x4x8192x128_4_3_23_2_01_01 none (val_main_v65 (F := F) x1 x2 x3 x4 x5) (x6)
theorem lhs_main_v66_0 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.lhsIdx i q 0).val = (i 0).val := by
  unfold DotDims.lhsIdx
  rw [dif_pos (show (0 : Fin S4x8x4x8192x8192.rank) ∈ dot_S4x8x4x8192x8192_S4x8x128x8192_S4x8x4x8192x128_4_3_23_2_01_01.lhsBatch by decide)]
  rfl
theorem lhs_main_v66_1 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.lhsIdx i q 1).val = (i 1).val := by
  unfold DotDims.lhsIdx
  rw [dif_pos (show (1 : Fin S4x8x4x8192x8192.rank) ∈ dot_S4x8x4x8192x8192_S4x8x128x8192_S4x8x4x8192x128_4_3_23_2_01_01.lhsBatch by decide)]
  rfl
theorem lhs_main_v66_2 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.lhsIdx i q 2).val = (i 2).val := by
  unfold DotDims.lhsIdx
  rw [dif_neg (show ¬(2 : Fin S4x8x4x8192x8192.rank) ∈ dot_S4x8x4x8192x8192_S4x8x128x8192_S4x8x4x8192x128_4_3_23_2_01_01.lhsBatch by decide), dif_pos (show (2 : Fin S4x8x4x8192x8192.rank) ∈ dot_S4x8x4x8192x8192_S4x8x128x8192_S4x8x4x8192x128_4_3_23_2_01_01.lhsNonContracting by decide)]
  rfl
theorem lhs_main_v66_3 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.lhsIdx i q 3).val = (i 3).val := by
  unfold DotDims.lhsIdx
  rw [dif_neg (show ¬(3 : Fin S4x8x4x8192x8192.rank) ∈ dot_S4x8x4x8192x8192_S4x8x128x8192_S4x8x4x8192x128_4_3_23_2_01_01.lhsBatch by decide), dif_pos (show (3 : Fin S4x8x4x8192x8192.rank) ∈ dot_S4x8x4x8192x8192_S4x8x128x8192_S4x8x4x8192x128_4_3_23_2_01_01.lhsNonContracting by decide)]
  rfl
theorem lhs_main_v66_4 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.lhsIdx i q 4).val = (q ⟨0, by decide⟩).val :=
  dot_S4x8x4x8192x8192_S4x8x128x8192_S4x8x4x8192x128_4_3_23_2_01_01.lhsIdx_val_of_single rfl i q
theorem rhs_main_v66_0 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.rhsIdx i q 0).val = (i 0).val := by
  unfold DotDims.rhsIdx
  rw [dif_pos (show (0 : Fin S4x8x128x8192.rank) ∈ dot_S4x8x4x8192x8192_S4x8x128x8192_S4x8x4x8192x128_4_3_23_2_01_01.rhsBatch by decide)]
  rfl
theorem rhs_main_v66_1 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.rhsIdx i q 1).val = (i 1).val := by
  unfold DotDims.rhsIdx
  rw [dif_pos (show (1 : Fin S4x8x128x8192.rank) ∈ dot_S4x8x4x8192x8192_S4x8x128x8192_S4x8x4x8192x128_4_3_23_2_01_01.rhsBatch by decide)]
  rfl
theorem rhs_main_v66_2 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.rhsIdx i q 2).val = (i 4).val := by
  unfold DotDims.rhsIdx
  rw [dif_neg (show ¬(2 : Fin S4x8x128x8192.rank) ∈ dot_S4x8x4x8192x8192_S4x8x128x8192_S4x8x4x8192x128_4_3_23_2_01_01.rhsBatch by decide), dif_pos (show (2 : Fin S4x8x128x8192.rank) ∈ dot_S4x8x4x8192x8192_S4x8x128x8192_S4x8x4x8192x128_4_3_23_2_01_01.rhsNonContracting by decide)]
  rfl
theorem rhs_main_v66_3 (i : S4x8x4x8192x128.Idx) (q : dot_S4x8x4x8192x8192_S4x8x128x8192_S4x8x4x8192x128_4_3_23_2_01_01.contr.Idx) :
    (dot_S4x8x4x8192x8192_S4x8x128x8192_S4x8x4x8192x128_4_3_23_2_01_01.rhsIdx i q 3).val = (q ⟨0, by decide⟩).val :=
  dot_S4x8x4x8192x8192_S4x8x128x8192_S4x8x4x8192x128_4_3_23_2_01_01.rhsIdx_val_of_single rfl i q
abbrev lidx_main_v66 (i : S4x8x4x8192x128.Idx) (k : Fin 8192) : S4x8x4x8192x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v66 (i : S4x8x4x8192x128.Idx) (k : Fin 8192) : S4x8x128x8192.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨k.val, k.isLt⟩
/-- Stated at `F := Ideal`, where the host's `dot_general` is this sum; at a bit-exact instance it is an opaque function of its operands. -/
theorem val_main_v66_apply (x1 : (⟨S32, .f32⟩ : BufTy).Contents (Elt Ideal)) (x2 : (⟨S4x8192x4096, .f32⟩ : BufTy).Contents (Elt Ideal)) (x3 : (⟨S4x64x32x128, .f32⟩ : BufTy).Contents (Elt Ideal)) (x4 : (⟨S4x8192x1024, .f32⟩ : BufTy).Contents (Elt Ideal)) (x5 : (⟨S4x8192x8, .f32⟩ : BufTy).Contents (Elt Ideal)) (x6 : (⟨S4x8x128x8192, .f32⟩ : BufTy).Contents (Elt Ideal)) (i : S4x8x4x8192x128.Idx) :
    val_main_v66 (F := Ideal) x1 x2 x3 x4 x5 x6 i = ∑ k : Fin 8192, (val_main_v65 (F := Ideal) x1 x2 x3 x4 x5) (lidx_main_v66 i k) * x6 (ridx_main_v66 i k) := by
  unfold val_main_v66
  generalize val_main_v65 (F := Ideal) x1 x2 x3 x4 x5 = y0
  simp only [Host.dotGeneral]
  rw [Ideal.dotGeneral_apply, ← Equiv.sum_comp (ValueIdx.contrEquiv1 dot_S4x8x4x8192x8192_S4x8x128x8192_S4x8x4x8192x128_4_3_23_2_01_01 8192 rfl rfl).symm]
  refine Finset.sum_congr rfl fun k _ => ?_
  have hk := ValueIdx.contrEquiv1_symm_val dot_S4x8x4x8192x8192_S4x8x128x8192_S4x8x4x8192x128_4_3_23_2_01_01 8192 rfl rfl k
  have el : dot_S4x8x4x8192x8192_S4x8x128x8192_S4x8x4x8192x128_4_3_23_2_01_01.lhsIdx i ((ValueIdx.contrEquiv1 dot_S4x8x4x8192x8192_S4x8x128x8192_S4x8x4x8192x128_4_3_23_2_01_01 8192 rfl rfl).symm k) = lidx_main_v66 i k := funext fun a => Fin.ext (by
    match a with
    | ⟨0, _⟩ => exact lhs_main_v66_0 _ _
    | ⟨1, _⟩ => exact lhs_main_v66_1 _ _
    | ⟨2, _⟩ => exact lhs_main_v66_2 _ _
    | ⟨3, _⟩ => exact lhs_main_v66_3 _ _
    | ⟨4, _⟩ => exact (lhs_main_v66_4 _ _).trans hk)
  have er : dot_S4x8x4x8192x8192_S4x8x128x8192_S4x8x4x8192x128_4_3_23_2_01_01.rhsIdx i ((ValueIdx.contrEquiv1 dot_S4x8x4x8192x8192_S4x8x128x8192_S4x8x4x8192x128_4_3_23_2_01_01 8192 rfl rfl).symm k) = ridx_main_v66 i k := funext fun a => Fin.ext (by
    match a with
    | ⟨0, _⟩ => exact rhs_main_v66_0 _ _
    | ⟨1, _⟩ => exact rhs_main_v66_1 _ _
    | ⟨2, _⟩ => exact rhs_main_v66_2 _ _
    | ⟨3, _⟩ => exact (rhs_main_v66_3 _ _).trans hk)
  rw [el, er]

-- %67 = stablehlo.broadcast_in_dim %arg0, dims = [0, 1] : (tensor<4x8xf32>) -> tensor<4x8x1x1x1xf32>
def val_main_v67 (x0 : (⟨S4x8, .f32⟩ : BufTy).Contents (Elt F)) : (⟨S4x8x1x1x1, .f32⟩ : BufTy).Contents (Elt F) :=
  broadcastInDim S4x8x1x1x1 ![0, 1] bcast_S4x8_S4x8x1x1x1_0_1 (x0)
abbrev idx_main_v67 (i : S4x8x1x1x1.Idx) : S4x8.Idx := fun a => match a with
  | ⟨0, _⟩ => ⟨(i 0).val, (i 0).isLt⟩
  | ⟨1, _⟩ => ⟨(i 1).val, (i 1).isLt⟩
theorem val_main_v67_apply (x0 : (⟨S4x8, .f32⟩ : BufTy).Contents (Elt F)) (i : S4x8x1x1x1.Idx) :
    val_main_v67 (F := F) x0 i = x0 (idx_main_v67 i) := by
  unfold val_main_v67
  exact broadcastInDim_apply _ bcast_S4x8_S4x8x1x1x1_0_1 x0 i (idx_main_v67 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)])

-- %68 = stablehlo.broadcast_in_dim %67, dims = [0, 1, 2, 3, 4] : (tensor<4x8x1x1x1xf32>) -> tensor<4x8x4x8192x1xf32>
def val_main_v68 (x0 : (⟨S4x8, .f32⟩ : BufTy).Contents (Elt F)) : (⟨S4x8x4x8192x1, .f32⟩ : BufTy).Contents (Elt F) :=
  broadcastInDim S4x8x4x8192x1 ![0, 1, 2, 3, 4] bcast_S4x8x1x1x1_S4x8x4x8192x1_0_1_2_3_4 (val_main_v67 (F := F) x0)
abbrev idx_main_v68 (i : S4x8x4x8192x1.Idx) : S4x8x1x1x1.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨0, Nat.one_pos⟩
theorem val_main_v68_apply (x0 : (⟨S4x8, .f32⟩ : BufTy).Contents (Elt F)) (i : S4x8x4x8192x1.Idx) :
    val_main_v68 (F := F) x0 i = val_main_v67 (F := F) x0 (idx_main_v68 i) := by
  unfold val_main_v68
  generalize val_main_v67 (F := F) x0 = y
  exact broadcastInDim_apply _ bcast_S4x8x1x1x1_S4x8x4x8192x1_0_1_2_3_4 y i (idx_main_v68 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show 0 = if (1 : Nat) = 1 then 0 else (i 4).val; rw [if_pos rfl])

-- %69 = stablehlo.multiply %59, %68 : tensor<4x8x4x8192x1xf32>
def val_main_v69 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  mulf (val_main_v59 (F := F) x1 x2 x3 x4 x5) (val_main_v68 (F := F) x0)
theorem val_main_v69_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v69 (F := F) x0 x1 x2 x3 x4 x5 i = FloatOps.mulf (val_main_v59 (F := F) x1 x2 x3 x4 x5 i) (val_main_v68 (F := F) x0 i) := rfl

-- %70 = stablehlo.divide %69, %42 : tensor<4x8x4x8192x1xf32>
def val_main_v70 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x1, .f32⟩ : BufTy).Contents (Elt F) :=
  Host.divf (val_main_v69 (F := F) x0 x1 x2 x3 x4 x5) (val_main_v42 (F := F) x1 x2 x3 x4 x5)
theorem val_main_v70_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x1.Idx) :
    val_main_v70 (F := F) x0 x1 x2 x3 x4 x5 i = FloatOps.hostDivf (val_main_v69 (F := F) x0 x1 x2 x3 x4 x5 i) (val_main_v42 (F := F) x1 x2 x3 x4 x5 i) := rfl

-- %71 = stablehlo.broadcast_in_dim %70, dims = [0, 1, 2, 3, 4] : (tensor<4x8x4x8192x1xf32>) -> tensor<4x8x4x8192x128xf32>
def val_main_v71 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) : (⟨S4x8x4x8192x128, .f32⟩ : BufTy).Contents (Elt F) :=
  broadcastInDim S4x8x4x8192x128 ![0, 1, 2, 3, 4] bcast_S4x8x4x8192x1_S4x8x4x8192x128_0_1_2_3_4 (val_main_v70 (F := F) x0 x1 x2 x3 x4 x5)
abbrev idx_main_v71 (i : S4x8x4x8192x128.Idx) : S4x8x4x8192x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v71_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (i : S4x8x4x8192x128.Idx) :
    val_main_v71 (F := F) x0 x1 x2 x3 x4 x5 i = val_main_v70 (F := F) x0 x1 x2 x3 x4 x5 (idx_main_v71 i) := by
  unfold val_main_v71
  generalize val_main_v70 (F := F) x0 x1 x2 x3 x4 x5 = y
  exact broadcastInDim_apply _ bcast_S4x8x4x8192x1_S4x8x4x8192x128_0_1_2_3_4 y i (idx_main_v71 i) (fun a => match a with
    | ⟨0, _⟩ => by show (i 0).val = if (4 : Nat) = 1 then 0 else (i 0).val; rw [if_neg (by decide)]
    | ⟨1, _⟩ => by show (i 1).val = if (8 : Nat) = 1 then 0 else (i 1).val; rw [if_neg (by decide)]
    | ⟨2, _⟩ => by show (i 2).val = if (4 : Nat) = 1 then 0 else (i 2).val; rw [if_neg (by decide)]
    | ⟨3, _⟩ => by show (i 3).val = if (8192 : Nat) = 1 then 0 else (i 3).val; rw [if_neg (by decide)]
    | ⟨4, _⟩ => by show 0 = if (1 : Nat) = 1 then 0 else (i 4).val; rw [if_pos rfl])

-- %72 = stablehlo.multiply %66, %71 : tensor<4x8x4x8192x128xf32>
def val_main_v72 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) : (⟨S4x8x4x8192x128, .f32⟩ : BufTy).Contents (Elt F) :=
  mulf (val_main_v66 (F := F) x1 x2 x3 x4 x5 x6) (val_main_v71 (F := F) x0 x1 x2 x3 x4 x5)
theorem val_main_v72_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) (i : S4x8x4x8192x128.Idx) :
    val_main_v72 (F := F) x0 x1 x2 x3 x4 x5 x6 i = FloatOps.mulf (val_main_v66 (F := F) x1 x2 x3 x4 x5 x6 i) (val_main_v71 (F := F) x0 x1 x2 x3 x4 x5 i) := rfl

-- %73 = stablehlo.transpose %72, dims = [0, 3, 1, 2, 4] : (tensor<4x8x4x8192x128xf32>) -> tensor<4x8192x8x4x128xf32>
def val_main_v73 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) : (⟨S4x8192x8x4x128, .f32⟩ : BufTy).Contents (Elt F) :=
  transpose S4x8192x8x4x128 [0, 3, 1, 2, 4] (val_main_v72 (F := F) x0 x1 x2 x3 x4 x5 x6) transposes_S4x8x4x8192x128_S4x8192x8x4x128_0_3_1_2_4
abbrev idx_main_v73 (i : S4x8192x8x4x128.Idx) : S4x8x4x8192x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
  | ⟨4, _⟩ => ⟨(i 4).val, (i 4).isLt⟩
theorem val_main_v73_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) (i : S4x8192x8x4x128.Idx) :
    val_main_v73 (F := F) x0 x1 x2 x3 x4 x5 x6 i = val_main_v72 (F := F) x0 x1 x2 x3 x4 x5 x6 (idx_main_v73 i) := by
  unfold val_main_v73
  generalize val_main_v72 (F := F) x0 x1 x2 x3 x4 x5 x6 = y
  exact transpose_apply [0, 3, 1, 2, 4] y transposes_S4x8x4x8192x128_S4x8192x8x4x128_0_3_1_2_4 i (idx_main_v73 i) (fun b => match b with
    | ⟨0, _⟩ => rfl
    | ⟨1, _⟩ => rfl
    | ⟨2, _⟩ => rfl
    | ⟨3, _⟩ => rfl
    | ⟨4, _⟩ => rfl)

-- %74 = stablehlo.reshape %73 : (tensor<4x8192x8x4x128xf32>) -> tensor<4x8192x4096xf32>
def val_main_v74 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) : (⟨S4x8192x4096, .f32⟩ : BufTy).Contents (Elt F) :=
  shapeCast _ (val_main_v73 (F := F) x0 x1 x2 x3 x4 x5 x6) shapeCasts_S4x8192x8x4x128_S4x8192x4096
set_option backward.proofsInPublic true in
abbrev idx_main_v74 (i : S4x8192x4096.Idx) : S4x8192x8x4x128.Idx := fun a => match a with
  | ⟨0, _⟩ => ⟨(((i 0).val * 8192 + (i 1).val) * 4096 + (i 2).val) / 33554432, by have h0 : (i 0).val < 4 := (i 0).isLt; have h1 : (i 1).val < 8192 := (i 1).isLt; have h2 : (i 2).val < 4096 := (i 2).isLt; show (((i 0).val * 8192 + (i 1).val) * 4096 + (i 2).val) / 33554432 < 4; omega⟩
  | ⟨1, _⟩ => ⟨(((i 0).val * 8192 + (i 1).val) * 4096 + (i 2).val) / 4096 % 8192, by have h0 : (i 0).val < 4 := (i 0).isLt; have h1 : (i 1).val < 8192 := (i 1).isLt; have h2 : (i 2).val < 4096 := (i 2).isLt; show (((i 0).val * 8192 + (i 1).val) * 4096 + (i 2).val) / 4096 % 8192 < 8192; omega⟩
  | ⟨2, _⟩ => ⟨(((i 0).val * 8192 + (i 1).val) * 4096 + (i 2).val) / 512 % 8, by have h0 : (i 0).val < 4 := (i 0).isLt; have h1 : (i 1).val < 8192 := (i 1).isLt; have h2 : (i 2).val < 4096 := (i 2).isLt; show (((i 0).val * 8192 + (i 1).val) * 4096 + (i 2).val) / 512 % 8 < 8; omega⟩
  | ⟨3, _⟩ => ⟨(((i 0).val * 8192 + (i 1).val) * 4096 + (i 2).val) / 128 % 4, by have h0 : (i 0).val < 4 := (i 0).isLt; have h1 : (i 1).val < 8192 := (i 1).isLt; have h2 : (i 2).val < 4096 := (i 2).isLt; show (((i 0).val * 8192 + (i 1).val) * 4096 + (i 2).val) / 128 % 4 < 4; omega⟩
  | ⟨4, _⟩ => ⟨(((i 0).val * 8192 + (i 1).val) * 4096 + (i 2).val) % 128, by have h0 : (i 0).val < 4 := (i 0).isLt; have h1 : (i 1).val < 8192 := (i 1).isLt; have h2 : (i 2).val < 4096 := (i 2).isLt; show (((i 0).val * 8192 + (i 1).val) * 4096 + (i 2).val) % 128 < 128; omega⟩
theorem val_main_v74_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) (i : S4x8192x4096.Idx) :
    val_main_v74 (F := F) x0 x1 x2 x3 x4 x5 x6 i = val_main_v73 (F := F) x0 x1 x2 x3 x4 x5 x6 (idx_main_v74 i) := by
  unfold val_main_v74
  generalize val_main_v73 (F := F) x0 x1 x2 x3 x4 x5 x6 = y
  exact shapeCast_apply y shapeCasts_S4x8192x8x4x128_S4x8192x4096 i (idx_main_v74 i)
    (by rewrite [Shape.rowMajor_val_five, Shape.rowMajor_val_three]; have h0 : (i 0).val < 4 := (i 0).isLt; have h1 : (i 1).val < 8192 := (i 1).isLt; have h2 : (i 2).val < 4096 := (i 2).isLt; show ((((((i 0).val * 8192 + (i 1).val) * 4096 + (i 2).val) / 33554432 * 8192 + (((i 0).val * 8192 + (i 1).val) * 4096 + (i 2).val) / 4096 % 8192) * 8 + (((i 0).val * 8192 + (i 1).val) * 4096 + (i 2).val) / 512 % 8) * 4 + (((i 0).val * 8192 + (i 1).val) * 4096 + (i 2).val) / 128 % 4) * 128 + (((i 0).val * 8192 + (i 1).val) * 4096 + (i 2).val) % 128 = ((i 0).val * 8192 + (i 1).val) * 4096 + (i 2).val; omega)

-- %75 = stablehlo.convert %74 : (tensor<4x8192x4096xf32>) -> tensor<4x8192x4096xbf16>
def val_main_v75 (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) : (⟨S4x8192x4096, .bf16⟩ : BufTy).Contents (Elt F) :=
  truncf .bf16 (val_main_v74 (F := F) x0 x1 x2 x3 x4 x5 x6) bitsLt_bf16_f32
theorem val_main_v75_apply (x0 : (⟨S4x8, .f32⟩ : BufTy).Contents (Elt F)) (x1 : (⟨S32, .f32⟩ : BufTy).Contents (Elt F)) (x2 : (⟨S4x8192x4096, .f32⟩ : BufTy).Contents (Elt F)) (x3 : (⟨S4x64x32x128, .f32⟩ : BufTy).Contents (Elt F)) (x4 : (⟨S4x8192x1024, .f32⟩ : BufTy).Contents (Elt F)) (x5 : (⟨S4x8192x8, .f32⟩ : BufTy).Contents (Elt F)) (x6 : (⟨S4x8x128x8192, .f32⟩ : BufTy).Contents (Elt F)) (i : S4x8192x4096.Idx) :
    val_main_v75 (F := F) x0 x1 x2 x3 x4 x5 x6 i = FloatOps.truncf .bf16 bitsLt_bf16_f32 (val_main_v74 (F := F) x0 x1 x2 x3 x4 x5 x6 i) := rfl

end Cert.ReferenceIdeal.Read

end
-- ==== Proof.RefRun.lean ====
/-
  The run of the reference: from any memory it terminates, the argument arrays end as they were, and the result array
  ends at the value of the last host operation, as `RefRead.lean` reads it, of the arguments and of the codes.
-/
module

public import proofs.«01_k».proof.Proof.RefRead
public import proofs.«01_k».proof.Proof.Gen.ReferenceIdeal.Frame
public import Idealize.ShloMosaic.Lib.Pipeline.ValueKit
public import Idealize.ShloMosaic.Lib.StableHlo.Run

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

set_option maxHeartbeats 49200000 in
/-- The host operations after the region, composed. -/
theorem tail_eq (W : Valuation τ sig (Elt F)) :
    StableHlo.after ([hostOps1, hostOps1_1, hostOps1_2, hostOps1_3, hostOps1_4, hostOps1_5, hostOps1_6, hostOps1_7, hostOps1_8] : List (List (HloOp τ sig (Elt F)))).flatten W (Proc.devRef .tc main_v76)
      = val_main_v75 (F := F) (W (Proc.devRef .tc main_arg0)) (W (Proc.devRef .tc main_arg1)) (W (Proc.devRef .tc main_v0_0)) (W (Proc.devRef .tc main_arg3)) (W (Proc.devRef .tc main_v0_1)) (W (Proc.devRef .tc main_arg5)) (W (Proc.devRef .tc main_v0_2)) := by
  simp only [hostOps1, hostOps1_1, hostOps1_2, hostOps1_3, hostOps1_4, hostOps1_5, hostOps1_6, hostOps1_7, hostOps1_8, List.flatten_cons, List.flatten_nil, List.cons_append, List.nil_append, TRef.binary, TRef.nullary, TRef.ternary, TRef.unary, TRef.toBuf, TRef.ofBuf, cast_eq]
  after_results_simp <;> rfl

theorem wide1 (X Y : S4x8192x4096.Idx → Elt F .fp8e4m3) (y z : S4x8192x4096.Idx) (h : X y = Y z) : k0_pay1 (F := F) X y = k0_pay1 (F := F) Y z :=
  calc k0_pay1 (F := F) X y = k0_pay1 (F := F) (fun _ => X y) y := rfl
    _ = k0_pay1 (F := F) (fun _ => Y z) y := by rw [h]
    _ = k0_pay1 (F := F) Y z := rfl

/-- The region's array 0: the codes of argument 2, in the wide format. -/
theorem arr3 (c : Dev nD) : (dats m 0 c).arrAt 3 (cfgs 0).N = k0_pay1 (F := F) (m ((c : Thread nD τ).loc main_arg2)) := by
  refine (dats m 0 c).arrAt_eq_of_covers 3 _ (by decide +kernel) fun t _ y => ?_
  blk_simp
  rw [after0_3]
  unfold out0_3
  rw [View.canon_cons_unit_lit _ _ _ (by decide), View.ld_unit_lit _ _ (by decide)]
  have e : iblk m c 0 t y = m ((c : Thread nD τ).loc main_arg2) (((cfg0.win 3).blk t).view.emb y) := by
    blk_ext [iblk, V]
    all_goals rfl
  exact wide1 _ _ _ _ e

theorem wide2 (X Y : S4x8192x1024.Idx → Elt F .fp8e4m3) (y z : S4x8192x1024.Idx) (h : X y = Y z) : k0_pay2 (F := F) X y = k0_pay2 (F := F) Y z :=
  calc k0_pay2 (F := F) X y = k0_pay2 (F := F) (fun _ => X y) y := rfl
    _ = k0_pay2 (F := F) (fun _ => Y z) y := by rw [h]
    _ = k0_pay2 (F := F) Y z := rfl

/-- The region's array 1: the codes of argument 4, in the wide format. -/
theorem arr4 (c : Dev nD) : (dats m 0 c).arrAt 4 (cfgs 0).N = k0_pay2 (F := F) (m ((c : Thread nD τ).loc main_arg4)) := by
  refine (dats m 0 c).arrAt_eq_of_covers 4 _ (by decide +kernel) fun t _ y => ?_
  blk_simp
  rw [after0_4]
  unfold out0_4
  rw [View.canon_cons_unit_lit _ _ _ (by decide), View.ld_unit_lit _ _ (by decide)]
  have e : iblk m c 1 t y = m ((c : Thread nD τ).loc main_arg4) (((cfg0.win 4).blk t).view.emb y) := by
    blk_ext [iblk, V]
    all_goals rfl
  exact wide2 _ _ _ _ e

theorem wide3 (X Y : S4x8x128x8192.Idx → Elt F .fp8e4m3) (y z : S4x8x128x8192.Idx) (h : X y = Y z) : k0_pay3 (F := F) X y = k0_pay3 (F := F) Y z :=
  calc k0_pay3 (F := F) X y = k0_pay3 (F := F) (fun _ => X y) y := rfl
    _ = k0_pay3 (F := F) (fun _ => Y z) y := by rw [h]
    _ = k0_pay3 (F := F) Y z := rfl

/-- The region's array 2: the codes of argument 6, in the wide format. -/
theorem arr5 (c : Dev nD) : (dats m 0 c).arrAt 5 (cfgs 0).N = k0_pay3 (F := F) (m ((c : Thread nD τ).loc main_arg6)) := by
  refine (dats m 0 c).arrAt_eq_of_covers 5 _ (by decide +kernel) fun t _ y => ?_
  blk_simp
  rw [after0_5]
  unfold out0_5
  rw [View.canon_cons_unit_lit _ _ _ (by decide), View.ld_unit_lit _ _ (by decide)]
  have e : iblk m c 2 t y = m ((c : Thread nD τ).loc main_arg6) (((cfg0.win 5).blk t).view.emb y) := by
    blk_ext [iblk, V]
    all_goals rfl
  exact wide3 _ _ _ _ e

/-- The reference's result. -/
def VAL (c : Dev nD) : S4x8192x4096.Idx → Elt F .bf16 :=
  val_main_v75 (F := F) (m ((c : Thread nD τ).loc main_arg0)) (m ((c : Thread nD τ).loc main_arg1)) (k0_pay1 (F := F) (m ((c : Thread nD τ).loc main_arg2))) (m ((c : Thread nD τ).loc main_arg3))
    (k0_pay2 (F := F) (m ((c : Thread nD τ).loc main_arg4))) (m ((c : Thread nD τ).loc main_arg5)) (k0_pay3 (F := F) (m ((c : Thread nD τ).loc main_arg6)))

/-- What the lines after the region leave in the result array. -/
theorem tail_val (c : Dev nD) :
    Pipeline.afterTail₀ cfgs (dats m) 0 (V0 m) [hostOps1, hostOps1_1, hostOps1_2, hostOps1_3, hostOps1_4, hostOps1_5, hostOps1_6, hostOps1_7, hostOps1_8] c main_v76 = VAL m c := by
  have hn : ∀ (b : Ref sig .tc), (∀ w, Pipeline.arrRef spec0 w ≠ b) → Pipeline.withArrays (cfgs 0).spec c (V0 m c) (fun w => (dats m 0 c).arrAt w (cfgs 0).N) (Proc.devRef .tc b) = V0 m c (Proc.devRef .tc b) :=
    fun b hb => Pipeline.withArrays_of_ne _ c (V0 m c) _ b hb
  have ha : ∀ w : Fin 6, Pipeline.withArrays (cfgs 0).spec c (V0 m c) (fun w => (dats m 0 c).arrAt w (cfgs 0).N) (Proc.devRef .tc (Pipeline.arrRef spec0 w)) = (dats m 0 c).arrAt w (cfgs 0).N :=
    fun w => Pipeline.withArrays_arr spec0 winFacts0.arr_inj c (V0 m c) _ w
  unfold Pipeline.afterTail₀
  rw [tail_eq]
  unfold VAL
  have h3 := (ha 3).trans (arr3 m c)
  have h4 := (ha 4).trans (arr4 m c)
  have h5 := (ha 5).trans (arr5 m c)
  have g0 := (hn main_arg0 (by exact (by decide : ∀ w, Pipeline.arrRef spec0 w ≠ main_arg0))).trans (V_main_arg0 m c)
  have g1 := (hn main_arg1 (by exact (by decide : ∀ w, Pipeline.arrRef spec0 w ≠ main_arg1))).trans (V_main_arg1 m c)
  have g3 := (hn main_arg3 (by exact (by decide : ∀ w, Pipeline.arrRef spec0 w ≠ main_arg3))).trans (V_main_arg3 m c)
  have g5 := (hn main_arg5 (by exact (by decide : ∀ w, Pipeline.arrRef spec0 w ≠ main_arg5))).trans (V_main_arg5 m c)
  have key : ∀ (a0 b0 : S4x8.Idx → Elt F .f32) (a1 b1 : S32.Idx → Elt F .f32) (a2 b2 : S4x8192x4096.Idx → Elt F .f32) (a3 b3 : S4x64x32x128.Idx → Elt F .f32) (a4 b4 : S4x8192x1024.Idx → Elt F .f32)
      (a5 b5 : S4x8192x8.Idx → Elt F .f32) (a6 b6 : S4x8x128x8192.Idx → Elt F .f32), a0 = b0 → a1 = b1 → a2 = b2 → a3 = b3 → a4 = b4 → a5 = b5 → a6 = b6 →
      val_main_v75 (F := F) a0 a1 a2 a3 a4 a5 a6 = val_main_v75 (F := F) b0 b1 b2 b3 b4 b5 b6 := by
    intros; subst_vars; rfl
  exact key _ _ _ _ _ _ _ _ _ _ _ _ _ _ g0 g1 h3 g3 h4 g5 h5

/-- The reference's launch with its result named: it terminates, the result array ends at `VAL`, the arguments unchanged. -/
theorem run : θ_run defs (onTc (τ := τ) (main (F := F))) ⟨m, fun _ => 0, ρ⟩ (fun r => ∀ c : Dev nD,
      r.2.mem ((c.tc : Thread nD τ).loc main_v76) = VAL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v76 (Pipeline.mem_restRefs_of main_v76 (by decide) (by decide))).trans (tail_val m c), h.2 c⟩)
    (θ_run_and (run_main m ρ) (unchanged m ρ))

end Cert.ReferenceIdeal.Hand

end
-- ==== Proof.Core.lean ====
/-
  The mathematics of the claim, over the extended reals and free of both programs: a power of two taken out of the
  probabilities and multiplied back after the product with the values changes nothing; the kernel's exponent chain keeps
  the scaled probabilities within 448; so does the reference's exponent.
-/
module

public import Idealize.ShloMosaic.PureOps.Ideal.Laws
public import Idealize.ShloMosaic.Lib.IdealHost
public import Mathlib.Analysis.SpecialFunctions.Pow.Real
public import Mathlib.Data.EReal.Inv

@[expose] public section

noncomputable section

namespace Cert.Core

open Idealize.ShloMosaic
open scoped BigOperators

/-! ### Positive real factors -/

/-- A positive real factor moves through a finite sum of extended reals. -/
theorem sum_mul_coe {ι : Type*} (t : Finset ι) (f : ι → EReal) (c : ℝ) (hc : 0 < c) :
    (∑ j ∈ t, f j) * (c : EReal) = ∑ j ∈ t, f j * (c : EReal) := by
  induction t using Finset.cons_induction with
  | empty => simp
  | cons a s ha ih =>
    rw [Finset.sum_cons, Finset.sum_cons, EReal.right_distrib_of_nonneg_of_ne_top (by exact_mod_cast hc.le) (EReal.coe_ne_top _), ih]

theorem coe_mul_pos_iff (c : ℝ) (hc : 0 < c) (v : EReal) : 0 < (c : EReal) * v ↔ 0 < v := by
  induction v with
  | bot => rw [EReal.coe_mul_bot_of_pos hc]
  | top => rw [EReal.coe_mul_top_of_pos hc]
  | coe x => rw [← EReal.coe_mul]; norm_cast; exact mul_pos_iff_of_pos_left hc

/-- A positive real factor moves out of a quotient. -/
theorem div_coe_mul (c : ℝ) (hc : 0 < c) (v D : EReal) : Ideal.div ((c : EReal) * v) D = (c : EReal) * Ideal.div v D := by
  unfold Ideal.div
  split
  · by_cases hv : 0 < v
    · rw [if_pos ((coe_mul_pos_iff c hc v).2 hv), if_pos hv, EReal.coe_mul_top_of_pos hc]
    · rw [if_neg (fun h => hv ((coe_mul_pos_iff c hc v).1 h)), if_neg hv, EReal.coe_mul_bot_of_pos hc]
  · rw [mul_assoc]

/-- A power of two divided out of the probabilities and multiplied onto the divisor's numerator changes nothing. -/
theorem rescale {ι : Type*} (t : Finset ι) (p v : ι → EReal) (c d : ℝ) (hc : 0 < c) (hd : d = c⁻¹) (vs D : EReal) :
    (∑ j ∈ t, (p j * (d : EReal)) * v j) * Ideal.div ((c : EReal) * vs) D = (∑ j ∈ t, p j * v j) * Ideal.div vs D := by
  subst hd
  have h : ∀ j ∈ t, (p j * ((c⁻¹ : ℝ) : EReal)) * v j = (p j * v j) * ((c⁻¹ : ℝ) : EReal) := fun j _ => mul_right_comm _ _ _
  rw [Finset.sum_congr rfl h, ← sum_mul_coe t _ _ (inv_pos.2 hc), div_coe_mul c hc, mul_assoc, ← mul_assoc ((c⁻¹ : ℝ) : EReal),
    ← EReal.coe_mul, inv_mul_cancel₀ hc.ne', EReal.coe_one, one_mul]

/-! ### Exponentials -/

/-- The exponential of a nonpositive difference is a real between 0 and 1. -/
theorem exp_sub_real {s m : EReal} (h : s ≤ m) : ∃ r : ℝ, 0 ≤ r ∧ r ≤ 1 ∧ Ideal.exp (s - m) = (r : EReal) := by
  induction m with
  | top => exact ⟨0, le_rfl, zero_le_one, by rw [sub_eq_add_neg, EReal.neg_top, EReal.add_bot]; rfl⟩
  | bot =>
    obtain rfl : s = ⊥ := le_bot_iff.1 h
    exact ⟨0, le_rfl, zero_le_one, by rw [sub_eq_add_neg, EReal.bot_add]; rfl⟩
  | coe x =>
    induction s with
    | top => exact absurd h (by simp)
    | bot => exact ⟨0, le_rfl, zero_le_one, by rw [sub_eq_add_neg, EReal.bot_add]; rfl⟩
    | coe y =>
      refine ⟨Real.exp (y - x), (Real.exp_pos _).le, Real.exp_le_one_iff.2 (by have := EReal.coe_le_coe_iff.1 h; linarith), ?_⟩
      rw [← EReal.coe_sub]; rfl

theorem exp_mono {x y : EReal} (h : x ≤ y) : Ideal.exp x ≤ Ideal.exp y := by
  induction y with
  | top => exact le_top
  | bot => rw [le_bot_iff.1 h]
  | coe b =>
    induction x with
    | top => exact absurd h (by simp)
    | bot => exact EReal.coe_nonneg.2 (Real.exp_pos _).le
    | coe a => exact EReal.coe_le_coe_iff.2 (Real.exp_le_exp.2 (EReal.coe_le_coe_iff.1 h))

theorem exp_sub_mono {s t m : EReal} (h : s ≤ t) : Ideal.exp (s - m) ≤ Ideal.exp (t - m) :=
  exp_mono (EReal.sub_le_sub h le_rfl)

theorem exp_bot_sub (m : EReal) : Ideal.exp (⊥ - m) = 0 := by rw [sub_eq_add_neg, EReal.bot_add]; rfl

/-- The base-two exponential of the scores in units of `log 2`, shifted by the maximum and an integer. -/
theorem exp2_shift (s m : EReal) (e : ℤ) (h : s ≤ m) :
    Ideal.exp2 (s * (((Real.log 2)⁻¹ : ℝ) : EReal) - (m * (((Real.log 2)⁻¹ : ℝ) : EReal) + ((e : ℝ) : EReal)))
      = Ideal.exp (s - m) * (((2 : ℝ) ^ (-e) : ℝ) : EReal) := by
  have hl : 0 < Real.log 2 := Real.log_pos (by norm_num)
  have hL : 0 < (Real.log 2)⁻¹ := inv_pos.2 hl
  induction m with
  | top =>
    rw [EReal.top_mul_coe_of_pos hL, EReal.top_add_coe, sub_eq_add_neg, sub_eq_add_neg, EReal.neg_top, EReal.add_bot, EReal.add_bot]
    simp
  | bot =>
    obtain rfl : s = ⊥ := le_bot_iff.1 h
    rw [EReal.bot_mul_coe_of_pos hL, sub_eq_add_neg, sub_eq_add_neg, EReal.bot_add, EReal.bot_add]
    simp
  | coe x =>
    induction s with
    | top => exact absurd h (by simp)
    | bot =>
      rw [EReal.bot_mul_coe_of_pos hL, sub_eq_add_neg, sub_eq_add_neg, EReal.bot_add, EReal.bot_add]
      simp
    | coe y =>
      rw [← EReal.coe_mul, ← EReal.coe_mul, ← EReal.coe_add, ← EReal.coe_sub, ← EReal.coe_sub, Ideal.exp2_coe, Ideal.exp_coe, ← EReal.coe_mul]
      congr 1
      have h2 : (2 : ℝ) ^ (-e) = Real.exp (Real.log 2 * ((-e : ℤ) : ℝ)) := by
        rw [← Real.rpow_intCast, Real.rpow_def_of_pos (by norm_num)]
      show (2 : ℝ) ^ (_ : ℝ) = _
      rw [h2, Real.rpow_def_of_pos (by norm_num), ← Real.exp_add]
      congr 1
      push_cast
      field_simp
      ring

/-! ### The kernel's exponent -/

/-- After some steps of the exponent chain started at `r`: `y` is `r` scaled up by a power of two and still below one, and
    the word `e` counts the power down from zero. -/
def Inv (B : ℕ) (r : ℝ) (y : EReal) (e : BitVec 32) : Prop :=
  ∃ n : ℕ, n ≤ B ∧ y = ((r * 2 ^ n : ℝ) : EReal) ∧ e.toNat = (2 ^ 32 - n) % 2 ^ 32 ∧ r * 2 ^ n < 1

theorem step {B : ℕ} {r : ℝ} {y : EReal} {e : BitVec 32} {c : BitVec 1} (k : ℕ) {t f : EReal} {kb : BitVec 32}
    (h : Inv B r y e) (hc : c = BitVec.ofBool (decide (y < t)))
    (ht : t = (((2 ^ k : ℝ)⁻¹ : ℝ) : EReal)) (hf : f = ((2 ^ k : ℝ) : EReal)) (hk : kb.toNat = k) (hB : B + k < 2 ^ 31) :
    Inv (B + k) r (Scalar.select c (y * f) y) (Scalar.select c (e - kb) e) := by
  obtain ⟨n, hn, hy, he, hlt⟩ := h
  by_cases hyt : y < t
  · have hc1 : c = 1 := by rw [hc, decide_eq_true hyt]; rfl
    rw [Scalar.select, Scalar.select, if_pos hc1, if_pos hc1]
    refine ⟨n + k, by omega, ?_, ?_, ?_⟩
    · rw [hy, hf, ← EReal.coe_mul, pow_add, mul_assoc]
    · rw [BitVec.toNat_sub, he, hk]; omega
    · rw [hy, ht, EReal.coe_lt_coe_iff] at hyt
      rw [pow_add, ← mul_assoc]
      have h2 : (0 : ℝ) < 2 ^ k := by positivity
      calc r * 2 ^ n * 2 ^ k < (2 ^ k)⁻¹ * 2 ^ k := mul_lt_mul_of_pos_right hyt h2
        _ = 1 := inv_mul_cancel₀ h2.ne'
  · have hc0 : ¬ c = 1 := by rw [hc, decide_eq_false hyt]; decide
    rw [Scalar.select, Scalar.select, if_neg hc0, if_neg hc0]
    exact ⟨n, by omega, hy, he, hlt⟩

/-- What the exponent word says once the chain is done and tiny values are set to zero. -/
def Exp (r : ℝ) (e : BitVec 32) : Prop :=
  ∃ n : ℕ, n ≤ 125 ∧ e.toNat = (2 ^ 32 - n) % 2 ^ 32 ∧ r * 2 ^ n ≤ 1

theorem exp_of_inv {B : ℕ} {r : ℝ} {y : EReal} {e : BitVec 32} {c : BitVec 1} {t : EReal} (h : Inv B r y e) (h1 : r ≤ 1)
    (hc : c = BitVec.ofBool (decide ((r : EReal) < t))) (ht : t = (((2 ^ 126 : ℝ)⁻¹ : ℝ) : EReal)) :
    Exp r (Scalar.select c 0#32 e) := by
  obtain ⟨n, hn, hy, he, hlt⟩ := h
  by_cases hyt : (r : EReal) < t
  · have hc1 : c = 1 := by rw [hc, decide_eq_true hyt]; rfl
    rw [Scalar.select, if_pos hc1]
    exact ⟨0, by omega, by decide, by simpa using h1⟩
  · have hc0 : ¬ c = 1 := by rw [hc, decide_eq_false hyt]; decide
    rw [Scalar.select, if_neg hc0]
    refine ⟨n, ?_, he, hlt.le⟩
    rw [ht, EReal.coe_lt_coe_iff, not_lt] at hyt
    by_contra hcon
    have h126 : (2 : ℝ) ^ 126 ≤ 2 ^ n := pow_le_pow_right₀ (by norm_num) (by omega)
    have : (1 : ℝ) ≤ r * 2 ^ n := by
      calc (1 : ℝ) = (2 ^ 126)⁻¹ * 2 ^ 126 := (inv_mul_cancel₀ (by positivity)).symm
        _ ≤ r * 2 ^ n := mul_le_mul hyt h126 (by positivity) (le_trans (by positivity) hyt)
    linarith

/-- The exponent word read as an integer. -/
theorem toInt_of {e : BitVec 32} {n : ℕ} (hn : n ≤ 125) (he : e.toNat = (2 ^ 32 - n) % 2 ^ 32) : e.toInt = -(n : ℤ) := by
  rw [BitVec.toInt_eq_toNat_cond, he]; split <;> omega

theorem ieee_normal {b : BitVec 32} {k : ℕ} (hk : 1 ≤ k) (hk2 : k ≤ 254) (hb : b.toNat = k * 2 ^ 23) :
    Ideal.ofBits .f32 b = (((2 : ℝ) ^ ((k : ℤ) - 127) : ℝ) : EReal) := by
  have hneg : (b.extractLsb' (8 + 23) 1 == 1#1) = false := by
    apply beq_eq_false_iff_ne.2
    intro h
    have := congrArg BitVec.toNat h
    rw [BitVec.extractLsb'_toNat, Nat.shiftRight_eq_div_pow, hb] at this
    simp at this
    omega
  have hex : (b.extractLsb' 23 8).toNat = k := by
    rw [BitVec.extractLsb'_toNat, Nat.shiftRight_eq_div_pow, hb]; omega
  have hfr : (b.extractLsb' 0 23).toNat = 0 := by
    rw [BitVec.extractLsb'_toNat, Nat.shiftRight_eq_div_pow, hb]; omega
  show Ideal.ieee 8 23 b = _
  simp only [Ideal.ieee, hneg, hex, hfr]
  rw [if_neg (by omega), if_neg (by omega)]
  congr 1
  rw [show ((k : ℤ) - (2 ^ (8 - 1) - 1) - (23 : ℕ)) = ((k : ℤ) - 127) - 23 by norm_num, zpow_sub₀ (by norm_num : (2 : ℝ) ≠ 0)]
  norm_num
  exact mul_div_cancel₀ _ (by norm_num)

/-- The exponent word shifted into a float's exponent field is the power of two. -/
theorem pow2_of {e : BitVec 32} {n : ℕ} (hn : n ≤ 125) (he : e.toNat = (2 ^ 32 - n) % 2 ^ 32) :
    Ideal.ofBits .f32 (IntOp.shli .vector (IntOp.addi e 127#32) 23#32) = (((2 : ℝ) ^ (-(n : ℤ)) : ℝ) : EReal) := by
  have hs : IntOp.shli .vector (IntOp.addi e 127#32) 23#32 = (e + 127#32) <<< 23#32 := by
    unfold IntOp.shli; rw [if_pos (by decide)]; rfl
  rw [hs, ieee_normal (k := 127 - n) (by omega) (by omega)]
  · congr 2; omega
  · rw [BitVec.shiftLeft_eq', BitVec.toNat_shiftLeft, BitVec.toNat_add, he, Nat.shiftLeft_eq]
    simp
    omega

/-! ### One element -/

/-- The attention of one query: `s` the scores of the keys of `t`, `v` one value coordinate, `k` the sink's score, `m` the
    maximum taken out, `vs` the values' scale. -/
def ATT (t : Finset ℕ) (s v : ℕ → EReal) (k m vs : EReal) : EReal :=
  (∑ j ∈ t, Ideal.exp (s j - m) * v j) * Ideal.div vs ((∑ j ∈ t, Ideal.exp (s j - m)) + Ideal.exp (k - m))

/-- Keys whose score is `⊥` contribute nothing. -/
theorem ATT_subset {t u : Finset ℕ} (h : t ⊆ u) {s s' v v' : ℕ → EReal} (k m vs : EReal)
    (hin : ∀ j ∈ t, s j = s' j ∧ v j = v' j) (hout : ∀ j ∈ u, j ∉ t → s' j = ⊥) : ATT t s v k m vs = ATT u s' v' k m vs := by
  have e1 : ∑ j ∈ t, Ideal.exp (s j - m) * v j = ∑ j ∈ u, Ideal.exp (s' j - m) * v' j := by
    rw [Finset.sum_congr rfl (fun j hj => by rw [(hin j hj).1, (hin j hj).2])]
    exact Finset.sum_subset h fun j hj hn => by rw [hout j hj hn, exp_bot_sub, zero_mul]
  have e2 : ∑ j ∈ t, Ideal.exp (s j - m) = ∑ j ∈ u, Ideal.exp (s' j - m) := by
    rw [Finset.sum_congr rfl (fun j hj => by rw [(hin j hj).1])]
    exact Finset.sum_subset h fun j hj hn => by rw [hout j hj hn, exp_bot_sub]
  unfold ATT
  rw [e1, e2]

/-- The maximum over the visited keys is the maximum over all, when the others score `⊥`. -/
theorem top_eq {t u : Finset ℕ} (h : t ⊆ u) {s s' : ℕ → EReal} {a b : EReal} (hin : ∀ j ∈ t, s j = s' j)
    (hout : ∀ j ∈ u, j ∉ t → s' j = ⊥) (ha : ∀ z, a ≤ z ↔ ∀ j ∈ t, s j ≤ z) (hb : ∀ z, b ≤ z ↔ ∀ j ∈ u, s' j ≤ z) : a = b := by
  refine eq_of_forall_ge_iff fun z => ?_
  rw [ha, hb]
  constructor
  · intro H j hj
    by_cases hjt : j ∈ t
    · rw [← hin j hjt]; exact H j hjt
    · rw [hout j hj hjt]; exact bot_le
  · intro H j hj
    rw [hin j hj]; exact H j (h hj)

/-- A positive factor commutes with the maximum of a nonempty set. -/
theorem top_mul {t : Finset ℕ} (hne : t.Nonempty) {u : ℕ → EReal} {top a : EReal} (ha : 0 < a)
    (h : ∀ z, top ≤ z ↔ ∀ j ∈ t, u j ≤ z) : ∀ z, top * a ≤ z ↔ ∀ j ∈ t, u j * a ≤ z := by
  intro z
  have hle := (h top).1 le_rfl
  constructor
  · intro H j hj
    exact le_trans (mul_le_mul_of_nonneg_right (hle j hj) ha.le) H
  · intro H
    obtain ⟨j, hj, hmax⟩ := t.exists_max_image u hne
    have : top = u j := le_antisymm ((h _).2 hmax) (hle j hj)
    rw [this]; exact H j hj

/-- THE KERNEL'S ELEMENT: with the exponent its chain finds, the clamp at 448 does nothing and the powers of two cancel. -/
theorem kernel_elem {t : Finset ℕ} {s v : ℕ → EReal} {top k m vs y : EReal} {e : BitVec 32} {r : ℝ}
    (hm : m = max top k) (htop : ∀ z, top ≤ z ↔ ∀ j ∈ t, s j ≤ z)
    (hy : y = Ideal.exp (top - m) * ((1 / 448 : ℝ) : EReal)) (hr : y = (r : EReal)) (he : Exp r e) {L c448 : EReal}
    (hL : L = (((Real.log 2)⁻¹ : ℝ) : EReal)) (hc : c448 = ((448 : ℝ) : EReal)) :
    (∑ j ∈ t, v j * min (Ideal.exp2 (s j * L - (m * L + ((e.toInt : ℝ) : EReal)))) c448)
        * Ideal.div (Ideal.ofBits .f32 (IntOp.shli .vector (IntOp.addi e 127#32) 23#32) * vs)
          ((∑ j ∈ t, Ideal.exp2 (s j * L - (m * L + ((e.toInt : ℝ) : EReal))))
              * Ideal.ofBits .f32 (IntOp.shli .vector (IntOp.addi e 127#32) 23#32) + Ideal.exp (k - m))
      = ATT t s v k m vs := by
  obtain ⟨n, hn, he, hle⟩ := he
  have htm : top ≤ m := hm ▸ le_max_left _ _
  have hsm : ∀ j ∈ t, s j ≤ top := (htop top).1 le_rfl
  have hp : ∀ j ∈ t, Ideal.exp2 (s j * L - (m * L + ((e.toInt : ℝ) : EReal))) = Ideal.exp (s j - m) * (((2 : ℝ) ^ n : ℝ) : EReal) := by
    intro j hj
    rw [hL, exp2_shift _ _ _ ((hsm j hj).trans htm), toInt_of hn he, neg_neg, zpow_natCast]
  have hb : ∀ j ∈ t, Ideal.exp (s j - m) * (((2 : ℝ) ^ n : ℝ) : EReal) ≤ c448 := by
    intro j hj
    refine (mul_le_mul_of_nonneg_right (exp_sub_mono (m := m) (hsm j hj)) (EReal.coe_nonneg.2 (by positivity))).trans ?_
    obtain ⟨q, hq0, hq1, hq⟩ := exp_sub_real htm
    rw [hq] at hy ⊢
    rw [hr, ← EReal.coe_mul, EReal.coe_eq_coe_iff] at hy
    rw [hc, ← EReal.coe_mul, EReal.coe_le_coe_iff]
    have : q = 448 * r := by rw [hy]; ring
    rw [this]
    nlinarith
  have h2 : (0 : ℝ) < (2 : ℝ) ^ (-(n : ℤ)) := by positivity
  have hi : ((2 : ℝ) ^ n) = ((2 : ℝ) ^ (-(n : ℤ)))⁻¹ := by rw [zpow_neg, inv_inv, zpow_natCast]
  rw [pow2_of hn he, Finset.sum_congr rfl (fun j hj => by rw [hp j hj, min_eq_left (hb j hj), mul_comm (v j)]), Finset.sum_congr rfl hp,
    rescale t _ v _ _ h2 hi, sum_mul_coe t _ _ h2]
  unfold ATT
  congr 3
  refine Finset.sum_congr rfl fun j _ => ?_
  rw [mul_assoc, ← EReal.coe_mul, hi, inv_mul_cancel₀ h2.ne', EReal.coe_one, mul_one]

/-! ### The reference's exponent -/

/-- The reference's exponent of the largest probability `a`, as an extended real. The fraction is the single-precision
    1/448, a little above 1/448. -/
def rexp (a : EReal) : EReal :=
  if a = 0 then 0 else Ideal.liftRound (fun r => ⌊r⌋) (Ideal.div (Ideal.log (a * ((9586981 / 4294967296 : ℝ) : EReal))) (Ideal.log ((2 : ℝ) : EReal))) + 1

theorem rexp_spec {r : ℝ} (h0 : 0 ≤ r) (h1 : r ≤ 1) : ∃ e : ℤ, rexp (r : EReal) = ((e : ℝ) : EReal) ∧ r * (2 : ℝ) ^ (-e) ≤ 448 := by
  unfold rexp
  by_cases hr : r = 0
  · refine ⟨0, ?_, ?_⟩
    · rw [if_pos (by rw [hr]; rfl)]; simp
    · rw [hr]; norm_num
  · have hpos : 0 < r := lt_of_le_of_ne h0 (Ne.symm hr)
    have hl : 0 < Real.log 2 := Real.log_pos (by norm_num)
    refine ⟨⌊Real.log (r * (9586981 / 4294967296)) * (Real.log 2)⁻¹⌋ + 1, ?_, ?_⟩
    · rw [if_neg (by exact_mod_cast hr), ← EReal.coe_mul, Ideal.log_coe, if_neg (not_le.2 (by positivity)), Ideal.log_coe, if_neg (by norm_num)]
      unfold Ideal.div
      rw [if_neg (by exact_mod_cast hl.ne'), ← EReal.coe_inv, ← EReal.coe_mul]
      show (((⌊_⌋ : ℤ) : ℝ) : EReal) + 1 = _
      push_cast
      rfl
    · set x := Real.log (r * (9586981 / 4294967296)) * (Real.log 2)⁻¹ with hx
      have hlt : x < ((⌊x⌋ + 1 : ℤ) : ℝ) := by push_cast; exact Int.lt_floor_add_one x
      have hr2 : r * (9586981 / 4294967296) = (2 : ℝ) ^ x := by
        rw [Real.rpow_def_of_pos (by norm_num), hx, mul_comm (Real.log 2), mul_assoc, inv_mul_cancel₀ hl.ne', mul_one, Real.exp_log (by positivity)]
      have h3 : r * (9586981 / 4294967296) < (2 : ℝ) ^ ((⌊x⌋ + 1 : ℤ)) := by
        rw [hr2, ← Real.rpow_intCast]
        exact Real.rpow_lt_rpow_of_exponent_lt (by norm_num) hlt
      have h4 : (0 : ℝ) < (2 : ℝ) ^ ((⌊x⌋ + 1 : ℤ)) := by positivity
      rw [zpow_neg]
      rw [← div_eq_mul_inv, div_le_iff₀ h4]
      linarith

/-- THE REFERENCE'S ELEMENT: with its exponent the clip does nothing and the powers of two cancel. `a` is the largest
    probability, `lo` and `hi` the bounds of the clip. -/
theorem ref_elem {t : Finset ℕ} {s v : ℕ → EReal} {k m vs a : EReal} (hsm : ∀ j ∈ t, s j ≤ m)
    (ha : ∀ j ∈ t, Ideal.exp (s j - m) ≤ a) {r : ℝ} (hr : a = (r : EReal)) (h0 : 0 ≤ r) (h1 : r ≤ 1) {lo hi two : EReal}
    (hlo : lo ≤ 0) (hhi : hi = ((448 : ℝ) : EReal)) (htwo : two = ((2 : ℝ) : EReal)) (D : EReal) :
    (∑ j ∈ t, min hi (max lo (Ideal.exp (s j - m) * Ideal.pow two (-(rexp a)))) * v j) * Ideal.div (Ideal.pow two (rexp a) * vs) D
      = (∑ j ∈ t, Ideal.exp (s j - m) * v j) * Ideal.div vs D := by
  obtain ⟨e, he, hle⟩ := rexp_spec h0 h1
  have p1 : Ideal.pow two (rexp a) = (((2 : ℝ) ^ e : ℝ) : EReal) := by
    rw [hr, he, htwo]
    show ((Real.rpow 2 (e : ℝ) : ℝ) : EReal) = _
    congr 1
    exact Real.rpow_intCast 2 e
  have p2 : Ideal.pow two (-(rexp a)) = (((2 : ℝ) ^ (-e) : ℝ) : EReal) := by
    rw [hr, he, htwo, ← EReal.coe_neg]
    show ((Real.rpow 2 (-(e : ℝ)) : ℝ) : EReal) = _
    congr 1
    rw [← Real.rpow_intCast]
    push_cast
    rfl
  have hb : ∀ j ∈ t, min hi (max lo (Ideal.exp (s j - m) * Ideal.pow two (-(rexp a)))) = Ideal.exp (s j - m) * (((2 : ℝ) ^ (-e) : ℝ) : EReal) := by
    intro j hj
    obtain ⟨q, hq0, hq1, hq⟩ := exp_sub_real (hsm j hj)
    have hqa := ha j hj
    rw [hq, hr, EReal.coe_le_coe_iff] at hqa
    have h2 : (0 : ℝ) < (2 : ℝ) ^ (-e) := by positivity
    rw [p2, hq, ← EReal.coe_mul, max_eq_right (hlo.trans (EReal.coe_nonneg.2 (by positivity))), hhi, min_eq_right]
    rw [EReal.coe_le_coe_iff]
    nlinarith
  rw [Finset.sum_congr rfl (fun j hj => by rw [hb j hj]), p1, rescale t _ v _ _ (by positivity) (zpow_neg _ _)]

end Cert.Core

end
-- ==== Proof.KernelPoint.lean ====
/-
  The attention body's operations read at an index, at the ideal reading of the floats: the scores, the running maximum,
  the exponent chain, and the accumulators as sums over the keys visited.
-/
module

public import proofs.«01_k».proof.Proof.Body
public import proofs.«01_k».proof.Proof.Core
public import Idealize.ShloMosaic.Lib.Pointwise

@[expose] public section

set_option maxRecDepth 16384
set_option maxHeartbeats 1000000

noncomputable section

namespace Cert.KernelIdeal.Hand

open Cert.KernelIdeal Cert.KernelIdeal.Gen
open Idealize.ShloMosaic
open Cert.Core
open scoped BigOperators

/-! ### Constants -/

theorem ninf : Ideal.ofBits .f32 0xFF800000#32 = ⊥ := by
  show Ideal.ieee 8 23 (0xFF800000#32 : BitVec 32) = ⊥
  simp [Ideal.ieee]

theorem c448 : Ideal.ofBits .f32 0x43E00000#32 = ((448 : ℝ) : EReal) := by
  show Ideal.ieee 8 23 (0x43E00000#32 : BitVec 32) = ((448 : ℝ) : EReal)
  simp [Ideal.ieee]
  rw [← EReal.coe_mul]
  norm_num

theorem dn {b : BitVec 32} (k : ℕ) (hk : k ≤ 126) (hb : b.toNat = (127 - k) * 2 ^ 23) :
    Ideal.ofBits .f32 b = (((2 ^ k : ℝ)⁻¹ : ℝ) : EReal) := by
  rw [ieee_normal (by omega) (by omega) hb]
  congr 1
  rw [show (((127 - k : ℕ) : ℤ) - 127) = -(k : ℤ) by omega, zpow_neg, zpow_natCast]

theorem up {b : BitVec 32} (k : ℕ) (hk : k ≤ 126) (hb : b.toNat = (127 + k) * 2 ^ 23) :
    Ideal.ofBits .f32 b = ((2 ^ k : ℝ) : EReal) := by
  rw [ieee_normal (by omega) (by omega) hb]
  congr 1
  rw [show (((127 + k : ℕ) : ℤ) - 127) = (k : ℤ) by omega, zpow_natCast]

/-! ### The exponent chain -/

theorem inv0 {r : ℝ} {y : EReal} (hy : y = (r : EReal)) (h1 : r < 1) : Inv 0 r y 0#32 :=
  ⟨0, le_rfl, by rw [hy, pow_zero, mul_one], by decide, by rw [pow_zero, mul_one]; exact h1⟩

/-- The even heads' exponent. -/
theorem exp_even (v113 : FVec Ideal S1x256 .f32) (v118 v115 : IVec S1x256 1) (x : S1x256.Idx) {r : ℝ} (hy : v113 x = (r : EReal)) (h1 : r < 1)
    (h118 : v118 x = Ideal.cmp .olt (v113 x) (Ideal.ofBits .f32 0x1F800000#32))
    (h115 : v115 x = Ideal.cmp .olt (v113 x) (Ideal.ofBits .f32 0x00800000#32)) :
    Exp r (k0_pay39 (F := Ideal) v115 (k0_pay35 v113 k0_pay24 v118 (FloatOps.ofBits .f32 0x5F800000#32))
      (k0_pay36 v113 v118 (FloatOps.ofBits .f32 0x5F800000#32)) (k0_pay37 v113 v118 (FloatOps.ofBits .f32 0x5F800000#32)) k0_pay38 x) := by
  have i1 := step 64 (inv0 hy h1) (kb := 64#32) h118 (dn 64 (by omega) (by decide)) (up (b := 0x5F800000#32) 64 (by omega) (by decide)) rfl (by omega)
  have i2 := step 32 i1 (kb := 32#32) (c := k0_pay27 v113 v118 (FloatOps.ofBits .f32 0x5F800000#32) x) rfl (dn (b := 0x2F800000#32) 32 (by omega) (by decide)) (up (b := 0x4F800000#32) 32 (by omega) (by decide)) rfl (by omega)
  have i3 := step 16 i2 (kb := 16#32) (c := k0_pay29 v113 v118 (FloatOps.ofBits .f32 0x5F800000#32) x) rfl (dn (b := 0x37800000#32) 16 (by omega) (by decide)) (up (b := 0x47800000#32) 16 (by omega) (by decide)) rfl (by omega)
  have i4 := step 8 i3 (kb := 8#32) (c := k0_pay31 v113 v118 (FloatOps.ofBits .f32 0x5F800000#32) x) rfl (dn (b := 0x3B800000#32) 8 (by omega) (by decide)) (up (b := 0x43800000#32) 8 (by omega) (by decide)) rfl (by omega)
  have i5 := step 4 i4 (kb := 4#32) (c := k0_pay33 v113 v118 (FloatOps.ofBits .f32 0x5F800000#32) x) rfl (dn (b := 0x3D800000#32) 4 (by omega) (by decide)) (up (b := 0x41800000#32) 4 (by omega) (by decide)) rfl (by omega)
  have i6 := step 2 i5 (kb := 2#32) (c := k0_pay36 v113 v118 (FloatOps.ofBits .f32 0x5F800000#32) x) rfl (dn (b := 0x3E800000#32) 2 (by omega) (by decide)) (up (b := 0x40800000#32) 2 (by omega) (by decide)) rfl (by omega)
  have i7 := step 1 i6 (kb := 1#32) (c := Ideal.cmp .olt (k0_pay37 v113 v118 (FloatOps.ofBits .f32 0x5F800000#32) x) (Ideal.ofBits .f32 0x3F000000#32)) rfl (dn (b := 0x3F000000#32) 1 (by omega) (by decide)) (f := ((2 ^ 1 : ℝ) : EReal)) rfl rfl (by omega)
  exact exp_of_inv i7 h1.le (by rw [h115, hy]; rfl) (dn (b := 0x00800000#32) 126 (by omega) (by decide))

/-- The odd heads' exponent. -/
theorem exp_odd (v280 : FVec Ideal S1x256 .f32) (v282 : IVec S1x256 1) (x : S1x256.Idx) {r : ℝ} (hy : v280 x = (r : EReal)) (h1 : r < 1)
    (h282 : v282 x = Ideal.cmp .olt (v280 x) (Ideal.ofBits .f32 0x00800000#32)) :
    Exp r (k0_pay75 (F := Ideal) v282 (k0_pay72 v280 k0_pay60 k0_pay61) (k0_pay73 v280 k0_pay61) (k0_pay74 v280 k0_pay61) x) := by
  have i1 := step 64 (inv0 hy h1) (kb := 64#32) (c := k0_pay62 v280 k0_pay61 x) rfl (dn (b := 0x1F800000#32) 64 (by omega) (by decide)) (up (b := 0x5F800000#32) 64 (by omega) (by decide)) rfl (by omega)
  have i2 := step 32 i1 (kb := 32#32) (c := k0_pay64 v280 k0_pay61 x) rfl (dn (b := 0x2F800000#32) 32 (by omega) (by decide)) (up (b := 0x4F800000#32) 32 (by omega) (by decide)) rfl (by omega)
  have i3 := step 16 i2 (kb := 16#32) (c := k0_pay66 v280 k0_pay61 x) rfl (dn (b := 0x37800000#32) 16 (by omega) (by decide)) (up (b := 0x47800000#32) 16 (by omega) (by decide)) rfl (by omega)
  have i4 := step 8 i3 (kb := 8#32) (c := k0_pay68 v280 k0_pay61 x) rfl (dn (b := 0x3B800000#32) 8 (by omega) (by decide)) (up (b := 0x43800000#32) 8 (by omega) (by decide)) rfl (by omega)
  have i5 := step 4 i4 (kb := 4#32) (c := k0_pay70 v280 k0_pay61 x) rfl (dn (b := 0x3D800000#32) 4 (by omega) (by decide)) (up (b := 0x41800000#32) 4 (by omega) (by decide)) rfl (by omega)
  have i6 := step 2 i5 (kb := 2#32) (c := k0_pay73 v280 k0_pay61 x) rfl (dn (b := 0x3E800000#32) 2 (by omega) (by decide)) (up (b := 0x40800000#32) 2 (by omega) (by decide)) rfl (by omega)
  have i7 := step 1 i6 (kb := 1#32) (c := Ideal.cmp .olt (k0_pay74 v280 k0_pay61 x) (Ideal.ofBits .f32 0x3F000000#32)) rfl (dn (b := 0x3F000000#32) 1 (by omega) (by decide)) (f := ((2 ^ 1 : ℝ) : EReal)) rfl rfl (by omega)
  exact exp_of_inv i7 h1.le (by rw [h282, hy]; rfl) (dn (b := 0x00800000#32) 126 (by omega) (by decide))

/-! ### Scores -/

/-- A lane's query row within its head. -/
abbrev ln (n : Fin 256) : Fin 128 := ⟨n.val % 128, Nat.mod_lt _ (by omega)⟩

theorem cat_ln {α : Type*} (f : Fin 128 → α) (n : Fin 256) :
    (if h : n.val < 128 then f ⟨n.val, h⟩ else f ⟨n.val - 128, by omega⟩) = f (ln n) := by
  split
  · congr 1; apply Fin.ext; show n.val = n.val % 128; omega
  · congr 1; apply Fin.ext; show n.val - 128 = n.val % 128; omega

theorem pay10_pt (q : FVec Ideal S256x128 .fp8e4m3) (k : Vec Ideal S1x512x128 .fp8e4m3) (s : Vec Ideal S512x128 .f32) (r : Fin 512) (n : Fin 256) :
    k0_pay10 (F := Ideal) q k s (ix2 r n) = (∑ d : Fin 128, k (ix3 0 r d) * q (ix2 n d)) * s (ix2 r (ln n)) := by
  pointwise [k0_pay10]
  rw [← cat_ln (fun l => s (ix2 r l)) n]

/-- The score of key `j` for lane `n`, unscaled by the query. -/
def raw (q : FVec Ideal S256x128 .fp8e4m3) (K : S1x8192x128.Idx → EReal) (S : S8192x128.Idx → EReal) (j : ℕ) (n : Fin 256) : EReal :=
  (∑ d : Fin 128, K (ix3 0 (row j) d) * q (ix2 n d)) * S (ix2 (row j) (ln n))

theorem pay10_raw (q : FVec Ideal S256x128 .fp8e4m3) (K : S1x8192x128.Idx → EReal) (S : S8192x128.Idx → EReal) (o : ℕ) (r : Fin 512) (n : Fin 256) :
    k0_pay10 (F := Ideal) q (kC (F := Ideal) K o) (sC (F := Ideal) S o) (ix2 r n) = raw q K S (o + r.val) n := pay10_pt _ _ _ _ _

theorem pay11_raw (q : FVec Ideal S256x128 .fp8e4m3) (K : S1x8192x128.Idx → EReal) (S : S8192x128.Idx → EReal) (o : ℕ) (r : Fin 512) (n : Fin 256) :
    k0_pay11 (F := Ideal) q (kC (F := Ideal) K o) (sC (F := Ideal) S o) (ix2 r n) = raw q K S (o + r.val) n := by
  rw [← pay10_raw]
  pointwise [k0_pay11]

theorem uAll_raw (q : FVec Ideal S256x128 .fp8e4m3) (K : S1x8192x128.Idx → EReal) (S : S8192x128.Idx → EReal) (j : ℕ) (hj : j < 8192) (n : Fin 256) :
    uAll (F := Ideal) q K S (ix2 (row j) n) = raw q K S j n := by
  have hr : (row j).val = j := row_val hj
  show k0_pay11 (F := Ideal) q (kC (F := Ideal) K (512 * ((row j).val / 512))) (sC (F := Ideal) S (512 * ((row j).val / 512))) (ix2 (Fin.ofNat 512 ((row j).val % 512)) n) = _
  rw [hr, pay11_raw]
  congr 1
  rw [Fin.val_ofNat]; omega

theorem fold_le {ι : Type*} [Fintype ι] (f : ι → EReal) (z : EReal) : Finset.fold max ⊥ f Finset.univ ≤ z ↔ ∀ x, f x ≤ z := by
  rw [Finset.fold_max_le]; simp

theorem pay12_pt (q : FVec Ideal S256x128 .fp8e4m3) (a : FVec Ideal S8x256 .f32) (k : Vec Ideal S1x512x128 .fp8e4m3) (s : Vec Ideal S512x128 .f32) (r : Fin 8) (n : Fin 256) :
    k0_pay12 (F := Ideal) q a k s (ix2 r n) = max (a (ix2 r n)) (Finset.fold max ⊥ (fun g : Fin 64 => k0_pay10 (F := Ideal) q k s (ix2 ⟨g.val * 8 + r.val, by omega⟩ n)) Finset.univ) := by
  pointwise [k0_pay12]
  rw [ninf]

theorem pay6_pt (r : Fin 8) (n : Fin 256) : k0_pay6 (F := Ideal) (ix2 r n) = ⊥ := ninf

theorem mAt_le (q : FVec Ideal S256x128 .fp8e4m3) (K : S1x8192x128.Idx → EReal) (S : S8192x128.Idx → EReal) (n : Fin 256) (r : Fin 8) (z : EReal) (k : ℕ) :
    mAt (F := Ideal) q K S k0_pay6 k (ix2 r n) ≤ z ↔ ∀ j, j < 512 * k → j % 8 = r.val → raw q K S j n ≤ z := by
  induction k with
  | zero =>
    rw [mAt, pay6_pt]
    exact ⟨fun _ j hj => absurd hj (by omega), fun _ => bot_le⟩
  | succ k ih =>
    rw [mAt, pay12_pt, max_le_iff, ih, fold_le]
    constructor
    · rintro ⟨h1, h2⟩ j hj hr
      by_cases hk : j < 512 * k
      · exact h1 j hk hr
      · have := h2 ⟨(j - 512 * k) / 8, by omega⟩
        rw [pay10_raw] at this
        convert this using 2
        show j = 512 * k + ((j - 512 * k) / 8 * 8 + r.val)
        omega
    · intro h
      refine ⟨fun j hj hr => h j (by omega) hr, fun g => ?_⟩
      rw [pay10_raw]
      have hg := g.isLt
      have hr := r.isLt
      exact h _ (by show 512 * k + (g.val * 8 + r.val) < _; omega) (by show (512 * k + (g.val * 8 + r.val)) % 8 = _; omega)

/-! ### The even heads' accumulators -/

theorem log2e_val : (Named.named κ "log2e" 0x3FB8AA3B#32 : Ideal .f32) = (((Real.log 2)⁻¹ : ℝ) : EReal) := rfl
theorem inv448_val : (Named.named κ "inv448" 0x3B124925#32 : Ideal .f32) = ((1 / 448 : ℝ) : EReal) := rfl

theorem pay42_pt (v104 v109 : FVec Ideal S1x256 .f32) (v115 : IVec S1x256 1) (v156 : IVec S1x256 32) (v158 : IVec S1x256 1) (v161 : FVec Ideal S1x256 .f32) (v162 : IVec S1x256 32)
    (u : Vec Ideal S512x256 .f32) (r : Fin 512) (n : Fin 256) :
    k0_pay42 (F := Ideal) v104 v109 v115 v156 v158 v161 v162 u (ix2 r n)
      = Ideal.exp2 (u (ix2 r n) * (v104 (ix2 0 n) * (((Real.log 2)⁻¹ : ℝ) : EReal))
          - (v109 (ix2 0 n) * (((Real.log 2)⁻¹ : ℝ) : EReal) + (((k0_pay39 (F := Ideal) v115 v156 v158 v161 v162 (ix2 0 n)).toInt : ℝ) : EReal))) := by
  pointwise [k0_pay42, k0_pay40, k0_pay41]
  rfl

theorem pay43_pt (v104 v109 : FVec Ideal S1x256 .f32) (v115 : IVec S1x256 1) (v156 : IVec S1x256 32) (v158 : IVec S1x256 1) (v161 : FVec Ideal S1x256 .f32) (v162 : IVec S1x256 32)
    (a : FVec Ideal S8x256 .f32) (u : Vec Ideal S512x256 .f32) (r : Fin 8) (n : Fin 256) :
    k0_pay43 (F := Ideal) v104 v109 v115 v156 v158 v161 v162 a u (ix2 r n)
      = a (ix2 r n) + ∑ g : Fin 64, k0_pay42 (F := Ideal) v104 v109 v115 v156 v158 v161 v162 u (ix2 ⟨g.val * 8 + r.val, by omega⟩ n) := by
  pointwise [k0_pay43]

theorem pay44_pt (v104 v109 : FVec Ideal S1x256 .f32) (v115 : IVec S1x256 1) (v156 : IVec S1x256 32) (v158 : IVec S1x256 1) (v161 : FVec Ideal S1x256 .f32) (v162 : IVec S1x256 32)
    (a : FVec Ideal S128x256 .f32) (u : Vec Ideal S512x256 .f32) (v : Vec Ideal S1x1x128x512 .fp8e4m3) (d : Fin 128) (n : Fin 256) :
    k0_pay44 (F := Ideal) v104 v109 v115 v156 v158 v161 v162 a u v (ix2 d n)
      = a (ix2 d n) + ∑ x : Fin 512, v (ix4 0 0 d x) * min (k0_pay42 (F := Ideal) v104 v109 v115 v156 v158 v161 v162 u (ix2 x n)) (Ideal.ofBits .f32 0x43E00000#32) := by
  pointwise [k0_pay44]

/-- A sum over rows taken eight apart is the sum over all rows. -/
theorem sum_rows (G : ℕ) (f : ℕ → EReal) : ∑ r : Fin 8, ∑ g : Fin G, f (g.val * 8 + r.val) = ∑ j ∈ Finset.range (G * 8), f j := by
  rw [Finset.sum_comm, ← Fintype.sum_prod_type' (fun (g : Fin G) (r : Fin 8) => f (g.val * 8 + r.val)), ← Fin.sum_univ_eq_sum_range,
    ← finProdFinEquiv.sum_comp]
  refine Finset.sum_congr rfl fun p _ => ?_
  congr 1
  show p.1.val * 8 + p.2.val = p.2.val + 8 * p.1.val
  omega

theorem sum_add_range (a b : ℕ) (f : ℕ → EReal) : ∑ j ∈ Finset.range (a + b), f j = ∑ j ∈ Finset.range a, f j + ∑ j ∈ Finset.range b, f (a + j) :=
  Finset.sum_range_add f a b

section acc
variable (v104 v109 : FVec Ideal S1x256 .f32) (v115 : IVec S1x256 1) (v156 : IVec S1x256 32) (v158 : IVec S1x256 1) (v161 : FVec Ideal S1x256 .f32) (v162 : IVec S1x256 32)
  (U : S8192x256.Idx → EReal) (Vt : S1x1x128x8192.Idx → EReal)

/-- The even heads' scaled probability of key `j`. -/
def prob (j : ℕ) (n : Fin 256) : EReal :=
  Ideal.exp2 (U (ix2 (row j) n) * v104 (ix2 0 n) * (((Real.log 2)⁻¹ : ℝ) : EReal)
          - (v109 (ix2 0 n) * (((Real.log 2)⁻¹ : ℝ) : EReal) + (((k0_pay39 (F := Ideal) v115 v156 v158 v161 v162 (ix2 0 n)).toInt : ℝ) : EReal)))

theorem pay42_prob (o : ℕ) (r : Fin 512) (n : Fin 256) :
    k0_pay42 (F := Ideal) v104 v109 v115 v156 v158 v161 v162 (uC (F := Ideal) U o) (ix2 r n) = prob v104 v109 v115 v156 v158 v161 v162 U (o + r.val) n := by
  rw [pay42_pt, ← mul_assoc]; rfl

theorem aAt_fst (n : Fin 256) (k : ℕ) :
    ∑ r : Fin 8, (aAt (F := Ideal) v104 v109 v115 v156 v158 v161 v162 U Vt (k0_pay7, k0_pay8) k).1 (ix2 r n)
      = ∑ j ∈ Finset.range (512 * k), prob v104 v109 v115 v156 v158 v161 v162 U j n := by
  induction k with
  | zero =>
    rw [Finset.range_zero, Finset.sum_empty]
    exact Finset.sum_eq_zero fun r _ => Ideal.ofBits_zero_f32
  | succ k ih =>
    rw [show 512 * (k + 1) = 512 * k + 512 by ring, sum_add_range, ← ih, ← sum_rows 64 (fun j => prob v104 v109 v115 v156 v158 v161 v162 U (512 * k + j) n),
      ← Finset.sum_add_distrib]
    refine Finset.sum_congr rfl fun r _ => ?_
    rw [aAt]
    dsimp only
    rw [pay43_pt]
    congr 1
    exact Finset.sum_congr rfl fun g _ => pay42_prob _ _ _ _ _ _ _ _ _ _ _

theorem aAt_snd (d : Fin 128) (n : Fin 256) (k : ℕ) :
    (aAt (F := Ideal) v104 v109 v115 v156 v158 v161 v162 U Vt (k0_pay7, k0_pay8) k).2 (ix2 d n)
      = ∑ j ∈ Finset.range (512 * k), Vt (ix4 0 0 d (row j)) * min (prob v104 v109 v115 v156 v158 v161 v162 U j n) (Ideal.ofBits .f32 0x43E00000#32) := by
  induction k with
  | zero =>
    rw [Finset.range_zero, Finset.sum_empty]
    exact Ideal.ofBits_zero_f32
  | succ k ih =>
    rw [show 512 * (k + 1) = 512 * k + 512 by ring, sum_add_range, ← ih, aAt]
    dsimp only
    rw [pay44_pt, ← Fin.sum_univ_eq_sum_range (fun j => Vt (ix4 0 0 d (row (512 * k + j))) * min (prob v104 v109 v115 v156 v158 v161 v162 U (512 * k + j) n) (Ideal.ofBits .f32 0x43E00000#32))]
    congr 1
    refine Finset.sum_congr rfl fun x _ => ?_
    rw [pay42_prob]; rfl
end acc

theorem pay48_pt (v5 : EReal) (v105 v109 : FVec Ideal S1x256 .f32) (v115 : IVec S1x256 1) (v156 : IVec S1x256 32) (v158 : IVec S1x256 1) (v161 : FVec Ideal S1x256 .f32) (v162 : IVec S1x256 32)
    (a : FVec Ideal S8x256 .f32) (b : FVec Ideal S128x256 .f32) (d : Fin 128) (n : Fin 256) :
    k0_pay48 (F := Ideal) v5 v105 v109 v115 v156 v158 v161 v162 a b (ix2 d n)
      = b (ix2 d n) * Ideal.div (Ideal.ofBits .f32 (IntOp.shli .vector (IntOp.addi (k0_pay39 (F := Ideal) v115 v156 v158 v161 v162 (ix2 0 n)) 127#32) 23#32) * v5)
        ((∑ r : Fin 8, a (ix2 r n)) * Ideal.ofBits .f32 (IntOp.shli .vector (IntOp.addi (k0_pay39 (F := Ideal) v115 v156 v158 v161 v162 (ix2 0 n)) 127#32) 23#32)
          + Ideal.exp (v105 (ix2 0 n) - v109 (ix2 0 n))) := by
  pointwise [k0_pay48]

theorem pay20_pt (M : FVec Ideal S8x256 .f32) (t : FVec Ideal S512x256 .f32) (a b : Vec Ideal S1x1x1x128 .f32) (n : Fin 256) :
    k0_pay20 (F := Ideal) M t a b (ix2 0 n)
      = Finset.fold max ⊥ (fun r : Fin 8 => max (M (ix2 r n)) (Finset.fold max ⊥ (fun g : Fin 64 => t (ix2 ⟨g.val * 8 + r.val, by omega⟩ n)) Finset.univ)) Finset.univ
        * k0_pay18 (F := Ideal) a b (ix2 0 n) := by
  pointwise [k0_pay20]
  rw [ninf]

/-- The first number a scaled score's exponential is taken of, divided by 448, is a real below one. -/
theorem y_real {top m y : EReal} (h : top ≤ m) (hy : y = Ideal.exp (top - m) * ((1 / 448 : ℝ) : EReal)) : ∃ r : ℝ, y = (r : EReal) ∧ r < 1 := by
  obtain ⟨q, _, hq1, hq⟩ := exp_sub_real h
  refine ⟨q * (1 / 448), by rw [hy, hq, ← EReal.coe_mul], by linarith⟩

/-- AN EVEN LANE: the attention over the keys of the visited chunks. -/
theorem even_elem (M : FVec Ideal S8x256 .f32) (t : FVec Ideal S512x256 .f32) (qs0 qs2 : Vec Ideal S1x1x1x128 .f32) (k0 k2 : EReal)
    (U : S8192x256.Idx → EReal) (Vt : S1x1x128x8192.Idx → EReal) (v5 : EReal) (N : ℕ) (hN : 0 < N) (d : Fin 128) (n : Fin 256)
    (ha : 0 < k0_pay18 (F := Ideal) qs0 qs2 (ix2 0 n)) (top : EReal) (htop : ∀ z, top ≤ z ↔ ∀ j ∈ Finset.range (512 * N), U (ix2 (row j) n) ≤ z)
    (h20 : k0_pay20 (F := Ideal) M t qs0 qs2 (ix2 0 n) = top * k0_pay18 (F := Ideal) qs0 qs2 (ix2 0 n)) :
    evO (F := Ideal) M t qs0 qs2 k0 k2 U Vt v5 N (ix2 d n)
      = ATT (Finset.range (512 * N)) (fun j => U (ix2 (row j) n) * k0_pay18 (F := Ideal) qs0 qs2 (ix2 0 n)) (fun j => Vt (ix4 0 0 d (row j)))
          (k0_pay19 (F := Ideal) k0 k2 (ix2 0 n)) (max (top * k0_pay18 (F := Ideal) qs0 qs2 (ix2 0 n)) (k0_pay19 (F := Ideal) k0 k2 (ix2 0 n))) v5 := by
  have h21 : k0_pay21 (F := Ideal) M t qs0 k0 qs2 k2 (ix2 0 n) = max (top * k0_pay18 (F := Ideal) qs0 qs2 (ix2 0 n)) (k0_pay19 (F := Ideal) k0 k2 (ix2 0 n)) := by
    rw [← h20]; rfl
  have h22 : k0_pay22 (F := Ideal) M t qs0 k0 qs2 k2 (ix2 0 n)
      = Ideal.exp (top * k0_pay18 (F := Ideal) qs0 qs2 (ix2 0 n) - max (top * k0_pay18 (F := Ideal) qs0 qs2 (ix2 0 n)) (k0_pay19 (F := Ideal) k0 k2 (ix2 0 n))) * ((1 / 448 : ℝ) : EReal) := by
    rw [← h21, ← h20]; rfl
  obtain ⟨r, hr, h1⟩ := y_real (le_max_left _ _) h22
  have hE := exp_even (k0_pay22 (F := Ideal) M t qs0 k0 qs2 k2) (k0_pay25 (F := Ideal) M t qs0 k0 qs2 k2) (k0_pay23 (F := Ideal) M t qs0 k0 qs2 k2) (ix2 0 n) hr h1 rfl rfl
  have key := kernel_elem (v := fun j => Vt (ix4 0 0 d (row j))) (vs := v5) (k := k0_pay19 (F := Ideal) k0 k2 (ix2 0 n)) rfl
    (top_mul (t := Finset.range (512 * N)) ⟨0, Finset.mem_range.2 (by omega)⟩ ha htop) h22 hr hE rfl c448
  rw [← key]
  unfold evO evA
  rw [pay48_pt, aAt_fst, aAt_snd]
  unfold prob
  rw [h21]
  rfl

end Cert.KernelIdeal.Hand

end
-- ==== Proof.KernelOdd.lean ====
/-
  The odd heads' payloads read at an index, and one lane of their result.
-/
module

public import proofs.«01_k».proof.Proof.KernelPoint

@[expose] public section

set_option maxRecDepth 16384
set_option maxHeartbeats 1000000

noncomputable section

namespace Cert.KernelIdeal.Hand

open Cert.KernelIdeal Cert.KernelIdeal.Gen
open Idealize.ShloMosaic
open Cert.Core
open scoped BigOperators

theorem pay56_pt (M : FVec Ideal S8x256 .f32) (t : FVec Ideal S1152x256 .f32) (a b : Vec Ideal S1x1x1x128 .f32) (n : Fin 256) :
    k0_pay56 (F := Ideal) M t a b (ix2 0 n)
      = Finset.fold max ⊥ (fun r : Fin 8 => max (M (ix2 r n)) (Finset.fold max ⊥ (fun g : Fin 144 => t (ix2 ⟨g.val * 8 + r.val, by omega⟩ n)) Finset.univ)) Finset.univ
        * k0_pay54 (F := Ideal) a b (ix2 0 n) := by
  pointwise [k0_pay56]
  rw [ninf]

section acc
variable (v271 v276 : FVec Ideal S1x256 .f32) (v282 : IVec S1x256 1) (v323 : IVec S1x256 32) (v325 : IVec S1x256 1) (v328 : FVec Ideal S1x256 .f32)

theorem pay78_pt (u : Vec Ideal S1152x256 .f32) (r : Fin 1152) (n : Fin 256) :
    k0_pay78 (F := Ideal) v271 v276 v282 v323 v325 v328 u (ix2 r n)
      = Ideal.exp2 (u (ix2 r n) * (v271 (ix2 0 n) * (((Real.log 2)⁻¹ : ℝ) : EReal))
          - (v276 (ix2 0 n) * (((Real.log 2)⁻¹ : ℝ) : EReal) + (((k0_pay75 (F := Ideal) v282 v323 v325 v328 (ix2 0 n)).toInt : ℝ) : EReal))) := by
  pointwise [k0_pay78]
  rfl

theorem pay79_pt (a : FVec Ideal S128x256 .f32) (u : Vec Ideal S1152x256 .f32) (v : Vec Ideal S1x1x128x1152 .fp8e4m3) (d : Fin 128) (n : Fin 256) :
    k0_pay79 (F := Ideal) a v271 v276 v282 v323 v325 v328 u v (ix2 d n)
      = a (ix2 d n) + ∑ x : Fin 1152, v (ix4 0 0 d x) * min (k0_pay78 (F := Ideal) v271 v276 v282 v323 v325 v328 u (ix2 x n)) (Ideal.ofBits .f32 0x43E00000#32) := by
  pointwise [k0_pay79]

theorem pay80_pt (a : FVec Ideal S8x256 .f32) (u : Vec Ideal S1152x256 .f32) (n : Fin 256) :
    k0_pay80 (F := Ideal) a v271 v276 v282 v323 v325 v328 u (ix2 0 n)
      = (∑ r : Fin 8, (a (ix2 r n) + ∑ g : Fin 144, k0_pay78 (F := Ideal) v271 v276 v282 v323 v325 v328 u (ix2 ⟨g.val * 8 + r.val, by omega⟩ n)))
        * k0_pay76 (F := Ideal) v282 v323 v325 v328 (ix2 0 n) := by
  pointwise [k0_pay80]

end acc

theorem pay1_pt (v5 : EReal) (v349 v351 v371 : FVec Ideal S1x256 .f32) (v368 : FVec Ideal S128x256 .f32) (d : Fin 128) (n : Fin 256) :
    k0_pay1 (F := Ideal) v5 v349 v351 v368 v371 (ix2 d n)
      = v368 (ix2 d n) * Ideal.div (v349 (ix2 0 n) * v5) (v371 (ix2 0 n) + v351 (ix2 0 n)) := by
  pointwise [k0_pay1]

theorem pay53_eq (w : FVec Ideal S1152x256 .f32) (r : Fin 1152) (n : Fin 256) : k0_pay53 (F := Ideal) w (ix2 r n) = w (ix2 r n) := by
  pointwise [k0_pay53]

/-- The odd heads' result, one head's lanes after the other's. -/
def odO (v244 v352 : FVec Ideal S1152x256 .f32) (v255 v264 : Vec Ideal S1x1x1x128 .f32) (v258 v267 : EReal) (v362 : Vec Ideal S1x1x128x1152 .fp8e4m3) (v5 : EReal) : FVec Ideal S128x256 .f32 :=
  k0_pay1 (F := Ideal) v5 (od349 (F := Ideal) v244 v255 v264 v258 v267) (od351 (F := Ideal) v244 v255 v264 v258 v267) (od368 (F := Ideal) v244 v352 v255 v264 v258 v267 v362) (od371 (F := Ideal) v244 v352 v255 v264 v258 v267)

/-- AN ODD LANE: the attention over the keys of the window. -/
theorem odd_elem (W : FVec Ideal S1152x256 .f32) (a b : Vec Ideal S1x1x1x128 .f32) (k0 k2 : EReal) (Vt : Vec Ideal S1x1x128x1152 .fp8e4m3) (v5 : EReal) (d : Fin 128) (n : Fin 256)
    (ha : 0 < k0_pay54 (F := Ideal) a b (ix2 0 n)) (top : EReal) (htop : ∀ z, top ≤ z ↔ ∀ j ∈ Finset.range 1152, W (ix2 (Fin.ofNat 1152 j) n) ≤ z)
    (h56 : k0_pay56 (F := Ideal) k0_pay6 W a b (ix2 0 n) = top * k0_pay54 (F := Ideal) a b (ix2 0 n)) :
    odO W (k0_pay53 (F := Ideal) W) a b k0 k2 Vt v5 (ix2 d n)
      = ATT (Finset.range 1152) (fun j => W (ix2 (Fin.ofNat 1152 j) n) * k0_pay54 (F := Ideal) a b (ix2 0 n)) (fun j => Vt (ix4 0 0 d (Fin.ofNat 1152 j)))
          (k0_pay55 (F := Ideal) k0 k2 (ix2 0 n)) (max (top * k0_pay54 (F := Ideal) a b (ix2 0 n)) (k0_pay55 (F := Ideal) k0 k2 (ix2 0 n))) v5 := by
  have h57 : k0_pay57 (F := Ideal) k0_pay6 W a k0 b k2 (ix2 0 n) = max (top * k0_pay54 (F := Ideal) a b (ix2 0 n)) (k0_pay55 (F := Ideal) k0 k2 (ix2 0 n)) := by
    rw [← h56]; rfl
  have h58 : k0_pay58 (F := Ideal) k0_pay6 W a k0 b k2 (ix2 0 n)
      = Ideal.exp (top * k0_pay54 (F := Ideal) a b (ix2 0 n) - max (top * k0_pay54 (F := Ideal) a b (ix2 0 n)) (k0_pay55 (F := Ideal) k0 k2 (ix2 0 n))) * ((1 / 448 : ℝ) : EReal) := by
    rw [← h57, ← h56]; rfl
  obtain ⟨r, hr, h1⟩ := y_real (le_max_left _ _) h58
  have hE := exp_odd (k0_pay58 (F := Ideal) k0_pay6 W a k0 b k2) (k0_pay59 (F := Ideal) k0_pay6 W a k0 b k2) (ix2 0 n) hr h1 rfl
  have key := kernel_elem (v := fun j => Vt (ix4 0 0 d (Fin.ofNat 1152 j))) (vs := v5) (k := k0_pay55 (F := Ideal) k0 k2 (ix2 0 n)) rfl
    (top_mul (t := Finset.range 1152) ⟨0, Finset.mem_range.2 (by omega)⟩ ha htop) h58 hr hE rfl c448
  rw [← key]
  have hf : ∀ k : Fin 1152, Fin.ofNat 1152 k.val = k := fun k => Fin.ext (Nat.mod_eq_of_lt k.isLt)
  let P : ℕ → EReal := fun j => Ideal.exp2 (W (ix2 (Fin.ofNat 1152 j) n) * k0_pay54 (F := Ideal) a b (ix2 0 n) * (((Real.log 2)⁻¹ : ℝ) : EReal)
        - (max (top * k0_pay54 (F := Ideal) a b (ix2 0 n)) (k0_pay55 (F := Ideal) k0 k2 (ix2 0 n)) * (((Real.log 2)⁻¹ : ℝ) : EReal)
          + (((k0_pay75 (F := Ideal) (k0_pay59 (F := Ideal) k0_pay6 W a k0 b k2) (od323 (F := Ideal) W a b k0 k2) (od325 (F := Ideal) W a b k0 k2) (od328 (F := Ideal) W a b k0 k2) (ix2 0 n)).toInt : ℝ) : EReal)))
  have hp : ∀ x : Fin 1152, k0_pay78 (F := Ideal) (k0_pay54 (F := Ideal) a b) (k0_pay57 (F := Ideal) k0_pay6 W a k0 b k2) (k0_pay59 (F := Ideal) k0_pay6 W a k0 b k2)
      (od323 (F := Ideal) W a b k0 k2) (od325 (F := Ideal) W a b k0 k2) (od328 (F := Ideal) W a b k0 k2) (k0_pay53 (F := Ideal) W) (ix2 x n) = P x.val := by
    intro x
    rw [pay78_pt, h57, pay53_eq, ← mul_assoc]
    show _ = Ideal.exp2 (W (ix2 (Fin.ofNat 1152 x.val) n) * _ * _ - _)
    rw [hf]
  have hA : ∑ x : Fin 1152, Vt (ix4 0 0 d x) * min (P x.val) (Ideal.ofBits .f32 0x43E00000#32)
      = ∑ j ∈ Finset.range 1152, Vt (ix4 0 0 d (Fin.ofNat 1152 j)) * min (P j) (Ideal.ofBits .f32 0x43E00000#32) := by
    rw [← Fin.sum_univ_eq_sum_range (fun j => Vt (ix4 0 0 d (Fin.ofNat 1152 j)) * min (P j) (Ideal.ofBits .f32 0x43E00000#32))]
    exact Finset.sum_congr rfl fun x _ => by rw [hf]
  unfold odO od368 od371 od351 od349
  rw [pay1_pt, pay79_pt, pay80_pt]
  have z8 : k0_pay8 (F := Ideal) (ix2 d n) = 0 := Ideal.ofBits_zero_f32
  have z7 : ∀ r : Fin 8, k0_pay7 (F := Ideal) (ix2 r n) = 0 := fun r => Ideal.ofBits_zero_f32
  simp only [z8, z7, zero_add, hp]
  rw [sum_rows 144 P, hA]
  have h77 : k0_pay77 (F := Ideal) (k0_pay55 (F := Ideal) k0 k2) (k0_pay57 (F := Ideal) k0_pay6 W a k0 b k2) (ix2 0 n)
      = Ideal.exp (k0_pay55 (F := Ideal) k0 k2 (ix2 0 n) - max (top * k0_pay54 (F := Ideal) a b (ix2 0 n)) (k0_pay55 (F := Ideal) k0 k2 (ix2 0 n))) := by
    rw [← h57]; rfl
  rw [h77]
  rfl

end Cert.KernelIdeal.Hand

end
-- ==== Proof.Words.lean ====
/-
  Comparisons of small 32-bit words, as the masks use them.
-/
module

public import proofs.«01_k».proof.Proof.Core

@[expose] public section

namespace Cert.Core

open Idealize.ShloMosaic

theorem toInt_small {a : ℕ} (h : a < 2 ^ 31) : (BitVec.ofNat 32 a).toInt = (a : ℤ) := by
  rw [BitVec.toInt_eq_toNat_cond, BitVec.toNat_ofNat, Nat.mod_eq_of_lt (by omega), if_pos (by omega)]

theorem ofBool_one (b : Bool) : (BitVec.ofBool b = 1#1) ↔ b = true := by cases b <;> decide

theorem sle_small {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ a ≤ b
  rw [ofBool_one, BitVec.sle, decide_eq_true_iff, toInt_small ha, toInt_small hb]; omega

theorem sgt_small {k q : ℕ} (hk : k < 2 ^ 30) (hq : q < 2 ^ 30) :
    IntOp.cmpi .sgt (BitVec.ofNat 32 k) (BitVec.ofNat 32 q - 1024#32) = 1#1 ↔ q < k + 1024 := by
  show BitVec.ofBool ((BitVec.ofNat 32 q - 1024#32).slt (BitVec.ofNat 32 k)) = 1#1 ↔ q < k + 1024
  have e : (BitVec.ofNat 32 q - 1024#32).toInt = (q : ℤ) - 1024 := by
    rw [BitVec.toInt_sub, toInt_small (by omega), show (1024#32 : BitVec 32).toInt = 1024 by decide, Int.bmod_def]
    omega
  rw [ofBool_one, BitVec.slt, decide_eq_true_iff, toInt_small (by omega), e]; omega

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

/-- Which keys a query sees: those up to its own, and in an odd head of a group the last 1024 of them. -/
def Sees (g q k : ℕ) : Prop := k ≤ q ∧ (g % 2 = 0 ∨ q < k + 1024)

instance (g q k : ℕ) : Decidable (Sees g q k) := by unfold Sees; infer_instance

end Cert.Core

end
-- ==== Proof.KernelMask.lean ====
/-
  The masks and the stacked operands of the attention body read at an index, and where each head's result lies.
-/
module

public import proofs.«01_k».proof.Proof.KernelOdd
public import proofs.«01_k».proof.Proof.Words

@[expose] public section

set_option maxRecDepth 16384
set_option maxHeartbeats 1000000

noncomputable section

namespace Cert.KernelIdeal.Hand

open Cert.KernelIdeal Cert.KernelIdeal.Gen
open Idealize.ShloMosaic
open Cert.Core
open scoped BigOperators

/-- The remainder of a lane by 128, as the program takes it. -/
def rem128 (n : Fin 256) : BitVec 32 := IntOp.remsi .vector (BitVec.ofNat 32 n.val) (Scalar.select (Scalar.cmpi .eq 128#32 0#32) 1#32 128#32)

/-- The lane's position in its block of queries, as the program takes it. -/
def sel128 (n : Fin 256) : BitVec 32 :=
  Scalar.select (IntOp.andi (IntOp.xori (IntOp.cmpi .slt (rem128 n) 0#32) (Scalar.cmpi .slt (Scalar.select (Scalar.cmpi .eq 128#32 0#32) 1#32 128#32) 0#32)) (IntOp.cmpi .ne (rem128 n) 0#32))
    (IntOp.addi (rem128 n) (Scalar.select (Scalar.cmpi .eq 128#32 0#32) 1#32 128#32)) (rem128 n)

/-- The word of the tail chunk's first key, as the program takes it. -/
def twd (a2 c4 v35 z : BitVec 32) : BitVec 32 :=
  Scalar.muli (Scalar.select (Scalar.andi (Scalar.cmpi .ne (Scalar.subi (Scalar.extui (Scalar.cmpi .sgt a2 z)) (Scalar.extui (Scalar.cmpi .slt a2 0#32)))
    (Scalar.subi (Scalar.extui (Scalar.cmpi .sgt c4 0#32)) (Scalar.extui (Scalar.cmpi .slt c4 0#32)))) (Scalar.cmpi .ne (Scalar.remsi a2 c4) 0#32)) (Scalar.subi v35 1#32) v35) 512#32

/-- The words of the query positions of a block. -/
theorem pay5_pt (i : grid0.Coords) (n : Fin 256) : k0_pay5 i (ix2 0 n) = BitVec.ofNat 32 (128 * (i 2).val + n.val % 128) := by
  have e : k0_pay5 i (ix2 0 n) = IntOp.addi (IntOp.muli (BitVec.ofNat 32 (i 2).val) 128#32) (sel128 n) := by
    unfold sel128 rem128
    pointwise [k0_pay5]
    try rfl
  have h2 : ∀ n : Fin 256, sel128 n = BitVec.ofNat 32 (n.val % 128) := by decide +kernel
  rw [e, h2]
  show BitVec.ofNat 32 (i 2).val * BitVec.ofNat 32 128 + BitVec.ofNat 32 (n.val % 128) = _
  rw [← BitVec.ofNat_mul, ← BitVec.ofNat_add, mul_comm]

theorem tw_eq (i : grid0.Coords) : twd (BitVec.ofNat 32 (i 2).val) 4#32 (Scalar.divsi (BitVec.ofNat 32 (i 2).val) 4#32) 0#32 = BitVec.ofNat 32 (tail i) := by
  have h : ∀ a : Fin 64, twd (BitVec.ofNat 32 a.val) 4#32 (Scalar.divsi (BitVec.ofNat 32 a.val) 4#32) 0#32 = BitVec.ofNat 32 (512 * (a.val / 4)) := by decide +kernel
  exact h ⟨(i 2).val, lt64 i⟩

theorem bw_eq (i : grid0.Coords) : Scalar.muli (Scalar.maxsi (Scalar.subi (BitVec.ofNat 32 (i 2).val) 8#32) 0#32) 128#32 = BitVec.ofNat 32 (base i) := by
  have h : ∀ a : Fin 64, Scalar.muli (Scalar.maxsi (Scalar.subi (BitVec.ofNat 32 a.val) 8#32) 0#32) 128#32 = BitVec.ofNat 32 (128 * (a.val - 8)) := by decide +kernel
  exact h ⟨(i 2).val, lt64 i⟩

theorem pay16_pt (a2 : BitVec 32) (v26 : IVec S1x256 32) (q : FVec Ideal S256x128 .fp8e4m3) (c4 v35 z : BitVec 32) (k : Vec Ideal S1x512x128 .fp8e4m3) (s : Vec Ideal S512x128 .f32) (r : Fin 512) (n : Fin 256) :
    k0_pay16 (F := Ideal) a2 v26 q c4 v35 z k s (ix2 r n)
      = Scalar.select (IntOp.cmpi .sle (IntOp.addi (twd a2 c4 v35 z) (BitVec.ofNat 32 r.val)) (v26 (ix2 0 n)))
          ((∑ d : Fin 128, k (ix3 0 r d) * q (ix2 n d)) * s (ix2 r (ln n))) ⊥ := by
  rw [← ninf, ← cat_ln (fun l => s (ix2 r l)) n]
  unfold twd
  pointwise [k0_pay16]
  try rfl

theorem pay52_pt (a2 : BitVec 32) (v26 : IVec S1x256 32) (qa qb : Vec Ideal S1x128x128 .fp8e4m3) (k : Vec Ideal S1x1152x128 .fp8e4m3) (s : Vec Ideal S1152x128 .f32) (r : Fin 1152) (n : Fin 256) :
    k0_pay52 (F := Ideal) a2 v26 qa qb k s (ix2 r n)
      = Scalar.select (IntOp.andi (IntOp.cmpi .sle (IntOp.addi (Scalar.muli (Scalar.maxsi (Scalar.subi a2 8#32) 0#32) 128#32) (BitVec.ofNat 32 r.val)) (v26 (ix2 0 n)))
            (IntOp.cmpi .sgt (IntOp.addi (Scalar.muli (Scalar.maxsi (Scalar.subi a2 8#32) 0#32) 128#32) (BitVec.ofNat 32 r.val)) (IntOp.subi (v26 (ix2 0 n)) 1024#32)))
          ((∑ d : Fin 128, k (ix3 0 r d) * (if h : n.val < 128 then qa (ix3 0 ⟨n.val, h⟩ d) else qb (ix3 0 ⟨n.val - 128, by omega⟩ d))) * s (ix2 r (ln n))) ⊥ := by
  rw [← ninf, ← cat_ln (fun l => s (ix2 r l)) n]
  pointwise [k0_pay52]
  try rfl

theorem pay9_pt (a b : Vec Ideal S1x128x128 .fp8e4m3) (n : Fin 256) (d : Fin 128) :
    k0_pay9 (F := Ideal) a b (ix2 n d) = if h : n.val < 128 then a (ix3 0 ⟨n.val, h⟩ d) else b (ix3 0 ⟨n.val - 128, by omega⟩ d) := by
  pointwise [k0_pay9]

theorem pay17_pt (t : FVec Ideal S512x256 .f32) (r : Fin 512) (n : Fin 256) : k0_pay17 (F := Ideal) t (ix2 r n) = t (ix2 r n) := by
  pointwise [k0_pay17]

theorem pay18_pt (a b : Vec Ideal S1x1x1x128 .f32) (n : Fin 256) :
    k0_pay18 (F := Ideal) a b (ix2 0 n) = (if h : n.val < 128 then a (ix4 0 0 0 ⟨n.val, h⟩) else b (ix4 0 0 0 ⟨n.val - 128, by omega⟩)) * Ideal.ofBits .f32 1035273459#32 := by
  pointwise [k0_pay18]

theorem pay54_pt (a b : Vec Ideal S1x1x1x128 .f32) (n : Fin 256) :
    k0_pay54 (F := Ideal) a b (ix2 0 n) = (if h : n.val < 128 then a (ix4 0 0 0 ⟨n.val, h⟩) else b (ix4 0 0 0 ⟨n.val - 128, by omega⟩)) * Ideal.ofBits .f32 1035273459#32 := by
  pointwise [k0_pay54]

theorem pay19_pt (a b : EReal) (n : Fin 256) : k0_pay19 (F := Ideal) a b (ix2 0 n) = if n.val < 128 then a else b := by
  pointwise [k0_pay19]
  try split_ifs <;> rfl

theorem pay55_pt (a b : EReal) (n : Fin 256) : k0_pay55 (F := Ideal) a b (ix2 0 n) = if n.val < 128 then a else b := by
  pointwise [k0_pay55]
  try split_ifs <;> rfl

theorem pay4_pt (i : grid0.Coords) (k : Fin 8) (hk : (i 1).val = k.val) (g : Vec Ideal S1x512x8 .f32) (r : Fin 512) (n : Fin 128) (h0 : 0 ≤ g (ix3 0 r k)) :
    k0_pay4 (F := Ideal) i g (ix2 r n) = g (ix3 0 r k) := by
  have e : k0_pay4 (F := Ideal) i g (ix2 r n)
      = Finset.fold max ⊥ (fun x : Fin 8 => Scalar.select (IntOp.cmpi .eq (BitVec.ofNat 32 x.val) (BitVec.ofNat 32 (i 1).val)) (g (ix3 0 r x)) 0) Finset.univ := by
    rw [← ninf]
    pointwise [k0_pay4]
  have hb : ∀ x y : Fin 8, IntOp.cmpi .eq (BitVec.ofNat 32 x.val) (BitVec.ofNat 32 y.val) = 1#1 ↔ x = y := by decide +kernel
  have hx : ∀ x : Fin 8, Scalar.select (IntOp.cmpi .eq (BitVec.ofNat 32 x.val) (BitVec.ofNat 32 k.val)) (g (ix3 0 r x)) 0
      = if x = k then g (ix3 0 r k) else 0 := by
    intro x
    by_cases h : x = k
    · rw [if_pos h, (hb x k).2 h, h]; rfl
    · rw [if_neg h]; exact if_neg (fun hh => h ((hb x k).1 hh))
  rw [e, hk]
  refine eq_of_forall_ge_iff fun z => ?_
  rw [fold_le]
  simp only [hx]
  constructor
  · intro h
    have := h k
    rwa [if_pos rfl] at this
  · intro h x
    split_ifs
    · exact h
    · exact h0.trans h

section lanes
variable (v60 : FVec Ideal S8x256 .f32) (v76 : FVec Ideal S512x256 .f32) (v88 v97 : Vec Ideal S1x1x1x128 .f32) (v91 v100 : EReal) (U : S8192x256.Idx → EReal) (Vt : S1x1x128x8192.Idx → EReal) (v5 : EReal)

theorem ev0_pt (n : ℕ) (r d : Fin 128) : ev0 (F := Ideal) v60 v76 v88 v97 v91 v100 U Vt v5 n (ix3 0 r d) = evO (F := Ideal) v60 v76 v88 v97 v91 v100 U Vt v5 n (ix2 d ⟨r.val, by omega⟩) := by
  unfold ev0 evO
  pointwise [k0_pay50, k0_pay49]
  try rfl

theorem ev2_pt (n : ℕ) (r d : Fin 128) : ev2 (F := Ideal) v60 v76 v88 v97 v91 v100 U Vt v5 n (ix3 0 r d) = evO (F := Ideal) v60 v76 v88 v97 v91 v100 U Vt v5 n (ix2 d ⟨128 + r.val, by omega⟩) := by
  unfold ev2
  generalize evO (F := Ideal) v60 v76 v88 v97 v91 v100 U Vt v5 n = y
  pointwise [k0_pay51]
  try rfl
end lanes

section lanes
variable (v244 v352 : FVec Ideal S1152x256 .f32) (v255 v264 : Vec Ideal S1x1x1x128 .f32) (v258 v267 : EReal) (v362 : Vec Ideal S1x1x128x1152 .fp8e4m3) (v5 : EReal)

theorem od1_pt (r d : Fin 128) : od1 (F := Ideal) v244 v352 v255 v264 v258 v267 v362 v5 (ix3 0 r d) = odO v244 v352 v255 v264 v258 v267 v362 v5 (ix2 d ⟨r.val, by omega⟩) := by
  unfold od1 odO
  pointwise [k0_pay2]
  try rfl

theorem od3_pt (r d : Fin 128) : od3 (F := Ideal) v244 v352 v255 v264 v258 v267 v362 v5 (ix3 0 r d) = odO v244 v352 v255 v264 v258 v267 v362 v5 (ix2 d ⟨128 + r.val, by omega⟩) := by
  unfold od3 odO
  pointwise [k0_pay3]
  try rfl
end lanes

end Cert.KernelIdeal.Hand

end
-- ==== Proof.KernelBlock.lean ====
/-
  One output block of the attention kernel: each of its elements is the attention of its head and query over all the keys.
-/
module

public import proofs.«01_k».proof.Proof.KernelMask

@[expose] public section

set_option maxRecDepth 16384
set_option maxHeartbeats 1000000

noncomputable section

namespace Cert.KernelIdeal.Hand

open Cert.KernelIdeal Cert.KernelIdeal.Gen
open Idealize.ShloMosaic
open Cert.Core
open scoped BigOperators

theorem cval : Ideal.ofBits .f32 1035273459#32 = ((11863283 / 134217728 : ℝ) : EReal) := by
  show Ideal.ieee 8 23 (1035273459#32 : BitVec 32) = _
  simp [Ideal.ieee]
  rw [← EReal.coe_mul]
  norm_num

theorem cpos : 0 < Ideal.ofBits .f32 1035273459#32 := by
  rw [cval]; exact EReal.coe_pos.2 (by norm_num)

/-- An index given by its remainder is the index. -/
theorem ofNat_eq {N : ℕ} [NeZero N] (a : ℕ) (h : a < N) : Fin.ofNat N a = ⟨a, h⟩ := Fin.ext (Nat.mod_eq_of_lt h)

/-- A choice between the two halves of the lanes. -/
theorem half {α : Type*} (f g : Fin 128 → α) (w : ℕ → Fin 128 → α) (n : Fin 256) (hf : ∀ l, f l = w 0 l) (hg : ∀ l, g l = w 1 l) :
    (if h : n.val < 128 then f ⟨n.val, h⟩ else g ⟨n.val - 128, by omega⟩) = w (n.val / 128) (ln n) := by
  split
  · rw [hf, show n.val / 128 = 0 by omega]
    congr 1
    apply Fin.ext; show n.val = n.val % 128; omega
  · rw [hg, show n.val / 128 = 1 by omega]
    congr 1
    apply Fin.ext; show n.val - 128 = n.val % 128; omega

section block
variable (i : grid0.Coords) (X3 : S4x8.Idx → EReal) (X4 : S32.Idx → EReal) (X5 : S1x128x512.Idx → EReal) (X6 : S1x1x32x128.Idx → EReal)
  (X7 : S1x8192x128.Idx → EReal) (KS : S8192x128.Idx → EReal) (X9 : S1x1x128x8192.Idx → EReal)

/-- The product of a key's codes and a query's, times the key's scale. -/
def kraw (g : ℕ) (l : Fin 128) (j : ℕ) : EReal :=
  (∑ d : Fin 128, X7 (ix3 0 (row j) d) * X5 (ix3 0 l (Fin.ofNat 512 (g * 128 + d.val)))) * KS (ix2 (row j) l)

/-- The scale of a query. -/
def kqs (g : ℕ) (l : Fin 128) : EReal := X6 (ix4 0 0 (Fin.ofNat 32 (4 * (i 1).val + g)) l) * Ideal.ofBits .f32 1035273459#32

/-- The masked score, unscaled by the query. -/
def km (g : ℕ) (l : Fin 128) (j : ℕ) : EReal := if Sees g (128 * (i 2).val + l.val) j then kraw X5 X7 KS g l j else ⊥

theorem raw_even (j : ℕ) (n : Fin 256) : raw (Q02 (F := Ideal) X5) X7 KS j n = kraw X5 X7 KS (2 * (n.val / 128)) (ln n) j := by
  unfold raw kraw Q02
  congr 1
  refine Finset.sum_congr rfl fun d _ => ?_
  congr 1
  rw [pay9_pt]
  refine half (fun l => qC (F := Ideal) X5 0 (ix3 0 l d)) (fun l => qC (F := Ideal) X5 256 (ix3 0 l d)) (fun k l => X5 (ix3 0 l (Fin.ofNat 512 (2 * k * 128 + d.val)))) n (fun l => ?_) (fun l => ?_)
  · show X5 (ix3 0 l (Fin.ofNat 512 (0 + d.val))) = _
    rfl
  · show X5 (ix3 0 l (Fin.ofNat 512 (256 + d.val))) = _
    rfl

theorem tl_pt (r : Fin 512) (n : Fin 256) : tl (F := Ideal) i X5 X7 KS (ix2 r n) = km i X5 X7 KS (2 * (n.val / 128)) (ln n) (tail i + r.val) := by
  have ht := tail_le i
  have hi := lt64 i
  unfold tl km
  rw [pay16_pt, tw_eq, pay5_pt]
  have e : IntOp.addi (BitVec.ofNat 32 (tail i)) (BitVec.ofNat 32 r.val) = BitVec.ofNat 32 (tail i + r.val) := (BitVec.ofNat_add _ _).symm
  rw [e]
  unfold Scalar.select
  refine if_congr ?_ ?_ rfl
  · refine (sle_small (by omega) (by omega)).trans ?_
    exact ⟨fun h => ⟨h, Or.inl (by omega)⟩, fun h => h.1⟩
  · rw [← raw_even]; rfl

theorem U02_pt (j : ℕ) (hj : j < 512 * ((i 2).val / 4 + 1)) (n : Fin 256) :
    U02 (F := Ideal) i X5 X7 KS (ix2 (row j) n) = km i X5 X7 KS (2 * (n.val / 128)) (ln n) j := by
  have ht : tail i = 512 * ((i 2).val / 4) := rfl
  have hi := lt64 i
  have hr : (row j).val = j := row_val (by omega)
  unfold U02
  show (if (row j).val < tail i then uAll (F := Ideal) (Q02 X5) X7 KS (ix2 (row j) n) else k0_pay17 (F := Ideal) (tl i X5 X7 KS) (ix2 (Fin.ofNat 512 ((row j).val % 512)) n)) = _
  rw [hr]
  split_ifs with h
  · rw [uAll_raw _ _ _ _ (by omega), raw_even]
    unfold km
    rw [if_pos ⟨by omega, Or.inl (by omega)⟩]
  · rw [pay17_pt, tl_pt]
    congr 1
    show tail i + j % 512 % 512 = j
    omega

theorem even_top (n : Fin 256) (z : EReal) :
    Finset.fold max ⊥ (fun r : Fin 8 => max (M02 (F := Ideal) i X5 X7 KS (ix2 r n)) (Finset.fold max ⊥ (fun g : Fin 64 => tl (F := Ideal) i X5 X7 KS (ix2 ⟨g.val * 8 + r.val, by omega⟩ n)) Finset.univ)) Finset.univ ≤ z
      ↔ ∀ j ∈ Finset.range (512 * ((i 2).val / 4 + 1)), U02 (F := Ideal) i X5 X7 KS (ix2 (row j) n) ≤ z := by
  have ht : tail i = 512 * ((i 2).val / 4) := rfl
  have hi := lt64 i
  rw [fold_le]
  simp only [max_le_iff, fold_le]
  unfold M02
  simp only [mAt_le, raw_even, tl_pt]
  constructor
  · intro h j hj
    have hj := Finset.mem_range.1 hj
    rw [U02_pt i X5 X7 KS j hj n]
    by_cases hjt : j < tail i
    · have := (h ⟨j % 8, by omega⟩).1 j (by omega) rfl
      unfold km
      rw [if_pos ⟨by omega, Or.inl (by omega)⟩]
      exact this
    · have := (h ⟨(j - tail i) % 8, by omega⟩).2 ⟨(j - tail i) / 8, by omega⟩
      have e : tail i + ((j - tail i) / 8 * 8 + (j - tail i) % 8) = j := by omega
      simpa only [e] using this
  · intro h r
    refine ⟨fun j hj hr => ?_, fun g => ?_⟩
    · have := h j (Finset.mem_range.2 (by omega))
      rw [U02_pt i X5 X7 KS j (by omega) n] at this
      unfold km at this
      rwa [if_pos ⟨by omega, Or.inl (by omega)⟩] at this
    · have := h (tail i + (g.val * 8 + r.val)) (Finset.mem_range.2 (by omega))
      rwa [U02_pt i X5 X7 KS _ (by omega) n] at this

theorem kqs_even (n : Fin 256) : k0_pay18 (F := Ideal) (qsC X6 (4 * (i 1).val)) (qsC X6 (4 * (i 1).val + 2)) (ix2 0 n) = kqs i X6 (2 * (n.val / 128)) (ln n) := by
  rw [pay18_pt]
  unfold kqs
  congr 1
  exact half _ _ (fun k l => X6 (ix4 0 0 (Fin.ofNat 32 (4 * (i 1).val + 2 * k)) l)) n (fun l => rfl) (fun l => rfl)

theorem snk_even (n : Fin 256) : k0_pay19 (F := Ideal) (snk (F := Ideal) X4 (4 * (i 1).val)) (snk (F := Ideal) X4 (4 * (i 1).val + 2)) (ix2 0 n) = snk (F := Ideal) X4 (4 * (i 1).val + 2 * (n.val / 128)) := by
  rw [pay19_pt]
  split_ifs with h
  · rw [show n.val / 128 = 0 by omega]; rfl
  · rw [show n.val / 128 = 1 by omega]

/-- What a lane is to be: the attention over all the keys, the unseen ones at minus infinity. -/
def Lane (g : ℕ) (l d : Fin 128) (y : EReal) : Prop :=
  ∃ top : EReal, (∀ z, top ≤ z ↔ ∀ j ∈ Finset.range 8192, km i X5 X7 KS g l j * kqs i X6 g l ≤ z)
    ∧ y = ATT (Finset.range 8192) (fun j => km i X5 X7 KS g l j * kqs i X6 g l) (fun j => X9 (ix4 0 0 d (row j))) (snk (F := Ideal) X4 (4 * (i 1).val + g))
        (max top (snk (F := Ideal) X4 (4 * (i 1).val + g))) (vsc (F := Ideal) i X3)

/-- From a set of keys holding all the seen ones to all the keys. -/
theorem lane_of (g : ℕ) (l d : Fin 128) (y : EReal) (t : Finset ℕ) (ht : t ⊆ Finset.range 8192) (hne : t.Nonempty) (top : EReal) (s v : ℕ → EReal)
    (ha : 0 < kqs i X6 g l) (hs : ∀ j ∈ t, s j = km i X5 X7 KS g l j ∧ v j = X9 (ix4 0 0 d (row j)))
    (hout : ∀ j ∈ Finset.range 8192, j ∉ t → ¬ Sees g (128 * (i 2).val + l.val) j) (htop : ∀ z, top ≤ z ↔ ∀ j ∈ t, s j ≤ z)
    (hy : y = ATT t (fun j => s j * kqs i X6 g l) v (snk (F := Ideal) X4 (4 * (i 1).val + g))
        (max (top * kqs i X6 g l) (snk (F := Ideal) X4 (4 * (i 1).val + g))) (vsc (F := Ideal) i X3)) : Lane i X3 X4 X5 X6 X7 KS X9 g l d y := by
  have hb : ∀ j ∈ Finset.range 8192, j ∉ t → km i X5 X7 KS g l j * kqs i X6 g l = ⊥ := by
    intro j hj hn
    unfold km
    rw [if_neg (hout j hj hn), EReal.bot_mul_of_pos ha]
  refine ⟨top * kqs i X6 g l, fun z => ?_, ?_⟩
  · rw [top_mul hne ha htop z]
    constructor
    · intro h j hj
      by_cases hjt : j ∈ t
      · rw [← (hs j hjt).1]; exact h j hjt
      · rw [hb j hj hjt]; exact bot_le
    · intro h j hj
      rw [(hs j hj).1]; exact h j (ht hj)
  · rw [hy]
    exact ATT_subset ht _ _ _ (fun j hj => ⟨by rw [(hs j hj).1], (hs j hj).2⟩) hb

theorem even_lane (n : Fin 256) (d : Fin 128) (ha : 0 < kqs i X6 (2 * (n.val / 128)) (ln n)) :
    Lane i X3 X4 X5 X6 X7 KS X9 (2 * (n.val / 128)) (ln n) d
      (evO (F := Ideal) (M02 i X5 X7 KS) (tl i X5 X7 KS) (qsC X6 (4 * (i 1).val)) (qsC X6 (4 * (i 1).val + 2)) (snk (F := Ideal) X4 (4 * (i 1).val)) (snk (F := Ideal) X4 (4 * (i 1).val + 2))
        (U02 i X5 X7 KS) X9 (vsc i X3) ((i 2).val / 4 + 1) (ix2 d n)) := by
  have hi := lt64 i
  have hl : (ln n).val < 128 := (ln n).isLt
  refine lane_of i X3 X4 X5 X6 X7 KS X9 _ _ d _ (Finset.range (512 * ((i 2).val / 4 + 1))) (Finset.range_subset_range.2 (by omega)) ⟨0, Finset.mem_range.2 (by omega)⟩ _
    (fun j => U02 (F := Ideal) i X5 X7 KS (ix2 (row j) n)) (fun j => X9 (ix4 0 0 d (row j))) ha (fun j hj => ⟨U02_pt i X5 X7 KS j (Finset.mem_range.1 hj) n, rfl⟩)
    (fun j _ hn hs => hn (Finset.mem_range.2 (by have := hs.1; omega))) (even_top i X5 X7 KS n) ?_
  have h := even_elem (M02 (F := Ideal) i X5 X7 KS) (tl (F := Ideal) i X5 X7 KS) (qsC (F := Ideal) X6 (4 * (i 1).val)) (qsC (F := Ideal) X6 (4 * (i 1).val + 2))
    (snk (F := Ideal) X4 (4 * (i 1).val)) (snk (F := Ideal) X4 (4 * (i 1).val + 2)) (U02 (F := Ideal) i X5 X7 KS) X9 (vsc (F := Ideal) i X3) ((i 2).val / 4 + 1) (by omega) d n
    (by rw [kqs_even]; exact ha) _ (even_top i X5 X7 KS n) (pay20_pt _ _ _ _ _)
  rw [h]
  simp only [kqs_even, snk_even]

theorem raw_odd (j : ℕ) (k : Fin 8192) (hk : k = row j) (n : Fin 256) :
    (∑ d : Fin 128, X7 (ix3 0 k d) * (if h : n.val < 128 then qC (F := Ideal) X5 128 (ix3 0 ⟨n.val, h⟩ d) else qC (F := Ideal) X5 384 (ix3 0 ⟨n.val - 128, by omega⟩ d))) * KS (ix2 k (ln n))
      = kraw X5 X7 KS (2 * (n.val / 128) + 1) (ln n) j := by
  unfold kraw
  rw [hk]
  congr 1
  refine Finset.sum_congr rfl fun d _ => ?_
  congr 1
  refine half (fun l => qC (F := Ideal) X5 128 (ix3 0 l d)) (fun l => qC (F := Ideal) X5 384 (ix3 0 l d)) (fun k l => X5 (ix3 0 l (Fin.ofNat 512 ((2 * k + 1) * 128 + d.val)))) n (fun l => ?_) (fun l => ?_)
  · show X5 (ix3 0 l (Fin.ofNat 512 (128 + d.val))) = _
    rfl
  · show X5 (ix3 0 l (Fin.ofNat 512 (384 + d.val))) = _
    rfl

theorem W13_pt (r : Fin 1152) (n : Fin 256) : W13 (F := Ideal) i X5 X7 KS (ix2 r n) = km i X5 X7 KS (2 * (n.val / 128) + 1) (ln n) (base i + r.val) := by
  have ht := base_le i
  have hi := lt64 i
  unfold W13 km
  rw [pay52_pt, bw_eq, pay5_pt]
  have e : IntOp.addi (BitVec.ofNat 32 (base i)) (BitVec.ofNat 32 r.val) = BitVec.ofNat 32 (base i + r.val) := (BitVec.ofNat_add _ _).symm
  rw [e]
  unfold Scalar.select
  refine if_congr ?_ ?_ rfl
  · refine (and_one _ _).trans ((and_congr (sle_small (by omega) (by omega)) (sgt_small (by omega) (by omega))).trans ?_)
    exact ⟨fun h => ⟨h.1, Or.inr h.2⟩, fun h => ⟨h.1, h.2.resolve_left (by omega)⟩⟩
  · exact raw_odd X5 X7 KS (base i + r.val) (row (base i + r.val)) rfl n

theorem kqs_odd (n : Fin 256) : k0_pay54 (F := Ideal) (qsC X6 (4 * (i 1).val + 1)) (qsC X6 (4 * (i 1).val + 3)) (ix2 0 n) = kqs i X6 (2 * (n.val / 128) + 1) (ln n) := by
  rw [pay54_pt]
  unfold kqs
  congr 1
  exact half _ _ (fun k l => X6 (ix4 0 0 (Fin.ofNat 32 (4 * (i 1).val + (2 * k + 1))) l)) n (fun l => rfl) (fun l => rfl)

theorem snk_odd (n : Fin 256) : k0_pay55 (F := Ideal) (snk (F := Ideal) X4 (4 * (i 1).val + 1)) (snk (F := Ideal) X4 (4 * (i 1).val + 3)) (ix2 0 n) = snk (F := Ideal) X4 (4 * (i 1).val + (2 * (n.val / 128) + 1)) := by
  rw [pay55_pt]
  split_ifs with h
  · rw [show n.val / 128 = 0 by omega]
  · rw [show n.val / 128 = 1 by omega]

theorem ATT_shift (o N : ℕ) (s v : ℕ → EReal) (k m vs : EReal) :
    ATT (Finset.range N) (fun j => s (o + j)) (fun j => v (o + j)) k m vs = ATT (Finset.Ico o (o + N)) s v k m vs := by
  unfold ATT
  rw [Finset.sum_Ico_eq_sum_range, Finset.sum_Ico_eq_sum_range, Nat.add_sub_cancel_left]

theorem odd_lane (n : Fin 256) (d : Fin 128) (ha : 0 < kqs i X6 (2 * (n.val / 128) + 1) (ln n)) :
    Lane i X3 X4 X5 X6 X7 KS X9 (2 * (n.val / 128) + 1) (ln n) d
      (odO (W13 (F := Ideal) i X5 X7 KS) (k0_pay53 (F := Ideal) (W13 (F := Ideal) i X5 X7 KS)) (qsC (F := Ideal) X6 (4 * (i 1).val + 1)) (qsC (F := Ideal) X6 (4 * (i 1).val + 3))
        (snk (F := Ideal) X4 (4 * (i 1).val + 1)) (snk (F := Ideal) X4 (4 * (i 1).val + 3)) (vW (F := Ideal) X9 (base i)) (vsc (F := Ideal) i X3) (ix2 d n)) := by
  have hi := lt64 i
  have hbl := base_le i
  have hbe : base i = 128 * ((i 2).val - 8) := rfl
  have hl : (ln n).val < 128 := (ln n).isLt
  have hW : ∀ j, j < 1152 → W13 (F := Ideal) i X5 X7 KS (ix2 (Fin.ofNat 1152 j) n) = km i X5 X7 KS (2 * (n.val / 128) + 1) (ln n) (base i + j) := by
    intro j hj
    rw [W13_pt]
    congr 2
    exact Nat.mod_eq_of_lt hj
  have htop : ∀ z, Finset.fold max ⊥ (fun r : Fin 8 => max (k0_pay6 (F := Ideal) (ix2 r n)) (Finset.fold max ⊥ (fun g : Fin 144 => W13 (F := Ideal) i X5 X7 KS (ix2 ⟨g.val * 8 + r.val, by omega⟩ n)) Finset.univ)) Finset.univ ≤ z
      ↔ ∀ j ∈ Finset.range 1152, W13 (F := Ideal) i X5 X7 KS (ix2 (Fin.ofNat 1152 j) n) ≤ z := by
    intro z
    rw [fold_le]
    simp only [max_le_iff, fold_le]
    constructor
    · intro h j hj
      have hj := Finset.mem_range.1 hj
      have := (h ⟨j % 8, by omega⟩).2 ⟨j / 8, by omega⟩
      have e : (⟨j / 8 * 8 + j % 8, by omega⟩ : Fin 1152) = Fin.ofNat 1152 j := Fin.ext (by show j / 8 * 8 + j % 8 = j % 1152; omega)
      rw [← e]; exact this
    · intro h r
      refine ⟨by rw [pay6_pt]; exact bot_le, fun g => ?_⟩
      have := h (g.val * 8 + r.val) (Finset.mem_range.2 (by omega))
      rwa [ofNat_eq _ (by omega)] at this
  have h := odd_elem (W13 (F := Ideal) i X5 X7 KS) (qsC (F := Ideal) X6 (4 * (i 1).val + 1)) (qsC (F := Ideal) X6 (4 * (i 1).val + 3))
    (snk (F := Ideal) X4 (4 * (i 1).val + 1)) (snk (F := Ideal) X4 (4 * (i 1).val + 3)) (vW (F := Ideal) X9 (base i)) (vsc (F := Ideal) i X3) d n
    (by rw [kqs_odd]; exact ha) _ htop (pay56_pt _ _ _ _ _)
  refine lane_of i X3 X4 X5 X6 X7 KS X9 _ _ d _ (Finset.Ico (base i) (base i + 1152)) (fun j hj => Finset.mem_range.2 (by have := (Finset.mem_Ico.1 hj).2; omega))
    ⟨base i, Finset.mem_Ico.2 ⟨le_rfl, by omega⟩⟩ _
    (fun j => km i X5 X7 KS (2 * (n.val / 128) + 1) (ln n) j) (fun j => X9 (ix4 0 0 d (row j))) ha (fun j _ => ⟨rfl, rfl⟩)
    (fun j _ hn hs => hn (Finset.mem_Ico.2 (by have h1 := hs.1; have h2 := hs.2.resolve_left (by omega); omega))) (fun z => (htop z).trans ?_) ?_
  · constructor
    · intro h j hj
      have hj := Finset.mem_Ico.1 hj
      have := h (j - base i) (Finset.mem_range.2 (by omega))
      rwa [hW _ (by omega), show base i + (j - base i) = j by omega] at this
    · intro h j hj
      have hj := Finset.mem_range.1 hj
      rw [hW j hj]
      exact h _ (Finset.mem_Ico.2 ⟨by omega, by omega⟩)
  · rw [h, ← ATT_shift (base i) 1152 (fun j => km i X5 X7 KS (2 * (n.val / 128) + 1) (ln n) j * kqs i X6 (2 * (n.val / 128) + 1) (ln n)) (fun j => X9 (ix4 0 0 d (row j)))]
    simp only [kqs_odd, snk_odd]
    refine ATT_subset (Finset.Subset.refl _) _ _ _ (fun j hj => ⟨?_, ?_⟩) (fun j hj hn => absurd hj hn)
    · rw [hW j (Finset.mem_range.1 hj)]
    · show X9 (ix4 0 0 d (row (base i + (Fin.ofNat 1152 j).val))) = _
      rw [show (Fin.ofNat 1152 j).val = j from Nat.mod_eq_of_lt (Finset.mem_range.1 hj)]

/-- THE BLOCK: each of its elements is the attention of its head and query. -/
theorem out_lane (g : Fin 4) (l d : Fin 128) (ha : 0 < kqs i X6 g.val l) (c : Fin 512) (hc : c.val = g.val * 128 + d.val) :
    Lane i X3 X4 X5 X6 X7 KS X9 g.val l d (OUT (F := Ideal) i X3 X4 X5 X6 X7 KS X9 (ix3 0 l c)) := by
  have e : Fin.ofNat 128 (c.val % 128) = d := Fin.ext (by show c.val % 128 % 128 = d.val; omega)
  have hO : OUT (F := Ideal) i X3 X4 X5 X6 X7 KS X9 (ix3 0 l c)
      = if c.val < 128 then o0 (F := Ideal) i X3 X4 X5 X6 X7 KS X9 (ix3 0 l d) else if c.val < 256 then o1 (F := Ideal) i X3 X4 X5 X6 X7 KS X9 (ix3 0 l d)
        else if c.val < 384 then o2 (F := Ideal) i X3 X4 X5 X6 X7 KS X9 (ix3 0 l d) else o3 (F := Ideal) i X3 X4 X5 X6 X7 KS X9 (ix3 0 l d) := by
    rw [← e]; rfl
  have hla : ln ⟨l.val, by omega⟩ = l := Fin.ext (by show l.val % 128 = l.val; omega)
  have hlb : ln ⟨128 + l.val, by omega⟩ = l := Fin.ext (by show (128 + l.val) % 128 = l.val; omega)
  have ga : (⟨l.val, by omega⟩ : Fin 256).val / 128 = 0 := by show l.val / 128 = 0; omega
  have gb : (⟨128 + l.val, by omega⟩ : Fin 256).val / 128 = 1 := by show (128 + l.val) / 128 = 1; omega
  rw [hO]
  match g, ha, hc with
  | ⟨0, _⟩, ha, hc =>
    have hc : c.val = 0 * 128 + d.val := hc
    rw [if_pos (by omega)]
    unfold o0
    rw [ev0_pt]
    have := even_lane i X3 X4 X5 X6 X7 KS X9 ⟨l.val, by omega⟩ d (by rw [ga, hla]; exact ha)
    rw [ga, hla] at this
    exact this
  | ⟨1, _⟩, ha, hc =>
    have hc : c.val = 1 * 128 + d.val := hc
    rw [if_neg (by omega), if_pos (by omega)]
    unfold o1
    rw [od1_pt]
    have := odd_lane i X3 X4 X5 X6 X7 KS X9 ⟨l.val, by omega⟩ d (by rw [ga, hla]; exact ha)
    rw [ga, hla] at this
    exact this
  | ⟨2, _⟩, ha, hc =>
    have hc : c.val = 2 * 128 + d.val := hc
    rw [if_neg (by omega), if_neg (by omega), if_pos (by omega)]
    unfold o2
    rw [ev2_pt]
    have := even_lane i X3 X4 X5 X6 X7 KS X9 ⟨128 + l.val, by omega⟩ d (by rw [gb, hlb]; exact ha)
    rw [gb, hlb] at this
    exact this
  | ⟨3, _⟩, ha, hc =>
    have hc : c.val = 3 * 128 + d.val := hc
    rw [if_neg (by omega), if_neg (by omega), if_neg (by omega)]
    unfold o3
    rw [od3_pt]
    have := odd_lane i X3 X4 X5 X6 X7 KS X9 ⟨128 + l.val, by omega⟩ d (by rw [gb, hlb]; exact ha)
    rw [gb, hlb] at this
    exact this

end block

/-- The keys' scales, as kept in the scratch, are the scales of the key head. -/
theorem ksb_pt (i : grid0.Coords) (k : Fin 8) (hk : (i 1).val = k.val) (X : S1x8192x8.Idx → EReal) (j : Fin 8192) (l : Fin 128) (h0 : 0 ≤ X (ix3 0 j k)) :
    ksb (F := Ideal) i X (ix2 j l) = X (ix3 0 j k) := by
  have e : gC (F := Ideal) X (512 * (j.val / 512)) (ix3 0 (Fin.ofNat 512 (j.val % 512)) k) = X (ix3 0 j k) := by
    show X (ix3 0 (row (512 * (j.val / 512) + j.val % 512 % 512)) k) = _
    congr 2
    exact Fin.ext (by rw [row_val (by omega)]; omega)
  show k0_pay4 (F := Ideal) i (gC X (512 * (j.val / 512))) (ix2 (Fin.ofNat 512 (j.val % 512)) l) = _
  rw [pay4_pt i k hk _ _ _ (by rw [e]; exact h0), e]

end Cert.KernelIdeal.Hand

end
-- ==== Proof.RefScore.lean ====
/-
  The reference's scores, and its two maxima over the keys, read at an index, at the ideal reading of the floats.
-/
module

public import proofs.«01_k».proof.Proof.RefRead
public import proofs.«01_k».proof.Proof.Core
public import Idealize.ShloMosaic.Lib.Pointwise

@[expose] public section

set_option maxRecDepth 16384
set_option maxHeartbeats 1000000

noncomputable section

namespace Cert.ReferenceIdeal.Hand

open Cert.ReferenceIdeal Cert.ReferenceIdeal.Gen Cert.ReferenceIdeal.Read
open Idealize.ShloMosaic Idealize.ShloMosaic.TcCoe
open Cert.Core
open scoped BigOperators

variable (x0 : S4x8.Idx → EReal) (x1 : S32.Idx → EReal) (x2 : S4x8192x4096.Idx → EReal) (x3 : S4x64x32x128.Idx → EReal)
  (x4 : S4x8192x1024.Idx → EReal) (x5 : S4x8192x8.Idx → EReal) (x6 : S4x8x128x8192.Idx → EReal)

/-- A reference score: the product of the codes times the query's scale and the key's. -/
def rscore (b : Fin 4) (h : Fin 8) (g : Fin 4) (q k : Fin 8192) : EReal :=
  (∑ x : Fin 128, x4 (ix3 b k ⟨h.val * 128 + x.val, by omega⟩) * x2 (ix3 b q ⟨h.val * 512 + g.val * 128 + x.val, by omega⟩))
    * (x3 (ix4 b ⟨q.val / 128, by omega⟩ ⟨h.val * 4 + g.val, by omega⟩ ⟨q.val % 128, by omega⟩) * Ideal.ofBits .f32 1035273459#32) * x5 (ix3 b k h)

theorem v15_pt (b : Fin 4) (h : Fin 8) (g : Fin 4) (q k : Fin 8192) :
    val_main_v15 (F := Ideal) x2 x3 x4 x5 (ix5 b h g q k) = rscore x2 x3 x4 x5 b h g q k := by
  unfold rscore
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst]

end Cert.ReferenceIdeal.Hand

end
-- ==== Proof.RefMax.lean ====
/-
  The reference's two maxima over the keys, read at an index, at the ideal reading of the floats.
-/
module

public import proofs.«01_k».proof.Proof.RefRead
public import proofs.«01_k».proof.Proof.Core
public import Idealize.ShloMosaic.Lib.Pointwise

@[expose] public section

set_option maxRecDepth 16384
set_option maxHeartbeats 1000000

noncomputable section

namespace Cert.ReferenceIdeal.Hand

open Cert.ReferenceIdeal Cert.ReferenceIdeal.Gen Cert.ReferenceIdeal.Read
open Idealize.ShloMosaic Idealize.ShloMosaic.TcCoe
open Cert.Core
open scoped BigOperators

variable (x0 : S4x8.Idx → EReal) (x1 : S32.Idx → EReal) (x2 : S4x8192x4096.Idx → EReal) (x3 : S4x64x32x128.Idx → EReal)
  (x4 : S4x8192x1024.Idx → EReal) (x5 : S4x8192x8.Idx → EReal) (x6 : S4x8x128x8192.Idx → EReal)

theorem v30_pt (b : Fin 4) (h : Fin 8) (g : Fin 4) (q : Fin 8192) :
    val_main_v30 (F := Ideal) x2 x3 x4 x5 (ix4 b h g q)
      = Finset.fold max (val_main_cst_3 (F := Ideal) (Shape.Idx.first h_S_)) (fun x : Fin 8192 => val_main_v29 (F := Ideal) x2 x3 x4 x5 (ix5 b h g q x)) Finset.univ := by
  unfold val_main_v30
  generalize val_main_v29 (F := Ideal) x2 x3 x4 x5 = y
  generalize val_main_cst_3 (F := Ideal) = z
  pointwise []

theorem v44_pt (b : Fin 4) (h : Fin 8) (g : Fin 4) (q : Fin 8192) :
    val_main_v44 (F := Ideal) x1 x2 x3 x4 x5 (ix4 b h g q)
      = Finset.fold max (val_main_cst_5 (F := Ideal) (Shape.Idx.first h_S_)) (fun x : Fin 8192 => val_main_v43 (F := Ideal) x1 x2 x3 x4 x5 (ix5 b h g q x)) Finset.univ := by
  unfold val_main_v44
  generalize val_main_v43 (F := Ideal) x1 x2 x3 x4 x5 = y
  generalize val_main_cst_5 (F := Ideal) = z
  pointwise []

end Cert.ReferenceIdeal.Hand

end
-- ==== Proof.RefValue.lean ====
/-
  The reference's result read at an index, at the ideal reading of the floats: the attention over all the keys.
-/
module

public import proofs.«01_k».proof.Proof.RefScore
public import proofs.«01_k».proof.Proof.RefMax
public import proofs.«01_k».proof.Proof.Words

@[expose] public section

set_option maxRecDepth 16384
set_option maxHeartbeats 1000000

noncomputable section

namespace Cert.ReferenceIdeal.Hand

open Cert.ReferenceIdeal Cert.ReferenceIdeal.Gen Cert.ReferenceIdeal.Read
open Idealize.ShloMosaic Idealize.ShloMosaic.TcCoe
open Cert.Core
open scoped BigOperators

variable (x0 : S4x8.Idx → EReal) (x1 : S32.Idx → EReal) (x2 : S4x8192x4096.Idx → EReal) (x3 : S4x64x32x128.Idx → EReal)
  (x4 : S4x8192x1024.Idx → EReal) (x5 : S4x8192x8.Idx → EReal) (x6 : S4x8x128x8192.Idx → EReal)

theorem sink_ix (b : Fin 4) (h : Fin 8) (g : Fin 4) (q : Fin 8192) :
    val_main_v4 (F := Ideal) x1 (idx_main_v32 (ix5 b h g q 0)) = x1 (ix1 ⟨h.val * 4 + g.val, by omega⟩) := by
  rw [val_main_v4_apply]
  congr 1
  funext a
  match a with
  | ⟨0, _⟩ => apply Fin.ext; show ((((0 * 8 + h.val) * 4 + g.val) * 1 + 0) * 1 + 0) = h.val * 4 + g.val; omega

/-- The remainder of a head of a group by two, as the program takes it. -/
def rem2 (g : Fin 4) : BitVec 32 := IntOp.remsi .host (BitVec.ofNat 32 g.val) (Scalar.select (IntOp.cmpi .eq 2#32 0#32) 1#32 2#32)

theorem v22_pt (g : Fin 4) (q k : Fin 8192) : val_main_v22 (F := Ideal) (ix3 g q k) = 1#1 ↔ g.val % 2 = 0 := by
  have e : val_main_v22 (F := Ideal) (ix3 g q k) = BitVec.ofBool (g.val % 2 == 0) := by
    simp only [val_main_v22_apply, val_main_v20_apply, val_main_v21_apply, val_main_c_0_apply, val_main_call0_v12_apply, val_main_call0_v14_apply, val_main_call0_v4_apply,
      val_main_call0_v11_apply, val_main_call0_v6_apply, val_main_call0_v8_apply, val_main_call0_v10_apply, val_main_call0_v13_apply, val_main_call0_v3_apply,
      val_main_call0_v2_apply, val_main_call0_v1_apply, val_main_call0_v0_apply, val_main_call0_v5_apply, val_main_call0_v7_apply, val_main_call0_v9_apply,
      val_main_call0_c_apply, val_main_call0_c_0_apply, val_main_call0_c_1_apply, val_main_call0_c_2_apply, val_main_call0_c_3_apply, val_main_c_apply, val_main_v16_apply]
    show IntOp.cmpi .eq (Scalar.select (IntOp.andi (IntOp.cmpi .ne (IntOp.cmpi .slt (rem2 g) 0#32) (IntOp.cmpi .slt (Scalar.select (IntOp.cmpi .eq 2#32 0#32) 1#32 2#32) 0#32)) (IntOp.cmpi .ne (rem2 g) 0#32))
      (IntOp.addi (rem2 g) (Scalar.select (IntOp.cmpi .eq 2#32 0#32) 1#32 2#32)) (rem2 g)) 0#32 = _
    revert g
    decide +kernel
  rw [e, ofBool_one, beq_iff_eq]

theorem v27_iff (g : Fin 4) (q k : Fin 8192) : val_main_v27 (F := Ideal) (ix3 g q k) = 1#1 ↔ Sees g.val q.val k.val := by
  show IntOp.andi (IntOp.cmpi .sle (BitVec.ofNat 32 k.val) (BitVec.ofNat 32 q.val)) (IntOp.ori (val_main_v22 (F := Ideal) (ix3 g q k)) (IntOp.cmpi .sgt (BitVec.ofNat 32 k.val) (BitVec.ofNat 32 q.val - 1024#32))) = 1#1 ↔ _
  rw [and_one, or_one, v22_pt, sle_small (by omega) (by omega), sgt_small (by omega) (by omega)]
  rfl

/-- The masked score. -/
def mscore (b : Fin 4) (h : Fin 8) (g : Fin 4) (q k : Fin 8192) : EReal :=
  if Sees g.val q.val k.val then rscore x2 x3 x4 x5 b h g q k else ⊥

theorem bot_bits : Ideal.ofBits .f32 0xFF800000#32 = ⊥ := by
  show Ideal.ieee 8 23 (0xFF800000#32 : BitVec 32) = ⊥
  simp [Ideal.ieee]

theorem v29_pt (b : Fin 4) (h : Fin 8) (g : Fin 4) (q k : Fin 8192) :
    val_main_v29 (F := Ideal) x2 x3 x4 x5 (ix5 b h g q k) = mscore x2 x3 x4 x5 b h g q k := by
  have e1 : val_main_call1_v1 (F := Ideal) (ix5 b h g q k) = val_main_v27 (F := Ideal) (ix3 g q k) := by
    rw [val_main_call1_v1_apply, val_main_v28_apply]
    congr 1
    funext a
    match a with
    | ⟨0, _⟩ => rfl
    | ⟨1, _⟩ => rfl
    | ⟨2, _⟩ => rfl
  have e2 : val_main_call1_v2 (F := Ideal) (ix5 b h g q k) = ⊥ := by
    rw [val_main_call1_v2_apply]; exact bot_bits
  rw [val_main_v29_apply, e1, e2, v15_pt]
  unfold mscore Scalar.select
  exact if_congr (v27_iff g q k) rfl rfl

/-- The maximum of a query's scores. -/
def rtop (b : Fin 4) (h : Fin 8) (g : Fin 4) (q : Fin 8192) : EReal := val_main_v30 (F := Ideal) x2 x3 x4 x5 (ix4 b h g q)

theorem rtop_le (b : Fin 4) (h : Fin 8) (g : Fin 4) (q : Fin 8192) (z : EReal) :
    rtop x2 x3 x4 x5 b h g q ≤ z ↔ ∀ k : Fin 8192, mscore x2 x3 x4 x5 b h g q k ≤ z := by
  unfold rtop
  rw [v30_pt, Finset.fold_max_le]
  have e : val_main_cst_3 (F := Ideal) (Shape.Idx.first h_S_) = ⊥ := bot_bits
  rw [e]
  simp only [v29_pt, Finset.mem_univ, forall_const, bot_le, true_and]

/-- The sink of a head. -/
def rsink (h : Fin 8) (g : Fin 4) : EReal := x1 (ix1 ⟨h.val * 4 + g.val, by omega⟩)

/-- What the exponentials are shifted by. -/
def rm (b : Fin 4) (h : Fin 8) (g : Fin 4) (q : Fin 8192) : EReal := max (rtop x2 x3 x4 x5 b h g q) (rsink x1 h g)

theorem v33_pt (b : Fin 4) (h : Fin 8) (g : Fin 4) (q : Fin 8192) :
    val_main_v33 (F := Ideal) x1 x2 x3 x4 x5 (ix5 b h g q 0) = rm x1 x2 x3 x4 x5 b h g q := by
  rw [val_main_v33_apply, val_main_v31_apply, val_main_v32_apply, sink_ix]
  have e : idx_main_v31 (ix5 b h g q 0) = ix4 b h g q := by
    funext a
    match a with
    | ⟨0, _⟩ => rfl
    | ⟨1, _⟩ => rfl
    | ⟨2, _⟩ => rfl
    | ⟨3, _⟩ => rfl
  rw [e]
  rfl

/-- A probability, before the division. -/
def rp (b : Fin 4) (h : Fin 8) (g : Fin 4) (q k : Fin 8192) : EReal :=
  Ideal.exp (mscore x2 x3 x4 x5 b h g q k - rm x1 x2 x3 x4 x5 b h g q)

theorem v36_pt (b : Fin 4) (h : Fin 8) (g : Fin 4) (q k : Fin 8192) :
    val_main_v36 (F := Ideal) x1 x2 x3 x4 x5 (ix5 b h g q k) = rp x1 x2 x3 x4 x5 b h g q k := by
  have e : idx_main_v34 (ix5 b h g q k) = ix5 b h g q 0 := by
    funext a
    match a with
    | ⟨0, _⟩ => rfl
    | ⟨1, _⟩ => rfl
    | ⟨2, _⟩ => rfl
    | ⟨3, _⟩ => rfl
    | ⟨4, _⟩ => rfl
  rw [val_main_v36_apply, val_main_v35_apply, val_main_v34_apply, e, v33_pt, v29_pt]
  rfl

/-- The denominator. -/
def rden (b : Fin 4) (h : Fin 8) (g : Fin 4) (q : Fin 8192) : EReal :=
  (∑ k : Fin 8192, rp x1 x2 x3 x4 x5 b h g q k) + Ideal.exp (rsink x1 h g - rm x1 x2 x3 x4 x5 b h g q)

theorem v42_pt (b : Fin 4) (h : Fin 8) (g : Fin 4) (q : Fin 8192) :
    val_main_v42 (F := Ideal) x1 x2 x3 x4 x5 (ix5 b h g q 0) = rden x1 x2 x3 x4 x5 b h g q := by
  have e1 : idx_main_v38 (ix5 b h g q 0) = ix4 b h g q := by
    funext a
    match a with
    | ⟨0, _⟩ => rfl
    | ⟨1, _⟩ => rfl
    | ⟨2, _⟩ => rfl
    | ⟨3, _⟩ => rfl
  have e2 : ∀ k : Fin 8192, idx_main_v37 (ix4 b h g q) k = ix5 b h g q k := by
    intro k
    funext a
    match a with
    | ⟨0, _⟩ => rfl
    | ⟨1, _⟩ => rfl
    | ⟨2, _⟩ => rfl
    | ⟨3, _⟩ => rfl
    | ⟨4, _⟩ => rfl
  have e3 : val_main_v39 (F := Ideal) x1 (ix5 b h g q 0) = rsink x1 h g := by
    rw [val_main_v39_apply]; exact sink_ix x1 b h g q
  have e4 : val_main_cst_4 (F := Ideal) (Shape.Idx.first h_S_) = 0 := Ideal.ofBits_zero_f32
  rw [val_main_v42_apply, val_main_v38_apply, e1, val_main_v37_apply, val_main_v41_apply, val_main_v40_apply, e3, e4, v33_pt, zero_add]
  simp only [e2, v36_pt]
  rfl

/-- The largest probability of a query. -/
def ramax (b : Fin 4) (h : Fin 8) (g : Fin 4) (q : Fin 8192) : EReal := val_main_v44 (F := Ideal) x1 x2 x3 x4 x5 (ix4 b h g q)

theorem le_rm (b : Fin 4) (h : Fin 8) (g : Fin 4) (q k : Fin 8192) : mscore x2 x3 x4 x5 b h g q k ≤ rm x1 x2 x3 x4 x5 b h g q :=
  ((rtop_le x2 x3 x4 x5 b h g q _).1 le_rfl k).trans (le_max_left _ _)

theorem ramax_spec (b : Fin 4) (h : Fin 8) (g : Fin 4) (q : Fin 8192) :
    (∀ k, rp x1 x2 x3 x4 x5 b h g q k ≤ ramax x1 x2 x3 x4 x5 b h g q) ∧ ∃ r : ℝ, ramax x1 x2 x3 x4 x5 b h g q = (r : EReal) ∧ 0 ≤ r ∧ r ≤ 1 := by
  have e : val_main_cst_5 (F := Ideal) (Shape.Idx.first h_S_) = ⊥ := bot_bits
  have ha : ∀ k, val_main_v43 (F := Ideal) x1 x2 x3 x4 x5 (ix5 b h g q k) = rp x1 x2 x3 x4 x5 b h g q k := by
    intro k
    obtain ⟨r, h0, _, hr⟩ := exp_sub_real (le_rm x1 x2 x3 x4 x5 b h g q k)
    rw [val_main_v43_apply, v36_pt]
    have : rp x1 x2 x3 x4 x5 b h g q k = (r : EReal) := hr
    rw [this]
    show max ((r : ℝ) : EReal) (-((r : ℝ) : EReal)) = _
    rw [← EReal.coe_neg]
    exact max_eq_left (EReal.coe_le_coe_iff.2 (by linarith))
  have hl : ∀ z, ramax x1 x2 x3 x4 x5 b h g q ≤ z ↔ ∀ k, rp x1 x2 x3 x4 x5 b h g q k ≤ z := by
    intro z
    unfold ramax
    rw [v44_pt, Finset.fold_max_le, e]
    simp only [ha, Finset.mem_univ, forall_const, bot_le, true_and]
  have hk := (hl _).1 le_rfl
  refine ⟨hk, ?_⟩
  have h1 : ramax x1 x2 x3 x4 x5 b h g q ≤ ((1 : ℝ) : EReal) := (hl _).2 fun k => by
    obtain ⟨r, _, h1, hr⟩ := exp_sub_real (le_rm x1 x2 x3 x4 x5 b h g q k)
    rw [show rp x1 x2 x3 x4 x5 b h g q k = (r : EReal) from hr]
    exact EReal.coe_le_coe_iff.2 h1
  have h0 : ((0 : ℝ) : EReal) ≤ ramax x1 x2 x3 x4 x5 b h g q := by
    refine le_trans ?_ (hk 0)
    obtain ⟨r, h0, _, hr⟩ := exp_sub_real (le_rm x1 x2 x3 x4 x5 b h g q 0)
    rw [show rp x1 x2 x3 x4 x5 b h g q 0 = (r : EReal) from hr]
    exact EReal.coe_le_coe_iff.2 h0
  generalize ramax x1 x2 x3 x4 x5 b h g q = a at h0 h1
  induction a with
  | bot => exact absurd h0 (by simp)
  | top => exact absurd h1 (not_le.2 (EReal.coe_lt_top 1))
  | coe r => exact ⟨r, rfl, EReal.coe_le_coe_iff.1 h0, EReal.coe_le_coe_iff.1 h1⟩

theorem two_bits : Ideal.ofBits .f32 0x40000000#32 = ((2 : ℝ) : EReal) := by
  rw [ieee_normal (k := 128) (by omega) (by omega) (by decide)]
  congr 1
  norm_num

theorem one_bits : Ideal.ofBits .f32 0x3F800000#32 = 1 := by
  rw [ieee_normal (k := 127) (by omega) (by omega) (by decide)]
  simp

theorem v57_pt (b : Fin 4) (h : Fin 8) (g : Fin 4) (q : Fin 8192) :
    val_main_v57 (F := Ideal) x1 x2 x3 x4 x5 (ix5 b h g q 0) = rexp (ramax x1 x2 x3 x4 x5 b h g q) := by
  have e : idx_main_v45 (ix5 b h g q 0) = ix4 b h g q := by
    funext a
    match a with
    | ⟨0, _⟩ => rfl
    | ⟨1, _⟩ => rfl
    | ⟨2, _⟩ => rfl
    | ⟨3, _⟩ => rfl
  have e45 : val_main_v45 (F := Ideal) x1 x2 x3 x4 x5 (ix5 b h g q 0) = ramax x1 x2 x3 x4 x5 b h g q := by
    rw [val_main_v45_apply, e]; rfl
  have e55 : val_main_v55 (F := Ideal) (ix5 b h g q 0) = 0 := by
    rw [val_main_v55_apply]; exact Ideal.ofBits_zero_f32
  have ec : val_main_call2_v1 (F := Ideal) (ix5 b h g q 0) = 0 := by
    rw [val_main_call2_v1_apply]; exact Ideal.ofBits_zero_f32
  have e46 : val_main_v46 (F := Ideal) (ix5 b h g q 0) = ((9586981 / 4294967296 : ℝ) : EReal) := by
    rw [val_main_v46_apply]
    show Ideal.ieee 8 23 (0x3B124925#32 : BitVec 32) = _
    simp [Ideal.ieee]
    rw [← EReal.coe_mul]
    norm_num
  have e50 : val_main_v50 (F := Ideal) (ix5 b h g q 0) = Ideal.log ((2 : ℝ) : EReal) := by
    rw [val_main_v50_apply, val_main_v49_apply, val_main_cst_7_apply]
    show Ideal.log (Ideal.ofBits .f32 0x40000000#32) = _
    rw [two_bits]
  have e53 : val_main_v53 (F := Ideal) (ix5 b h g q 0) = 1 := by
    rw [val_main_v53_apply]; exact one_bits
  rw [val_main_v57_apply, val_main_v56_apply, val_main_v54_apply, val_main_v52_apply, val_main_v51_apply, val_main_v48_apply, val_main_v47_apply, e45, e55, ec, e46, e50, e53]
  generalize ramax x1 x2 x3 x4 x5 b h g q = a
  unfold rexp Scalar.select
  refine if_congr ?_ rfl rfl
  show BitVec.ofBool (decide (a = 0)) = 1#1 ↔ _
  rw [ofBool_one, decide_eq_true_iff]

theorem v66_pt (b : Fin 4) (h : Fin 8) (g : Fin 4) (q : Fin 8192) (d : Fin 128) :
    val_main_v66 (F := Ideal) x1 x2 x3 x4 x5 x6 (ix5 b h g q d)
      = ∑ k : Fin 8192, min (Ideal.ofBits .f32 0x43E00000#32) (max (Ideal.ofBits .f32 0xC3E00000#32)
          (rp x1 x2 x3 x4 x5 b h g q k * Ideal.pow (Ideal.ofBits .f32 0x40000000#32) (-(rexp (ramax x1 x2 x3 x4 x5 b h g q))))) * x6 (ix4 b h d k) := by
  rw [val_main_v66_apply]
  refine Finset.sum_congr rfl fun k _ => ?_
  have el : lidx_main_v66 (ix5 b h g q d) k = ix5 b h g q k := by
    funext a
    match a with
    | ⟨0, _⟩ => rfl
    | ⟨1, _⟩ => rfl
    | ⟨2, _⟩ => rfl
    | ⟨3, _⟩ => rfl
    | ⟨4, _⟩ => rfl
  have er : ridx_main_v66 (ix5 b h g q d) k = ix4 b h d k := by
    funext a
    match a with
    | ⟨0, _⟩ => rfl
    | ⟨1, _⟩ => rfl
    | ⟨2, _⟩ => rfl
    | ⟨3, _⟩ => rfl
  have e63 : idx_main_v63 (ix5 b h g q k) = ix5 b h g q 0 := by
    funext a
    match a with
    | ⟨0, _⟩ => rfl
    | ⟨1, _⟩ => rfl
    | ⟨2, _⟩ => rfl
    | ⟨3, _⟩ => rfl
    | ⟨4, _⟩ => rfl
  rw [el, er, val_main_v65_apply, val_main_call3_v4_apply, val_main_call3_v2_apply, val_main_call3_v1_apply, val_main_v64_apply, val_main_v63_apply, e63,
    val_main_v62_apply, val_main_v61_apply, val_main_v60_apply, v57_pt, v36_pt]
  rfl

theorem v75_ix (b : Fin 4) (h : Fin 8) (g : Fin 4) (q : Fin 8192) (d : Fin 128) (c : Fin 4096) (hc : c.val = h.val * 512 + g.val * 128 + d.val) :
    idx_main_v73 (idx_main_v74 (ix3 b q c)) = ix5 b h g q d := by
  funext a
  match a with
  | ⟨0, _⟩ => apply Fin.ext; show ((b.val * 8192 + q.val) * 4096 + c.val) / 33554432 = b.val; omega
  | ⟨1, _⟩ => apply Fin.ext; show ((b.val * 8192 + q.val) * 4096 + c.val) / 512 % 8 = h.val; omega
  | ⟨2, _⟩ => apply Fin.ext; show ((b.val * 8192 + q.val) * 4096 + c.val) / 128 % 4 = g.val; omega
  | ⟨3, _⟩ => apply Fin.ext; show ((b.val * 8192 + q.val) * 4096 + c.val) / 4096 % 8192 = q.val; omega
  | ⟨4, _⟩ => apply Fin.ext; show ((b.val * 8192 + q.val) * 4096 + c.val) % 128 = d.val; omega

theorem hi_bits : Ideal.ofBits .f32 0x43E00000#32 = ((448 : ℝ) : EReal) := by
  show Ideal.ieee 8 23 (0x43E00000#32 : BitVec 32) = ((448 : ℝ) : EReal)
  simp [Ideal.ieee]
  rw [← EReal.coe_mul]
  norm_num

theorem lo_bits : Ideal.ofBits .f32 0xC3E00000#32 ≤ 0 := by
  have e : Ideal.ofBits .f32 0xC3E00000#32 = ((-448 : ℝ) : EReal) := by
    show Ideal.ieee 8 23 (0xC3E00000#32 : BitVec 32) = ((-448 : ℝ) : EReal)
    simp [Ideal.ieee]
    rw [← EReal.coe_mul]
    norm_num
  rw [e]
  exact EReal.coe_nonpos.2 (by norm_num)

/-- THE REFERENCE'S RESULT: the attention over all the keys, the unseen ones at minus infinity. -/
theorem v75_pt (b : Fin 4) (h : Fin 8) (g : Fin 4) (q : Fin 8192) (d : Fin 128) (c : Fin 4096) (hc : c.val = h.val * 512 + g.val * 128 + d.val) :
    val_main_v75 (F := Ideal) x0 x1 x2 x3 x4 x5 x6 (ix3 b q c)
      = ATT (Finset.range 8192) (fun j => mscore x2 x3 x4 x5 b h g q (Fin.ofNat 8192 j)) (fun j => x6 (ix4 b h d (Fin.ofNat 8192 j))) (rsink x1 h g)
          (rm x1 x2 x3 x4 x5 b h g q) (x0 (ix2 b h)) := by
  have e71 : idx_main_v71 (ix5 b h g q d) = ix5 b h g q 0 := by
    funext a
    match a with
    | ⟨0, _⟩ => rfl
    | ⟨1, _⟩ => rfl
    | ⟨2, _⟩ => rfl
    | ⟨3, _⟩ => rfl
    | ⟨4, _⟩ => rfl
  have e67 : idx_main_v67 (idx_main_v68 (ix5 b h g q 0)) = ix2 b h := by
    funext a
    match a with
    | ⟨0, _⟩ => rfl
    | ⟨1, _⟩ => rfl
  have e74 : val_main_v75 (F := Ideal) x0 x1 x2 x3 x4 x5 x6 (ix3 b q c) = val_main_v74 (F := Ideal) x0 x1 x2 x3 x4 x5 x6 (ix3 b q c) := rfl
  rw [e74, val_main_v74_apply, val_main_v73_apply, v75_ix b h g q d c hc, val_main_v72_apply, val_main_v71_apply, e71, val_main_v70_apply, val_main_v69_apply,
    val_main_v68_apply, val_main_v67_apply, e67, v42_pt, v66_pt, val_main_v59_apply, val_main_v58_apply, v57_pt]
  obtain ⟨hk, r, hr, h0, h1⟩ := ramax_spec x1 x2 x3 x4 x5 b h g q
  have hf : ∀ k : Fin 8192, Fin.ofNat 8192 k.val = k := fun k => Fin.ext (Nat.mod_eq_of_lt k.isLt)
  have hs : ∀ f : Fin 8192 → EReal, ∑ k : Fin 8192, f k = ∑ j ∈ Finset.range 8192, f (Fin.ofNat 8192 j) := by
    intro f
    rw [← Fin.sum_univ_eq_sum_range (fun j => f (Fin.ofNat 8192 j))]
    exact Finset.sum_congr rfl fun k _ => by rw [hf]
  have key := ref_elem (t := Finset.range 8192) (s := fun j => mscore x2 x3 x4 x5 b h g q (Fin.ofNat 8192 j)) (v := fun j => x6 (ix4 b h d (Fin.ofNat 8192 j)))
    (k := rsink x1 h g) (m := rm x1 x2 x3 x4 x5 b h g q) (vs := x0 (ix2 b h)) (fun j _ => le_rm x1 x2 x3 x4 x5 b h g q _) (fun j _ => hk _) hr h0 h1
    lo_bits hi_bits two_bits (rden x1 x2 x3 x4 x5 b h g q)
  have e2 : rden x1 x2 x3 x4 x5 b h g q = (∑ j ∈ Finset.range 8192, Ideal.exp (mscore x2 x3 x4 x5 b h g q (Fin.ofNat 8192 j) - rm x1 x2 x3 x4 x5 b h g q))
      + Ideal.exp (rsink x1 h g - rm x1 x2 x3 x4 x5 b h g q) := by
    unfold rden; rw [hs]; rfl
  unfold ATT
  rw [← e2, ← key, hs]
  rfl

end Cert.ReferenceIdeal.Hand

end
-- ==== Proof.Equation.lean ====
/-
  The two results agree: at each index the kernel's element and the reference's are one attention.
-/
module

public import proofs.«01_k».proof.Proof.KernelBlock
public import proofs.«01_k».proof.Proof.KernelIdealRun
public import proofs.«01_k».proof.Proof.RefValue

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Cert.Core
open Cert.ReferenceIdeal.Hand (mscore rscore rtop rtop_le rsink rm v75_pt)
open Cert.ReferenceIdeal.Read (val_main_v75)
open scoped BigOperators

section blocks
variable {F : FTy → Type} [FloatOps F] [Named F]
variable (m : (ℓ : Loc nD τ sig) → Buf (Elt F) ℓ) (c : Dev nD) (t : Fin cfg0.N)

/-! The blocks of a grid point, read off the arguments. -/

theorem iblk0 (x : S4x8.Idx) : iblk m c 0 t x = m ((c : Thread nD τ).loc main_arg0) x := by
  blk_ext [iblk, V, idx t]

theorem iblk1 (x : S32.Idx) : iblk m c 1 t x = m ((c : Thread nD τ).loc main_arg1) x := by
  blk_ext [iblk, V, idx t]

theorem iblk2 (x : S1x128x512.Idx) : iblk m c 2 t x
    = m ((c : Thread nD τ).loc main_arg2) (ix3 (Fin.ofNat 4 (t.val / 512)) (Fin.ofNat 8192 (t.val % 64 * 128 + (x 1).val)) (Fin.ofNat 4096 (t.val / 64 % 8 * 512 + (x 2).val))) := by
  have ht : t.val < 2048 := t.isLt
  blk_ext [iblk, V, idx t]
  all_goals (rw [Fin.val_ofNat]; omega)

theorem iblk3 (x : S1x1x32x128.Idx) : iblk m c 3 t x
    = m ((c : Thread nD τ).loc main_arg3) (ix4 (Fin.ofNat 4 (t.val / 512)) (Fin.ofNat 64 (t.val % 64)) (x 2) (x 3)) := by
  have ht : t.val < 2048 := t.isLt
  blk_ext [iblk, V, idx t]
  all_goals (rw [Fin.val_ofNat]; omega)

theorem iblk4 (x : S1x8192x128.Idx) : iblk m c 4 t x
    = m ((c : Thread nD τ).loc main_arg4) (ix3 (Fin.ofNat 4 (t.val / 512)) (x 1) (Fin.ofNat 1024 (t.val / 64 % 8 * 128 + (x 2).val))) := by
  have ht : t.val < 2048 := t.isLt
  blk_ext [iblk, V, idx t]
  all_goals (rw [Fin.val_ofNat]; omega)

theorem iblk6 (x : S1x1x128x8192.Idx) : iblk m c 6 t x
    = m ((c : Thread nD τ).loc main_arg6) (ix4 (Fin.ofNat 4 (t.val / 512)) (Fin.ofNat 8 (t.val / 64 % 8)) (x 2) (x 3)) := by
  have ht : t.val < 2048 := t.isLt
  blk_ext [iblk, V, idx t]
  all_goals (rw [Fin.val_ofNat]; omega)

end blocks

variable (m : (ℓ : Loc nD τ sig) → Buf (Elt Ideal) ℓ) (c : Dev nD)

/-- THE EQUATION: the kernel's element is the reference's. -/
theorem eq_pt (hq : ∀ x : S4x64x32x128.Idx, (0 : EReal) < m ((c : Thread nD τ).loc main_arg3) x) (hk : ∀ x : S4x8192x8.Idx, (0 : EReal) ≤ m ((c : Thread nD τ).loc main_arg5) x)
    (b : Fin 4) (h : Fin 8) (g : Fin 4) (q : Fin 8192) (d : Fin 128) (k : Fin 4096) (hc : k.val = h.val * 512 + g.val * 128 + d.val) :
    RES m c (ix3 b q k) = val_main_v75 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix3 b q k) := by
  have hd := d.isLt
  have hg := g.isLt
  have hh := h.isLt
  have hb := b.isLt
  have hql := q.isLt
  have ht : (pnt (ix3 b q k)).val = (b.val * 8 + h.val) * 64 + q.val / 128 := by
    rw [pnt_val]
    show (b.val * 8 + k.val / 512) * 64 + q.val / 128 = _
    omega
  show blkOut m c (pnt (ix3 b q k)) (ix3 0 (Fin.ofNat 128 (q.val % 128)) (Fin.ofNat 512 (k.val % 512))) = _
  generalize pnt (ix3 b q k) = t at ht
  obtain ⟨i0, i1, i2⟩ := crd t
  have j0 : (grid0.coords t 0).val = b.val := by omega
  have j1 : (grid0.coords t 1).val = h.val := by omega
  have j2 : (grid0.coords t 2).val = q.val / 128 := by omega
  have n0 : Fin.ofNat 4 (t.val / 512) = b := Fin.ext (by rw [Fin.val_ofNat]; omega)
  have n1 : Fin.ofNat 8 (t.val / 64 % 8) = h := Fin.ext (by rw [Fin.val_ofNat]; omega)
  have n2 : Fin.ofNat 64 (t.val % 64) = ⟨q.val / 128, by omega⟩ := Fin.ext (by rw [Fin.val_ofNat]; show _ = q.val / 128; omega)
  have nl : Fin.ofNat 128 (q.val % 128) = ⟨q.val % 128, by omega⟩ := Fin.ext (by rw [Fin.val_ofNat]; show _ = q.val % 128; omega)
  have nh : Fin.ofNat 32 (4 * (grid0.coords t 1).val + g.val) = ⟨h.val * 4 + g.val, by omega⟩ := Fin.ext (by rw [Fin.val_ofNat, j1]; show _ = h.val * 4 + g.val; omega)
  rw [nl]
  unfold blkOut
  have r6 : ∀ (n : Fin 32) (l : Fin 128), iblk m c 3 t (ix4 0 0 n l) = m ((c : Thread nD τ).loc main_arg3) (ix4 b ⟨q.val / 128, by omega⟩ n l) := by
    intro n l
    rw [iblk3, n0, n2]; rfl
  have ha : 0 < kqs (grid0.coords t) (iblk m c 3 t) g.val ⟨q.val % 128, by omega⟩ := by
    unfold kqs
    rw [r6]
    exact EReal.mul_pos (hq _) cpos
  obtain ⟨top, htop, hO⟩ := out_lane (grid0.coords t) (iblk m c 0 t) (iblk m c 1 t) (iblk m c 2 t) (iblk m c 3 t) (iblk m c 4 t) (ksb (F := Ideal) (grid0.coords t) (iblk m c 5 t)) (iblk m c 6 t)
    g ⟨q.val % 128, by omega⟩ d ha (Fin.ofNat 512 (k.val % 512)) (by rw [Fin.val_ofNat]; omega)
  refine hO.trans ?_
  rw [v75_pt _ _ _ _ _ _ _ b h g q d k hc]
  have hs : ∀ j, j < 8192 → km (grid0.coords t) (iblk m c 2 t) (iblk m c 4 t) (ksb (F := Ideal) (grid0.coords t) (iblk m c 5 t)) g.val ⟨q.val % 128, by omega⟩ j
        * kqs (grid0.coords t) (iblk m c 3 t) g.val ⟨q.val % 128, by omega⟩
      = mscore (m ((c : Thread nD τ).loc main_arg2)) (m ((c : Thread nD τ).loc main_arg3)) (m ((c : Thread nD τ).loc main_arg4)) (m ((c : Thread nD τ).loc main_arg5)) b h g q (Fin.ofNat 8192 j) := by
    intro j hj
    have ej : (Fin.ofNat 8192 j).val = j := Nat.mod_eq_of_lt hj
    have eq : 128 * (grid0.coords t 2).val + q.val % 128 = q.val := by omega
    unfold km mscore
    rw [ej]
    show (if Sees g.val (128 * (grid0.coords t 2).val + q.val % 128) j then _ else _) * _ = _
    rw [eq]
    split_ifs with hsee
    · unfold kraw rscore
      have e5 : ksb (F := Ideal) (grid0.coords t) (iblk m c 5 t) (ix2 (row j) ⟨q.val % 128, by omega⟩) = m ((c : Thread nD τ).loc main_arg5) (ix3 b (Fin.ofNat 8192 j) h) := by
        have e : iblk m c 5 t (ix3 0 (row j) h) = m ((c : Thread nD τ).loc main_arg5) (ix3 b (Fin.ofNat 8192 j) h) := by
          rw [iblk5, n0]; rfl
        rw [ksb_pt (grid0.coords t) h j1 _ _ _ (by rw [e]; exact hk _), e]
      have e6 : kqs (grid0.coords t) (iblk m c 3 t) g.val ⟨q.val % 128, by omega⟩
          = HMul.hMul (α := EReal) (β := EReal) (γ := EReal) (m ((c : Thread nD τ).loc main_arg3) (ix4 b ⟨q.val / 128, by omega⟩ ⟨h.val * 4 + g.val, by omega⟩ ⟨q.val % 128, by omega⟩)) (Ideal.ofBits .f32 1035273459#32) := by
        unfold kqs
        rw [r6, nh]
      rw [e5, e6, mul_right_comm]
      congr 2
      refine Finset.sum_congr rfl fun x _ => ?_
      have hx := x.isLt
      rw [iblk4, iblk2]
      congr 2
      · rw [n0]
        congr 1
        exact Fin.ext (by rw [Fin.val_ofNat]; show (t.val / 64 % 8 * 128 + x.val) % 1024 = h.val * 128 + x.val; omega)
      · rw [n0]
        congr 1
        · exact Fin.ext (by rw [Fin.val_ofNat]; show (t.val % 64 * 128 + q.val % 128) % 8192 = q.val; omega)
        · exact Fin.ext (by rw [Fin.val_ofNat]; show (t.val / 64 % 8 * 512 + (g.val * 128 + x.val) % 512) % 4096 = h.val * 512 + g.val * 128 + x.val; omega)
    · exact EReal.bot_mul_of_pos ha
  have et : top = rtop (m ((c : Thread nD τ).loc main_arg2)) (m ((c : Thread nD τ).loc main_arg3)) (m ((c : Thread nD τ).loc main_arg4)) (m ((c : Thread nD τ).loc main_arg5)) b h g q := by
    refine eq_of_forall_ge_iff fun z => ?_
    rw [htop, rtop_le]
    constructor
    · intro hz k
      have := hz k.val (Finset.mem_range.2 k.isLt)
      rw [hs _ k.isLt] at this
      rwa [show Fin.ofNat 8192 k.val = k from Fin.ext (Nat.mod_eq_of_lt k.isLt)] at this
    · intro hz j hj
      rw [hs _ (Finset.mem_range.1 hj)]
      exact hz _
  have ek : snk (F := Ideal) (iblk m c 1 t) (4 * (grid0.coords t 1).val + g.val) = rsink (m ((c : Thread nD τ).loc main_arg1)) h g := by
    unfold snk rsink
    rw [iblk1, nh]
  have ev : vsc (F := Ideal) (grid0.coords t) (iblk m c 0 t) = m ((c : Thread nD τ).loc main_arg0) (ix2 b h) := by
    unfold vsc
    rw [iblk0, j0, j1]
    congr 2
    · exact Fin.ext (Nat.mod_eq_of_lt hb)
    · exact Fin.ext (Nat.mod_eq_of_lt hh)
  rw [ek, ev, et]
  refine ATT_subset (Finset.Subset.refl _) _ _ _ (fun j hj => ⟨hs j (Finset.mem_range.1 hj), ?_⟩) (fun j hj hn => absurd hj hn)
  rw [iblk6, n0, n1]
  rfl

/-- The results agree as arrays. -/
theorem eq_all (hq : ∀ x : S4x64x32x128.Idx, (0 : EReal) < m ((c : Thread nD τ).loc main_arg3) x) (hk : ∀ x : S4x8192x8.Idx, (0 : EReal) ≤ m ((c : Thread nD τ).loc main_arg5) x) :
    RES m c = val_main_v75 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  funext x
  have hx : x = ix3 (x 0) (x 1) (x 2) := by
    funext a
    match a with
    | ⟨0, _⟩ => rfl
    | ⟨1, _⟩ => rfl
    | ⟨2, _⟩ => rfl
  have h2 : (x 2).val < 4096 := (x 2).isLt
  rw [hx]
  exact eq_pt m c hq hk (x 0) ⟨(x 2).val / 512, by omega⟩ ⟨(x 2).val / 128 % 4, by omega⟩ (x 1) ⟨(x 2).val % 128, by omega⟩ (x 2)
    (by show (x 2).val = (x 2).val / 512 * 512 + (x 2).val / 128 % 4 * 128 + (x 2).val % 128; omega)

end Cert.KernelIdeal.Hand

end
-- ==== Proof.lean ====
/-
  The proof of the certificate's claim, assembled from the modules beside it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_positive
public import proofs.«01_k».proof.Proof.KernelFrame
public import proofs.«01_k».proof.Proof.KernelIdealRun
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The bit kernel's frame. -/
theorem quiescent_Kernel : Cert.quiescent_Kernel (hKernel := Cert.Kernel.Gen.facts) :=
  fun m g _ => Cert.Kernel.Hand.frame m g

/-- The ideal kernel's frame. -/
theorem quiescent_KernelIdeal : Cert.quiescent_KernelIdeal (hKernelIdeal := Cert.KernelIdeal.Gen.facts) :=
  fun m g _ => Cert.KernelIdeal.Hand.frame m g

/-- The reference's frame. -/
theorem quiescent_ReferenceIdeal : Cert.quiescent_ReferenceIdeal (hReferenceIdeal := Cert.ReferenceIdeal.Gen.facts) :=
  fun m g _ => Cert.ReferenceIdeal.Gen.frame m g

/-- The two constants read as the reals they name keep their 32-bit roundings. -/
theorem preserves : Cert.preserves_Kernel_KernelIdeal :=
  ⟨IdealRules.named_const.statement Cert.KernelIdeal.κ "inv448" .f32 0x3B124925#32 ((1 / 448 : ℝ) : EReal) rfl,
    IdealRules.named_const.statement Cert.KernelIdeal.κ "log2e" .f32 0x3FB8AA3B#32 (((Real.log 2)⁻¹ : ℝ) : EReal) rfl⟩

/-- What the precondition says of one element of the query scales and of the key scales. -/
theorem scales (a0 : Cert.Pre_scales_positive.S4x8.Idx → EReal) (a1 : Cert.Pre_scales_positive.S32.Idx → EReal) (a2 : Cert.Pre_scales_positive.S4x8192x4096.Idx → EReal)
    (a3 : Cert.Pre_scales_positive.S4x64x32x128.Idx → EReal) (a4 : Cert.Pre_scales_positive.S4x8192x1024.Idx → EReal) (a5 : Cert.Pre_scales_positive.S4x8192x8.Idx → EReal)
    (a6 : Cert.Pre_scales_positive.S4x8x128x8192.Idx → EReal)
    (h : (Cert.Pre_scales_positive.fn (F := Ideal) a0 a1 a2 a3 a4 a5 a6).1 = (fun _ => 1#1)
      ∧ (Cert.Pre_scales_positive.fn (F := Ideal) a0 a1 a2 a3 a4 a5 a6).2 = (fun _ => 1#1)) :
    (∀ x, 0 < a3 x) ∧ ∀ x, 0 ≤ a5 x := by
  have hz : Ideal.ofBits .f32 0#32 = 0 := Ideal.ofBits_zero_f32
  refine ⟨fun x => ?_, fun x => ?_⟩
  · have e : BitVec.ofBool (decide (Ideal.ofBits .f32 0#32 < a3 x)) = 1#1 := congrFun h.1 x
    rw [hz] at e
    exact of_decide_eq_true ((Cert.Core.ofBool_one _).1 e)
  · have e : BitVec.ofBool (decide (Ideal.ofBits .f32 0#32 ≤ a5 x)) = 1#1 := congrFun h.2 x
    rw [hz] at e
    exact of_decide_eq_true ((Cert.Core.ofBool_one _).1 e)

/-- The reference's value depends on its arguments alone. -/
theorem val_congr {a0 b0 : Cert.ReferenceIdeal.S4x8.Idx → EReal} {a1 b1 : Cert.ReferenceIdeal.S32.Idx → EReal} {a2 b2 : Cert.ReferenceIdeal.S4x8192x4096.Idx → EReal}
    {a3 b3 : Cert.ReferenceIdeal.S4x64x32x128.Idx → EReal} {a4 b4 : Cert.ReferenceIdeal.S4x8192x1024.Idx → EReal} {a5 b5 : Cert.ReferenceIdeal.S4x8192x8.Idx → EReal}
    {a6 b6 : Cert.ReferenceIdeal.S4x8x128x8192.Idx → EReal} (h0 : a0 = b0) (h1 : a1 = b1) (h2 : a2 = b2) (h3 : a3 = b3) (h4 : a4 = b4) (h5 : a5 = b5) (h6 : a6 = b6) :
    Cert.ReferenceIdeal.Read.val_main_v75 (F := Ideal) a0 a1 a2 a3 a4 a5 a6 = Cert.ReferenceIdeal.Read.val_main_v75 (F := Ideal) b0 b1 b2 b3 b4 b5 b6 := by
  subst h0 h1 h2 h3 h4 h5 h6; rfl

/-- The ideal kernel and the reference end with equal results. -/
theorem algebraic : Cert.algebraic_KernelIdeal_ReferenceIdeal_pre_scales_positive (hKernelIdeal := Cert.KernelIdeal.Gen.facts)
    (hReferenceIdeal := Cert.ReferenceIdeal.Gen.facts) (hPre_scales_positive := Cert.Pre_scales_positive.Gen.facts) := by
  intro m g m' g' hp hm
  refine ⟨fun c => Cert.KernelIdeal.Hand.RES m c, (θ_run _ _ _).mono (fun _ h c => h.1 c) (Cert.KernelIdeal.Hand.run m g), ?_⟩
  refine (θ_run _ _ _).mono (fun _ h c => ⟨(h c).1.trans ?_, (h c).2⟩) (Cert.ReferenceIdeal.Hand.run m' g')
  obtain ⟨e0, e1, e2, e3, e4, e5, e6⟩ := hm c
  obtain ⟨hq, hk⟩ := scales _ _ _ _ _ _ _ (hp c)
  exact (val_congr e0 e1 e2 e3 e4 e5 e6).trans (Cert.KernelIdeal.Hand.eq_all m c hq hk).symm

/-- The certificate's claim. -/
theorem claim : Cert.Claim :=
  ⟨Cert.Kernel.Gen.facts, Cert.KernelIdeal.Gen.facts, Cert.ReferenceIdeal.Gen.facts, Cert.Pre_scales_positive.Gen.facts,
    quiescent_Kernel, quiescent_KernelIdeal, fun m g _ => Cert.KernelIdeal.Hand.frame m g,
    quiescent_ReferenceIdeal, fun m g _ => Cert.ReferenceIdeal.Gen.frame m g, preserves, algebraic⟩

end Cert.Proof

end
